-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary_inputs [hPre_ordinary_inputs : Cert.Pre_ordinary_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary_inputs [hPre_ordinary_inputs : Cert.Pre_ordinary_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ordinary_inputs [hKernelIdeal : Cert.KernelIdeal.Facts] [hPre_ordinary_inputs : Cert.Pre_ordinary_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ordinary_inputs [hReferenceIdeal : Cert.ReferenceIdeal.Facts] [hPre_ordinary_inputs : Cert.Pre_ordinary_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "decay" .f32 0xC138AA3B#32 (((-8) * (Real.log 2)⁻¹ : ℝ) : EReal)
  ∧ IdealRules.named_const.Statement Cert.KernelIdeal.κ "floor" .f32 0x02081CEA#32 ⊥

def algebraic_KernelIdeal_ReferenceIdeal_pre_ordinary_inputs [hKernelIdeal : Cert.KernelIdeal.Facts] [hReferenceIdeal : Cert.ReferenceIdeal.Facts] [hPre_ordinary_inputs : Cert.Pre_ordinary_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ordinary_inputs : Cert.Pre_ordinary_inputs.Facts),
    quiescent_Kernel (hKernel := hKernel)
    ∧ quiescent_KernelIdeal (hKernelIdeal := hKernelIdeal)
    ∧ quiescent_KernelIdeal_pre_ordinary_inputs (hKernelIdeal := hKernelIdeal) (hPre_ordinary_inputs := hPre_ordinary_inputs)
    ∧ quiescent_ReferenceIdeal (hReferenceIdeal := hReferenceIdeal)
    ∧ quiescent_ReferenceIdeal_pre_ordinary_inputs (hReferenceIdeal := hReferenceIdeal) (hPre_ordinary_inputs := hPre_ordinary_inputs)
    ∧ preserves_Kernel_KernelIdeal
    ∧ algebraic_KernelIdeal_ReferenceIdeal_pre_ordinary_inputs (hKernelIdeal := hKernelIdeal) (hReferenceIdeal := hReferenceIdeal) (hPre_ordinary_inputs := hPre_ordinary_inputs)
-- ==== Pre_ordinary_inputs.lean ====
abbrev S8x2048x6144 : Shape := ⟨3, ![8, 2048, 6144]⟩
abbrev S8x6144 : Shape := ⟨2, ![8, 6144]⟩
abbrev S48x128x128 : Shape := ⟨3, ![48, 128, 128]⟩
abbrev S48x128 : Shape := ⟨2, ![48, 128]⟩
abbrev S6144 : Shape := ⟨1, ![6144]⟩
abbrev S_ : Shape := ⟨0, ![]⟩

class Facts : Prop where
  bitsLt_bf16_f32 : FTy.bits .bf16 < FTy.bits .f32
  bcast_S_S8x2048x6144 : S_.BroadcastsInDim S8x2048x6144 (![] : Fin 0 → Fin S8x2048x6144.rank)
  bcast_S_S48x128x128 : S_.BroadcastsInDim S48x128x128 (![] : Fin 0 → Fin S48x128x128.rank)
  bcast_S_S48x128 : S_.BroadcastsInDim S48x128 (![] : Fin 0 → Fin S48x128.rank)

variable [Facts]

def fn_part1 {F : FTy → Type} [FloatOps F] (main_arg5 : FVec F S48x128x128 .f32) (main_arg6 : FVec F S48x128 .f32) (main_arg7 : FVec F S48x128 .f32) (main_v9 : IVec S8x2048x6144 1) (main_v12 : IVec S48x128x128 1) (main_v15 : IVec S48x128 1) (main_v16 : FVec F S48x128 .f32) (main_v17 : FVec F S48x128 .f32) : IVec S8x2048x6144 1 × IVec S48x128x128 1 × IVec S48x128 1 × IVec S48x128 1 × IVec S48x128x128 1 × IVec S48x128 1 × IVec S48x128 1 :=
  let main_v18 : IVec S48x128 1 := cmpf .ole main_v16 main_v17
  let main_v19 : FVec F S48x128x128 .f32 := Host.absf main_arg5
  let main_cst_5 : FVec F S_ .f32 := constant S_ .f32 0x7F7FFFFF#32
  let main_v20 : FVec F S48x128x128 .f32 := broadcastInDim S48x128x128 ![] bcast_S_S48x128x128 main_cst_5
  let main_v21 : IVec S48x128x128 1 := cmpf .ole main_v19 main_v20
  let main_v22 : FVec F S48x128 .f32 := Host.absf main_arg6
  let main_cst_6 : FVec F S_ .f32 := constant S_ .f32 0x7F7FFFFF#32
  let main_v23 : FVec F S48x128 .f32 := broadcastInDim S48x128 ![] bcast_S_S48x128 main_cst_6
  let main_v24 : IVec S48x128 1 := cmpf .ole main_v22 main_v23
  let main_v25 : FVec F S48x128 .f32 := Host.absf main_arg7
  let main_cst_7 : FVec F S_ .f32 := constant S_ .f32 0x7F7FFFFF#32
  let main_v26 : FVec F S48x128 .f32 := broadcastInDim S48x128 ![] bcast_S_S48x128 main_cst_7
  let main_v27 : IVec S48x128 1 := cmpf .ole main_v25 main_v26
  (main_v9, main_v12, main_v15, main_v18, main_v21, main_v24, main_v27)

def fn {F : FTy → Type} [FloatOps F] (main_arg0 : FVec F S8x2048x6144 .bf16) (main_arg1 : FVec F S8x6144 .f32) (main_arg2 : FVec F S48x128x128 .f32) (main_arg3 : FVec F S48x128 .f32) (main_arg4 : FVec F S48x128 .f32) (main_arg5 : FVec F S48x128x128 .f32) (main_arg6 : FVec F S48x128 .f32) (main_arg7 : FVec F S48x128 .f32) (main_arg8 : FVec F S6144 .f32) : IVec S8x2048x6144 1 × IVec S48x128x128 1 × IVec S48x128 1 × IVec S48x128 1 × IVec S48x128x128 1 × IVec S48x128 1 × IVec S48x128 1 :=
  let main_v0 : FVec F S8x2048x6144 .f32 := (extf .f32 · bitsLt_bf16_f32) main_arg0
  let main_v1 : FVec F S8x2048x6144 .f32 := Host.absf main_v0
  let main_cst : FVec F S_ .f32 := constant S_ .f32 0x00000000#32
  let main_v2 : FVec F S8x2048x6144 .f32 := broadcastInDim S8x2048x6144 ![] bcast_S_S8x2048x6144 main_cst
  let main_v3 : IVec S8x2048x6144 1 := cmpf .oeq main_v1 main_v2
  let main_cst_0 : FVec F S_ .f32 := constant S_ .f32 0x04E00000#32
  let main_v4 : FVec F S8x2048x6144 .f32 := broadcastInDim S8x2048x6144 ![] bcast_S_S8x2048x6144 main_cst_0
  let main_v5 : IVec S8x2048x6144 1 := cmpf .oge main_v1 main_v4
  let main_v6 : IVec S8x2048x6144 1 := ori main_v3 main_v5
  let main_cst_1 : FVec F S_ .f32 := constant S_ .f32 0x7F7F0000#32
  let main_v7 : FVec F S8x2048x6144 .f32 := broadcastInDim S8x2048x6144 ![] bcast_S_S8x2048x6144 main_cst_1
  let main_v8 : IVec S8x2048x6144 1 := cmpf .ole main_v1 main_v7
  let main_v9 : IVec S8x2048x6144 1 := andi main_v6 main_v8
  let main_v10 : FVec F S48x128x128 .f32 := Host.absf main_arg2
  let main_cst_2 : FVec F S_ .f32 := constant S_ .f32 0x7F7FFFFF#32
  let main_v11 : FVec F S48x128x128 .f32 := broadcastInDim S48x128x128 ![] bcast_S_S48x128x128 main_cst_2
  let main_v12 : IVec S48x128x128 1 := cmpf .ole main_v10 main_v11
  let main_v13 : FVec F S48x128 .f32 := Host.absf main_arg3
  let main_cst_3 : FVec F S_ .f32 := constant S_ .f32 0x7F7FFFFF#32
  let main_v14 : FVec F S48x128 .f32 := broadcastInDim S48x128 ![] bcast_S_S48x128 main_cst_3
  let main_v15 : IVec S48x128 1 := cmpf .ole main_v13 main_v14
  let main_v16 : FVec F S48x128 .f32 := Host.absf main_arg4
  let main_cst_4 : FVec F S_ .f32 := constant S_ .f32 0x7F7FFFFF#32
  let main_v17 : FVec F S48x128 .f32 := broadcastInDim S48x128 ![] bcast_S_S48x128 main_cst_4
  fn_part1 (F := F) main_arg5 main_arg6 main_arg7 main_v9 main_v12 main_v15 main_v16 main_v17
-- ==== Kernel.lean ====
abbrev S8x2048x6144 : Shape := ⟨3, ![8, 2048, 6144]⟩
abbrev S8x6144 : Shape := ⟨2, ![8, 6144]⟩
abbrev S48x128x128 : Shape := ⟨3, ![48, 128, 128]⟩
abbrev S48x128 : Shape := ⟨2, ![48, 128]⟩
abbrev S6144 : Shape := ⟨1, ![6144]⟩
abbrev S8x48x128 : Shape := ⟨3, ![8, 48, 128]⟩
abbrev S48x8x128 : Shape := ⟨3, ![48, 8, 128]⟩
abbrev S48x1x128 : Shape := ⟨3, ![48, 1, 128]⟩
abbrev S8x2048x48 : Shape := ⟨3, ![8, 2048, 48]⟩
abbrev S8x64x512 : Shape := ⟨3, ![8, 64, 512]⟩
abbrev S8x64x48 : Shape := ⟨3, ![8, 64, 48]⟩
abbrev S48x512x256 : Shape := ⟨3, ![48, 512, 256]⟩
abbrev S4x576x128 : Shape := ⟨3, ![4, 576, 128]⟩
abbrev S8x64x128 : Shape := ⟨3, ![8, 64, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128x256 : Shape := ⟨2, ![128, 256]⟩
abbrev S1x256 : Shape := ⟨2, ![1, 256]⟩
abbrev S512x256 : Shape := ⟨2, ![512, 256]⟩
abbrev S1x512x256 : Shape := ⟨3, ![1, 512, 256]⟩
abbrev S64x128 : Shape := ⟨2, ![64, 128]⟩
abbrev S1x64x128 : Shape := ⟨3, ![1, 64, 128]⟩
abbrev S64 : Shape := ⟨1, ![64]⟩
abbrev S64x1 : Shape := ⟨2, ![64, 1]⟩
abbrev S64x512 : Shape := ⟨2, ![64, 512]⟩
abbrev S64x256 : Shape := ⟨2, ![64, 256]⟩
abbrev S1x8x128 : Shape := ⟨3, ![1, 8, 128]⟩
abbrev S8x128 : Shape := ⟨2, ![8, 128]⟩

abbrev nBuf : Space → Nat
  | .hbm => 24
  | .vmem => 23
  | .smem => 0
  | _ => 0

abbrev bufTy : (tb : Table) → Fin (tcTables nBuf tb) → BufTy
  | .hbm, ⟨0, _⟩ => ⟨S8x2048x6144, .bf16⟩
  | .hbm, ⟨1, _⟩ => ⟨S8x6144, .f32⟩
  | .hbm, ⟨2, _⟩ => ⟨S48x128x128, .f32⟩
  | .hbm, ⟨3, _⟩ => ⟨S48x128, .f32⟩
  | .hbm, ⟨4, _⟩ => ⟨S48x128, .f32⟩
  | .hbm, ⟨5, _⟩ => ⟨S48x128x128, .f32⟩
  | .hbm, ⟨6, _⟩ => ⟨S48x128, .f32⟩
  | .hbm, ⟨7, _⟩ => ⟨S48x128, .f32⟩
  | .hbm, ⟨8, _⟩ => ⟨S6144, .f32⟩
  | .hbm, ⟨9, _⟩ => ⟨S48x128x128, .fp8e4m3⟩
  | .hbm, ⟨10, _⟩ => ⟨S48x128x128, .fp8e4m3⟩
  | .hbm, ⟨11, _⟩ => ⟨S8x48x128, .f32⟩
  | .hbm, ⟨12, _⟩ => ⟨S48x8x128, .f32⟩
  | .hbm, ⟨13, _⟩ => ⟨S48x1x128, .f32⟩
  | .hbm, ⟨14, _⟩ => ⟨S48x1x128, .f32⟩
  | .hbm, ⟨15, _⟩ => ⟨S48x1x128, .f32⟩
  | .hbm, ⟨16, _⟩ => ⟨S48x1x128, .f32⟩
  | .hbm, ⟨17, _⟩ => ⟨S48x1x128, .f32⟩
  | .hbm, ⟨18, _⟩ => ⟨S8x2048x6144, .bf16⟩
  | .hbm, ⟨19, _⟩ => ⟨S48x8x128, .f32⟩
  | .hbm, ⟨20, _⟩ => ⟨S8x2048x6144, .fp8e4m3⟩
  | .hbm, ⟨21, _⟩ => ⟨S8x2048x48, .f32⟩
  | .hbm, ⟨22, _⟩ => ⟨S8x48x128, .f32⟩
  | .hbm, ⟨23, _⟩ => ⟨S8x6144, .f32⟩
  | .local _ .vmem, ⟨0, _⟩ => ⟨S8x64x512, .bf16⟩
  | .local _ .vmem, ⟨1, _⟩ => ⟨S8x64x512, .bf16⟩
  | .local _ .vmem, ⟨2, _⟩ => ⟨S48x8x128, .f32⟩
  | .local _ .vmem, ⟨3, _⟩ => ⟨S48x128x128, .fp8e4m3⟩
  | .local _ .vmem, ⟨4, _⟩ => ⟨S48x1x128, .f32⟩
  | .local _ .vmem, ⟨5, _⟩ => ⟨S48x1x128, .f32⟩
  | .local _ .vmem, ⟨6, _⟩ => ⟨S48x128x128, .fp8e4m3⟩
  | .local _ .vmem, ⟨7, _⟩ => ⟨S48x1x128, .f32⟩
  | .local _ .vmem, ⟨8, _⟩ => ⟨S48x1x128, .f32⟩
  | .local _ .vmem, ⟨9, _⟩ => ⟨S48x1x128, .f32⟩
  | .local _ .vmem, ⟨10, _⟩ => ⟨S8x64x512, .bf16⟩
  | .local _ .vmem, ⟨11, _⟩ => ⟨S8x64x512, .bf16⟩
  | .local _ .vmem, ⟨12, _⟩ => ⟨S48x8x128, .f32⟩
  | .local _ .vmem, ⟨13, _⟩ => ⟨S8x64x512, .fp8e4m3⟩
  | .local _ .vmem, ⟨14, _⟩ => ⟨S8x64x512, .fp8e4m3⟩
  | .local _ .vmem, ⟨15, _⟩ => ⟨S8x64x48, .f32⟩
  | .local _ .vmem, ⟨16, _⟩ => ⟨S8x64x48, .f32⟩
  | .local _ .vmem, ⟨17, _⟩ => ⟨S48x512x256, .bf16⟩
  | .local _ .vmem, ⟨18, _⟩ => ⟨S48x1x128, .f32⟩
  | .local _ .vmem, ⟨19, _⟩ => ⟨S48x8x128, .f32⟩
  | .local _ .vmem, ⟨20, _⟩ => ⟨S4x576x128, .f32⟩
  | .local _ .vmem, ⟨21, _⟩ => ⟨S4x576x128, .f32⟩
  | .local _ .vmem, ⟨22, _⟩ => ⟨S8x64x128, .f32⟩
  | _, _ => ⟨S8x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_3703 : BitVec 32 := 0#32
  let c4_i32_3704 : BitVec 32 := 4#32
  let v5998 : BitVec 32 := Scalar.addi c0_i32_3703 c4_i32_3704
  let c1_i32_3705 : BitVec 32 := 1#32
  ⟨c0_i32_3703, v5998, c1_i32_3705⟩
def k0_off1 (i : grid0.Coords) (k0_t1 : Fin k0_t1_loop.trips) : Fin 3 → Nat :=
  let arg1 : BitVec 32 := BitVec.ofNat 32 (i 1).val
  let c4_i32_3707 : BitVec 32 := 4#32
  let v5999 : BitVec 32 := Scalar.muli arg1 c4_i32_3707
  let c0_i32_3703 : BitVec 32 := 0#32
  let c1_i32_3705 : BitVec 32 := 1#32
  let arg21 : BitVec 32 := Scf.iv c0_i32_3703 c1_i32_3705 k0_t1
  let v6000 : BitVec 32 := Scalar.addi v5999 arg21
  let v6001 : Index := Scalar.indexCast v6000
  let c0_3708 : Index := 0#32
  let c0_3709 : Index := 0#32
  ![v6001.toNat, 0, 0]
def k0_off2 (i : grid0.Coords) (k0_t1 : Fin k0_t1_loop.trips) : Fin 3 → Nat :=
  let arg1 : BitVec 32 := BitVec.ofNat 32 (i 1).val
  let c4_i32_3707 : BitVec 32 := 4#32
  let v5999 : BitVec 32 := Scalar.muli arg1 c4_i32_3707
  let c0_i32_3703 : BitVec 32 := 0#32
  let c1_i32_3705 : BitVec 32 := 1#32
  let arg21 : BitVec 32 := Scf.iv c0_i32_3703 c1_i32_3705 k0_t1
  let v6000 : BitVec 32 := Scalar.addi v5999 arg21
  let v6007 : Index := Scalar.indexCast v6000
  let c0_3712 : Index := 0#32
  let c0_3713 : Index := 0#32
  ![v6007.toNat, 0, 0]
def k0_off3 (i : grid0.Coords) (k0_t1 : Fin k0_t1_loop.trips) : Fin 3 → Nat :=
  let arg1 : BitVec 32 := BitVec.ofNat 32 (i 1).val
  let c4_i32_3707 : BitVec 32 := 4#32
  let v5999 : BitVec 32 := Scalar.muli arg1 c4_i32_3707
  let c0_i32_3703 : BitVec 32 := 0#32
  let c1_i32_3705 : BitVec 32 := 1#32
  let arg21 : BitVec 32 := Scf.iv c0_i32_3703 c1_i32_3705 k0_t1
  let v6000 : BitVec 32 := Scalar.addi v5999 arg21
  let v6063 : Index := Scalar.indexCast v6000
  let c0_3724 : Index := 0#32
  let c0_3725 : Index := 0#32
  ![v6063.toNat, 0, 0]
def k0_off4 (i : grid0.Coords) (c0_i32_4 : BitVec 32) : Fin 3 → Nat :=
  let arg1 : BitVec 32 := BitVec.ofNat 32 (i 1).val
  let c4_i32 : BitVec 32 := 4#32
  let v10 : BitVec 32 := Scalar.muli arg1 c4_i32
  let v11 : BitVec 32 := Scalar.addi v10 c0_i32_4
  let v12 : Index := Scalar.indexCast v11
  let c0 : Index := 0#32
  let c0_5 : Index := 0#32
  ![v12.toNat, 0, 0]
def k0_off5 (i : grid0.Coords) (c0_i32_4 : BitVec 32) : Fin 3 → Nat :=
  let arg1 : BitVec 32 := BitVec.ofNat 32 (i 1).val
  let c4_i32 : BitVec 32 := 4#32
  let v10 : BitVec 32 := Scalar.muli arg1 c4_i32
  let v11 : BitVec 32 := Scalar.addi v10 c0_i32_4
  let v15 : Index := Scalar.indexCast v11
  let c0_6 : Index := 0#32
  let c0_7 : Index := 0#32
  ![v15.toNat, 0, 0]
def k0_off6 (i : grid0.Coords) (c0_i32_4 : BitVec 32) : Fin 3 → Nat :=
  let arg1 : BitVec 32 := BitVec.ofNat 32 (i 1).val
  let c4_i32 : BitVec 32 := 4#32
  let v10 : BitVec 32 := Scalar.muli arg1 c4_i32
  let v11 : BitVec 32 := Scalar.addi v10 c0_i32_4
  let v874 : Index := Scalar.indexCast v11
  let c0_303 : Index := 0#32
  let c0_304 : Index := 0#32
  ![v874.toNat, 0, 0]
def k0_cond4 (i : grid0.Coords) : BitVec 1 :=
  let arg0 : BitVec 32 := BitVec.ofNat 32 (i 0).val
  let c31_i32 : BitVec 32 := 31#32
  let v5993 : BitVec 1 := Scalar.cmpi .eq arg0 c31_i32
  let arg1 : BitVec 32 := BitVec.ofNat 32 (i 1).val
  let c11_i32_3701 : BitVec 32 := 11#32
  let v5994 : BitVec 1 := Scalar.cmpi .eq arg1 c11_i32_3701
  let v5995 : BitVec 1 := Scalar.andi v5993 v5994
  let v5996 : BitVec 32 := Scalar.extui v5995
  let c0_i32_3702 : BitVec 32 := 0#32
  let v5997 : BitVec 1 := Scalar.cmpi .ne v5996 c0_i32_3702
  v5997

def k0_cond3 (i : grid0.Coords) : BitVec 1 :=
  let arg1 : BitVec 32 := BitVec.ofNat 32 (i 1).val
  let c11_i32 : BitVec 32 := 11#32
  let v5990 : BitVec 1 := Scalar.cmpi .eq arg1 c11_i32
  let v5991 : BitVec 32 := Scalar.extui v5990
  let c0_i32_3700 : BitVec 32 := 0#32
  let v5992 : BitVec 1 := Scalar.cmpi .ne v5991 c0_i32_3700
  v5992

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S48x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S48x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S48x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S48x128x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S48x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S48x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S48x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S48x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x64x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x48 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "decay" => some (((-8) * (Real.log 2)⁻¹ : ℝ) : EReal)
  | "floor" => some ⊥
  | _ => none
-- ==== ReferenceIdeal.lean ====
abbrev S8x2048x6144 : Shape := ⟨3, ![8, 2048, 6144]⟩
abbrev S8x6144 : Shape := ⟨2, ![8, 6144]⟩
abbrev S48x128x128 : Shape := ⟨3, ![48, 128, 128]⟩
abbrev S48x128 : Shape := ⟨2, ![48, 128]⟩
abbrev S6144 : Shape := ⟨1, ![6144]⟩
abbrev S8x2048x48 : Shape := ⟨3, ![8, 2048, 48]⟩
abbrev S8x2048x48x128 : Shape := ⟨4, ![8, 2048, 48, 128]⟩
abbrev S8x2048x48x1 : Shape := ⟨4, ![8, 2048, 48, 1]⟩
abbrev S48x128x8x2048 : Shape := ⟨4, ![48, 128, 8, 2048]⟩
abbrev S1x1x48x128 : Shape := ⟨4, ![1, 1, 48, 128]⟩
abbrev S1x1x6144 : Shape := ⟨3, ![1, 1, 6144]⟩
abbrev S8x1x6144 : Shape := ⟨3, ![8, 1, 6144]⟩

abbrev nBuf : Space → Nat
  | .hbm => 15
  | .vmem => 16
  | .smem => 0
  | _ => 0

abbrev bufTy : (tb : Table) → Fin (tcTables nBuf tb) → BufTy
  | .hbm, ⟨0, _⟩ => ⟨S8x2048x6144, .bf16⟩
  | .hbm, ⟨1, _⟩ => ⟨S8x6144, .f32⟩
  | .hbm, ⟨2, _⟩ => ⟨S48x128x128, .f32⟩
  | .hbm, ⟨3, _⟩ => ⟨S48x128, .f32⟩
  | .hbm, ⟨4, _⟩ => ⟨S48x128, .f32⟩
  | .hbm, ⟨5, _⟩ => ⟨S48x128x128, .f32⟩
  | .hbm, ⟨6, _⟩ => ⟨S48x128, .f32⟩
  | .hbm, ⟨7, _⟩ => ⟨S48x128, .f32⟩
  | .hbm, ⟨8, _⟩ => ⟨S6144, .f32⟩
  | .hbm, ⟨9, _⟩ => ⟨S48x128x128, .fp8e4m3⟩
  | .hbm, ⟨10, _⟩ => ⟨S48x128x128, .fp8e4m3⟩
  | .hbm, ⟨11, _⟩ => ⟨S8x2048x6144, .bf16⟩
  | .hbm, ⟨12, _⟩ => ⟨S8x6144, .f32⟩
  | .hbm, ⟨13, _⟩ => ⟨S8x2048x6144, .fp8e4m3⟩
  | .hbm, ⟨14, _⟩ => ⟨S8x2048x48, .f32⟩
  | .local _ .vmem, ⟨0, _⟩ => ⟨S8x2048x6144, .bf16⟩
  | .local _ .vmem, ⟨1, _⟩ => ⟨S8x6144, .f32⟩
  | .local _ .vmem, ⟨2, _⟩ => ⟨S48x128x128, .fp8e4m3⟩
  | .local _ .vmem, ⟨3, _⟩ => ⟨S48x128, .f32⟩
  | .local _ .vmem, ⟨4, _⟩ => ⟨S48x128, .f32⟩
  | .local _ .vmem, ⟨5, _⟩ => ⟨S48x128x128, .fp8e4m3⟩
  | .local _ .vmem, ⟨6, _⟩ => ⟨S48x128, .f32⟩
  | .local _ .vmem, ⟨7, _⟩ => ⟨S48x128, .f32⟩
  | .local _ .vmem, ⟨8, _⟩ => ⟨S6144, .f32⟩
  | .local _ .vmem, ⟨9, _⟩ => ⟨S8x2048x6144, .bf16⟩
  | .local _ .vmem, ⟨10, _⟩ => ⟨S8x6144, .f32⟩
  | .local _ .vmem, ⟨11, _⟩ => ⟨S8x2048x6144, .fp8e4m3⟩
  | .local _ .vmem, ⟨12, _⟩ => ⟨S8x2048x48, .f32⟩
  | .local _ .vmem, ⟨13, _⟩ => ⟨S8x2048x6144, .f32⟩
  | .local _ .vmem, ⟨14, _⟩ => ⟨S8x2048x6144, .f32⟩
  | .local _ .vmem, ⟨15, _⟩ => ⟨S8x2048x6144, .f32⟩
  | _, _ => ⟨S8x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v115 : BitVec 32 := Scalar.addi c0_i32 c2048_i32
  let c1_i32 : BitVec 32 := 1#32
  ⟨c0_i32, v115, c1_i32⟩
def k0_off1 (k0_t1 : Fin k0_t1_loop.trips) : Fin 3 → Nat :=
  let c0_61 : Index := 0#32
  let c0_i32 : BitVec 32 := 0#32
  let c1_i32 : BitVec 32 := 1#32
  let arg16 : BitVec 32 := Scf.iv c0_i32 c1_i32 k0_t1
  let v121 : Index := Scalar.indexCast arg16
  let c0_62 : Index := 0#32
  ![0, v121.toNat, 0]
abbrev stage0_0 : Fin 1 → Memref sig .tc .vmem S8x2048x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x128x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048x6144 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x2048x6144 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x2048x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Body.lean ====
module

public import proofs.«01_k».proof.Proof.Gen.Kernel

@[expose] public section
set_option maxRecDepth 16384
set_option synthInstance.maxSize 4096
noncomputable section
namespace Cert.Kernel.Own
open Idealize.ShloMosaic Idealize.SL.Sem
open Idealize.ShloMosaic.TcCoe
open Cert.Kernel.Facts₀ Cert.Kernel.Facts

variable {F : FTy → Type} [FloatOps F]

/-- The nineteen buffers one point of the grid works on, each a whole memory reference. -/
structure Args where
  arg2 : Memref sig .tc .vmem S8x64x512 .bf16
  harg2 : arg2.IsWhole
  arg3 : Memref sig .tc .vmem S48x8x128 .f32
  harg3 : arg3.IsWhole
  arg4 : Memref sig .tc .vmem S48x128x128 .fp8e4m3
  harg4 : arg4.IsWhole
  arg5 : Memref sig .tc .vmem S48x1x128 .f32
  harg5 : arg5.IsWhole
  arg6 : Memref sig .tc .vmem S48x1x128 .f32
  harg6 : arg6.IsWhole
  arg7 : Memref sig .tc .vmem S48x128x128 .fp8e4m3
  harg7 : arg7.IsWhole
  arg8 : Memref sig .tc .vmem S48x1x128 .f32
  harg8 : arg8.IsWhole
  arg9 : Memref sig .tc .vmem S48x1x128 .f32
  harg9 : arg9.IsWhole
  arg10 : Memref sig .tc .vmem S48x1x128 .f32
  harg10 : arg10.IsWhole
  arg11 : Memref sig .tc .vmem S8x64x512 .bf16
  harg11 : arg11.IsWhole
  arg12 : Memref sig .tc .vmem S48x8x128 .f32
  harg12 : arg12.IsWhole
  arg13 : Memref sig .tc .vmem S8x64x512 .fp8e4m3
  harg13 : arg13.IsWhole
  arg14 : Memref sig .tc .vmem S8x64x48 .f32
  harg14 : arg14.IsWhole
  arg15 : Memref sig .tc .vmem S48x512x256 .bf16
  harg15 : arg15.IsWhole
  arg16 : Memref sig .tc .vmem S48x1x128 .f32
  harg16 : arg16.IsWhole
  arg17 : Memref sig .tc .vmem S48x8x128 .f32
  harg17 : arg17.IsWhole
  arg18 : Memref sig .tc .vmem S4x576x128 .f32
  harg18 : arg18.IsWhole
  arg19 : Memref sig .tc .vmem S4x576x128 .f32
  harg19 : arg19.IsWhole
  arg20 : Memref sig .tc .vmem S8x64x128 .f32
  harg20 : arg20.IsWhole

/-- The kernel's body over a bundle of buffers. -/
abbrev Args.run (A : Args) (i : grid0.Coords) : Prog (TpuEff nD τ sig (Elt F) Λ₀ .tc) PUnit :=
  cc0_rglru i A.arg2 A.harg2 A.arg3 A.harg3 A.arg4 A.harg4 A.arg5 A.harg5 A.arg6 A.harg6 A.arg7 A.harg7
    A.arg8 A.harg8 A.arg9 A.harg9 A.arg10 A.harg10 A.arg11 A.harg11 A.arg12 A.harg12 A.arg13 A.harg13
    A.arg14 A.harg14 A.arg15 A.harg15 A.arg16 A.harg16 A.arg17 A.harg17 A.arg18 A.harg18 A.arg19 A.harg19
    A.arg20 A.harg20

theorem inbX : ∀ (j : Fin 4) (b : Fin 8) (a : Fin 3),
    (![b.val, 0, 128 * j.val] : Fin 3 → Nat) a + S1x64x128.size a ≤ S8x64x512.size a := by decide
theorem inbS : ∀ (b : Fin 8) (a : Fin 3),
    (![b.val, 0, 0] : Fin 3 → Nat) a + S1x64x128.size a ≤ S8x64x128.size a := by decide
theorem inbT : ∀ (j : Fin 4) (b : Fin 8) (a : Fin 3), S1x64x128.size a = 0 ∨
    (![j.val, b.val, 0] : Fin 3 → Nat) a + (![1, 9, 1] : Fin 3 → Nat) a * (S1x64x128.size a - 1) < S4x576x128.size a := by
  decide
theorem inbR (j : Fin 4) (s : Fin 64) (a : Fin 3) :
    (![j.val, 9 * s.val, 0] : Fin 3 → Nat) a + S1x8x128.size a ≤ S4x576x128.size a := by
  revert a; revert s; revert j; decide

/-- The rows of batch `b` in the columns of the step's head `j`. -/
abbrev rX (j : Fin 4) (b : Fin 8) : Rect S8x64x512 :=
  Rect.unit (s := S8x64x512) ![b.val, 0, 128 * j.val] S1x64x128.size (inbX j b)
/-- The rows of batch `b`. -/
abbrev rS (b : Fin 8) : Rect S8x64x128 := Rect.unit (s := S8x64x128) ![b.val, 0, 0] S1x64x128.size (inbS b)
/-- Every ninth row from row `b` on, of head `j`. -/
abbrev lT (j : Fin 4) (b : Fin 8) : LoadRect S4x576x128 := ⟨![j.val, b.val, 0], S1x64x128.size, ![1, 9, 1], inbT j b⟩
abbrev rT (j : Fin 4) (b : Fin 8) : Rect S4x576x128 := ⟨lT j b, spos_1_9_1⟩
/-- The eight rows of time `s`, of head `j`. -/
abbrev rR (j : Fin 4) (s : Fin 64) : Rect S4x576x128 :=
  Rect.unit (s := S4x576x128) ![j.val, 9 * s.val, 0] S1x8x128.size (inbR j s)
abbrev rK (i : grid0.Coords) (j : Fin 4) : Rect S48x1x128 :=
  Rect.unit (s := S48x1x128) (k0_off4 i (BitVec.ofNat 32 j.val)) S1x1x128.size (k0_off4_inb i j)
abbrev rW (i : grid0.Coords) (j : Fin 4) : Rect S48x512x256 :=
  Rect.unit (s := S48x512x256) (k0_off5 i (BitVec.ofNat 32 j.val)) S1x512x256.size (k0_off5_inb i j)
abbrev rH (i : grid0.Coords) (j : Fin 4) : Rect S48x8x128 :=
  Rect.unit (s := S48x8x128) (k0_off6 i (BitVec.ofNat 32 j.val)) S1x8x128.size (k0_off6_inb i j)

theorem packed8 : ∀ (j : Fin 4) (b : Fin 8), (rX j b).PackedRows (EltTy.packing .fp8e4m3) := by decide
theorem packed16 : ∀ (j : Fin 4) (b : Fin 8), (rX j b).PackedRows (EltTy.packing .bf16) := by decide

/-! ## The values the body computes -/

/-- One step of the search for the exponent field: keep the bit if the number it makes is still at most `p`. -/
def bit (c : BitVec 32) (p : FVec F S64x128 .f32) (e : IVec S64x128 32) : IVec S64x128 32 :=
  select (cmpf .oge p (bitcastToFloat .f32 (ori e (broadcast S64x128 c)))) (ori e (broadcast S64x128 c)) e

/-- The exponent field of `p`, one bit at a time from the top. -/
def field (p : FVec F S64x128 .f32) : IVec S64x128 32 :=
  bit 8388608#32 p (bit 16777216#32 p (bit 33554432#32 p (bit 67108864#32 p (bit 134217728#32 p
    (bit 268435456#32 p (bit 536870912#32 p (bit 1073741824#32 p (broadcast S64x128 0#32))))))))

/-- A row's largest magnitude over 448, repeated along the row. -/
def rowMax (x : FVec F S64x128 .f32) : FVec F S64x128 .f32 :=
  broadcastTo S64x128 (shapeCast S64x1 (mulf (shapeCast S64x1 (multiReduction .maximumf [1] S64 (absf x) 0xFF800000#32
    reduces_S64x128_S64 (.inl rfl) rfl) shapeCasts_S64_S64x1) (broadcast S64x1 (Scalar.ofBits .f32 0x3B124925#32)))
    shapeCasts_S64x1_S64x1) broadcasts_S64x1_S64x128

/-- The scale with the given exponent field. -/
def scaleOf (e : IVec S64x128 32) : FVec F S64x128 .f32 :=
  bitcastToFloat .f32 (select (cmpi .sgt e (broadcast S64x128 0#32)) (addi e (broadcast S64x128 8388608#32))
    (broadcast S64x128 1065353216#32))

/-- Its reciprocal. -/
def invOf (e : IVec S64x128 32) : FVec F S64x128 .f32 :=
  bitcastToFloat .f32 (select (cmpi .sgt e (broadcast S64x128 0#32)) (subi (broadcast S64x128 2122317824#32) e)
    (broadcast S64x128 1065353216#32))

/-- The codes: scaled, clipped to ±448 and rounded to 8 bits. -/
def codesOf (x inv : FVec F S64x128 .f32) : FVec F S64x128 .fp8e4m3 :=
  truncf .fp8e4m3 (minimumf (broadcast S64x128 (Scalar.ofBits .f32 0x43E00000#32))
    (maximumf (broadcast S64x128 (Scalar.ofBits .f32 0xC3E00000#32)) (mulf x inv))) bitsLt_fp8e4m3_f32

/-- The row of ones the bias rows of the prepared weights meet. -/
def ones : FVec F S64x128 .bf16 := broadcast S64x128 (Scalar.ofBits .bf16 0x3F80#16)

/-- Both gates' arguments: the codes times their scale, three times over, and a row of ones, against the prepared weights. -/
def gates (c : FVec F S64x128 .fp8e4m3) (sc : FVec F S64x128 .f32) (one : FVec F S64x128 .bf16) (w : FVec F S512x256 .bf16) :
    FVec F S64x256 .f32 :=
  matmul dot_S64x512_S512x256_S64x256_1_0_0_1_n_n none
    (concatenate S64x512 1 [⟨S64x128, mulf (extf .bf16 c bitsLt_fp8e4m3_bf16) (truncf .bf16 sc bitsLt_bf16_f32)⟩,
      ⟨S64x128, mulf (extf .bf16 c bitsLt_fp8e4m3_bf16) (truncf .bf16 sc bitsLt_bf16_f32)⟩,
      ⟨S64x128, mulf (extf .bf16 c bitsLt_fp8e4m3_bf16) (truncf .bf16 sc bitsLt_bf16_f32)⟩, ⟨S64x128, one⟩]
      concatenates_S64x128_S64x128_S64x128_S64x128_S64x512_d1) w (constant S64x256 .f32 0x00000000#32)

/-- The decay of the state. -/
def decay (g : FVec F S64x256 .f32) (k : FVec F S1x128 .f32) : FVec F S64x128 .f32 :=
  exp2 (mulf (logistic (extractStridedSlice S64x128 ![0, 0] g slices_S64x256_o0_0_S64x128))
    (broadcastTo S64x128 k broadcasts_S1x128_S64x128))

/-- One less the square of the decay, kept above the floor. -/
def room (a : FVec F S64x128 .f32) : FVec F S64x128 .f32 :=
  maximumf (subf (broadcast S64x128 (Scalar.ofBits .f32 0x3F800000#32)) (mulf a a))
    (broadcast S64x128 (Scalar.ofBits .f32 0x02081CEA#32))

/-- The gated input of the state. -/
def drive (g : FVec F S64x256 .f32) (a x : FVec F S64x128 .f32) : FVec F S64x128 .f32 :=
  mulf (mulf (room a) (rsqrt (room a)))
    (mulf (logistic (extractStridedSlice S64x128 ![0, 128] g slices_S64x256_o0_128_S64x128)) x)

/-- The state after one time step. -/
def advance (a : Vec F S1x8x128 .f32) (h : FVec F S8x128 .f32) (u : Vec F S1x8x128 .f32) : FVec F S8x128 .f32 :=
  addf (mulf (shapeCast S8x128 a shapeCasts_S1x8x128_S8x128) h) (shapeCast S8x128 u shapeCasts_S1x8x128_S8x128)

/-- The rates from `lam`: minus the softplus of minus `lam`, times eight over the logarithm of two. -/
def rates (l : Vec F S48x1x128 .f32) : FVec F S48x1x128 .f32 :=
  shapeCast S48x1x128 (mulf (addf (maximumf (subf (broadcast S48x1x128 (Scalar.ofBits .f32 0x00000000#32))
      (shapeCast S48x1x128 l shapeCasts_S48x1x128_S48x1x128)) (broadcast S48x1x128 (Scalar.ofBits .f32 0x00000000#32)))
    (log1p (exp (subf (broadcast S48x1x128 (Scalar.ofBits .f32 0x00000000#32))
      (absf (shapeCast S48x1x128 l shapeCasts_S48x1x128_S48x1x128))))))
    (broadcast S48x1x128 (Scalar.ofBits .f32 0xC138AA3B#32))) shapeCasts_S48x1x128_S48x1x128

/-- What the kernel's text spells at a load of batch `b`'s rows. -/
abbrev xOf (v : Vec F S1x64x128 .bf16) : FVec F S64x128 .f32 :=
  extf .f32 (shapeCast S64x128 v shapeCasts_S1x64x128_S64x128) bitsLt_bf16_f32

/-! ## The body as one program -/

abbrev P (F : FTy → Type) [FloatOps F] := Prog (TpuEff nD τ sig (Elt F) Λ₀ .tc) PUnit

/-- Run `f` for `0 … n-1` on a value passed along, then `k`. -/
def upto {N : ℕ} {α : Type} {β : Type 1} (f : Fin N → α → (α → β) → β) : (n : ℕ) → n ≤ N → α → (α → β) → β
  | 0, _, a, k => k a
  | n + 1, h, a, k => upto f n (Nat.le_of_succ_le h) a (fun a' => f ⟨n, h⟩ a' k)

variable (A : Args) (i : grid0.Coords)

/-- Batch `b` of head `j`: quantise, the gates, and the two operands of the recurrence. -/
def unitP (v8 : FVec F S64x128 .bf16) (v9 : IVec S64x128 32) (v11 : BitVec 32) (v14 : FVec F S1x128 .f32) (v17 : FVec F S512x256 .bf16)
    (j : Fin 4) (b : Fin 8) (_ : PUnit.{1}) (k : PUnit.{1} → P F) : P F :=
  .op (.load A.arg2 (rX j b).toLoadRect (View.loadsAt_vmem h_S1x64x128)) fun v18 =>
  .op (.load A.arg13 (rX j b).toLoadRect (View.loadsAt_vmem h_S1x64x128)) fun _ =>
  .op (.store A.arg13 (rX j b) (shapeCast S1x64x128 (codesOf (xOf v18) (invOf (field (rowMax (xOf v18))))) shapeCasts_S64x128_S1x64x128)
    Finset.univ (View.stores_vmem h_S1x64x128 (A.harg13.storeExact_slice rfl _ (packed8 j b)) (fun _ => rfl)) (.inl rfl)) fun _ =>
  .op (.load A.arg20 (rS b).toLoadRect (View.loadsAt_vmem h_S1x64x128)) fun v92 =>
  .op (.load A.arg20 (rS b).toLoadRect (View.loadsAt_vmem h_S1x64x128)) fun _ =>
  .op (.store A.arg20 (rS b) (shapeCast S1x64x128 (select (cmpi .eq v9 (broadcast S64x128 v11)) (scaleOf (field (rowMax (xOf v18))))
      (shapeCast S64x128 v92 shapeCasts_S1x64x128_S64x128)) shapeCasts_S64x128_S1x64x128)
    Finset.univ (View.stores_vmem_bits_univ h_S1x64x128 rfl) (.inl rfl)) fun _ =>
  .op (.load A.arg18 (lT j b) (View.loadsAt_vmem h_S1x64x128)) fun _ =>
  .op (.store A.arg18 (rT j b) (shapeCast S1x64x128 (decay (gates (codesOf (xOf v18) (invOf (field (rowMax (xOf v18)))))
      (scaleOf (field (rowMax (xOf v18)))) v8 v17) v14) shapeCasts_S64x128_S1x64x128)
    Finset.univ (View.stores_vmem_bits_univ h_S1x64x128 rfl) (.inl rfl)) fun _ =>
  .op (.load A.arg19 (lT j b) (View.loadsAt_vmem h_S1x64x128)) fun _ =>
  .op (.store A.arg19 (rT j b) (shapeCast S1x64x128 (drive (gates (codesOf (xOf v18) (invOf (field (rowMax (xOf v18)))))
      (scaleOf (field (rowMax (xOf v18)))) v8 v17) (decay (gates (codesOf (xOf v18) (invOf (field (rowMax (xOf v18)))))
      (scaleOf (field (rowMax (xOf v18)))) v8 v17) v14) (xOf v18)) shapeCasts_S64x128_S1x64x128)
    Finset.univ (View.stores_vmem_bits_univ h_S1x64x128 rfl) (.inl rfl)) k

/-- Time step `s` of head `j`: advance the state and leave it where its input was. -/
def stepP (j : Fin 4) (s : Fin 64) (h : FVec F S8x128 .f32) (k : FVec F S8x128 .f32 → P F) : P F :=
  .op (.load A.arg18 (rR j s).toLoadRect (View.loadsAt_vmem h_S1x8x128)) fun va =>
  .op (.load A.arg19 (rR j s).toLoadRect (View.loadsAt_vmem h_S1x8x128)) fun vu =>
  .op (.load A.arg19 (rR j s).toLoadRect (View.loadsAt_vmem h_S1x8x128)) fun _ =>
  .op (.store A.arg19 (rR j s) (shapeCast S1x8x128 (advance va h vu) shapeCasts_S8x128_S1x8x128)
    Finset.univ (View.stores_vmem_bits_univ h_S1x8x128 rfl) (.inl rfl)) fun _ => k (advance va h vu)

/-- The states of batch `b` of head `j`, written out. -/
def outP (j : Fin 4) (b : Fin 8) (_ : PUnit.{1}) (k : PUnit.{1} → P F) : P F :=
  .op (.load A.arg19 (lT j b) (View.loadsAt_vmem h_S1x64x128)) fun v =>
  .op (.load A.arg11 (rX j b).toLoadRect (View.loadsAt_vmem h_S1x64x128)) fun _ =>
  .op (.store A.arg11 (rX j b) (shapeCast S1x64x128 (truncf .bf16 (shapeCast S64x128 v shapeCasts_S1x64x128_S64x128) bitsLt_bf16_f32)
      shapeCasts_S64x128_S1x64x128)
    Finset.univ (View.stores_vmem h_S1x64x128 (A.harg11.storeExact_slice rfl _ (packed16 j b)) (fun _ => rfl)) (.inl rfl)) k

/-- The number of head `j` of the step. -/
abbrev headNo (j : Fin 4) : BitVec 32 :=
  Scalar.addi (Scalar.muli (BitVec.ofNat 32 (i 1).val) 4#32) (BitVec.ofNat 32 j.val)

/-- Head `j` of the step. -/
def headP (j : Fin 4) (u : PUnit.{1}) (k : PUnit.{1} → P F) : P F :=
  .op (.load A.arg16 (rK i j).toLoadRect (View.loadsAt_vmem h_S1x1x128)) fun v13 =>
  .op (.load A.arg15 (rW i j).toLoadRect (View.loadsAt_vmem h_S1x512x256)) fun v16 =>
  upto (unitP A ones (iota .tc S64x128 32 [1] iota_S64x128_d1_w32) (headNo i j)
    (shapeCast S1x128 v13 shapeCasts_S1x1x128_S1x128) (shapeCast S512x256 v16 shapeCasts_S1x512x256_S512x256) j) 8 le_rfl (⟨⟩ : PUnit.{1}) fun _ =>
  .op (.load A.arg17 (rH i j).toLoadRect (View.loadsAt_vmem h_S1x8x128)) fun v875 =>
  upto (stepP A j) 64 le_rfl (shapeCast S8x128 v875 shapeCasts_S1x8x128_S8x128) fun h =>
  .op (.load A.arg17 (rH i j).toLoadRect (View.loadsAt_vmem h_S1x8x128)) fun _ =>
  .op (.store A.arg17 (rH i j) (shapeCast S1x8x128 h shapeCasts_S8x128_S1x8x128)
    Finset.univ (View.stores_vmem_bits_univ h_S1x8x128 rfl) (.inl rfl)) fun _ =>
  upto (outP A j) 8 le_rfl (⟨⟩ : PUnit.{1}) k

/-- The condition of the first point of the grid. -/
abbrev cond1 : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- On the first point: the rates, the first states, and no scales yet. -/
def startP : P F :=
  if h1 : cond1 i = 1#1 then
  .op (.load A.arg10 (Rect.unit (s := S48x1x128) ![0, 0, 0] S48x1x128.size inb_S48x1x128_S48x1x128_0_0_0).toLoadRect (View.loadsAt_vmem h_S48x1x128)) fun v5998 =>
  .op (.load A.arg16 (Rect.unit (s := S48x1x128) ![0, 0, 0] S48x1x128.size inb_S48x1x128_S48x1x128_0_0_0).toLoadRect (View.loadsAt_vmem h_S48x1x128)) fun _ =>
  .op (.store A.arg16 (Rect.unit (s := S48x1x128) ![0, 0, 0] S48x1x128.size inb_S48x1x128_S48x1x128_0_0_0) (rates v5998)
    Finset.univ (View.stores_vmem_bits_univ h_S48x1x128 rfl) (.inl rfl)) fun _ =>
  .op (.load A.arg3 (Rect.unit (s := S48x8x128) ![0, 0, 0] S48x8x128.size inb_S48x8x128_S48x8x128_0_0_0).toLoadRect (View.loadsAt_vmem h_S48x8x128)) fun v6015 =>
  .op (.load A.arg17 (Rect.unit (s := S48x8x128) ![0, 0, 0] S48x8x128.size inb_S48x8x128_S48x8x128_0_0_0).toLoadRect (View.loadsAt_vmem h_S48x8x128)) fun _ =>
  .op (.store A.arg17 (Rect.unit (s := S48x8x128) ![0, 0, 0] S48x8x128.size inb_S48x8x128_S48x8x128_0_0_0)
    (shapeCast S48x8x128 (shapeCast S48x8x128 v6015 shapeCasts_S48x8x128_S48x8x128) shapeCasts_S48x8x128_S48x8x128)
    Finset.univ (View.stores_vmem_bits_univ h_S48x8x128 rfl) (.inl rfl)) fun _ =>
  .op (.load A.arg20 (Rect.unit (s := S8x64x128) ![0, 0, 0] S8x64x128.size inb_S8x64x128_S8x64x128_0_0_0).toLoadRect (View.loadsAt_vmem h_S8x64x128)) fun _ =>
  .op (.store A.arg20 (Rect.unit (s := S8x64x128) ![0, 0, 0] S8x64x128.size inb_S8x64x128_S8x64x128_0_0_0)
    (shapeCast S8x64x128 (broadcast S8x64x128 (Scalar.ofBits .f32 0x00000000#32)) shapeCasts_S8x64x128_S8x64x128)
    Finset.univ (View.stores_vmem_bits_univ h_S8x64x128 rfl) (.inl rfl)) fun _ => .ret ⟨⟩
  else .ret ⟨⟩

/-- The first part of a gate's prepared weights, in three halves of the format's precision. -/
def wide (wa wx : Vec F S1x128x128 .fp8e4m3) (sa sx : Vec F S1x1x128 .f32) : FVec F S128x256 .f32 :=
  concatenate S128x256 1 [⟨S128x128, mulf (extf .f32 (shapeCast S128x128 wa shapeCasts_S1x128x128_S128x128) bitsLt_fp8e4m3_f32)
      (broadcastTo S128x128 (shapeCast S1x128 sa shapeCasts_S1x1x128_S1x128) broadcasts_S1x128_S128x128)⟩,
    ⟨S128x128, mulf (extf .f32 (shapeCast S128x128 wx shapeCasts_S1x128x128_S128x128) bitsLt_fp8e4m3_f32)
      (broadcastTo S128x128 (shapeCast S1x128 sx shapeCasts_S1x1x128_S1x128) broadcasts_S1x128_S128x128)⟩]
    concatenates_S128x128_S128x128_S128x256_d1

/-- A number less its rounding to 16 bits. -/
def left (w : FVec F S128x256 .f32) : FVec F S128x256 .f32 := subf w (extf .f32 (truncf .bf16 w bitsLt_bf16_f32) bitsLt_bf16_f32)
def leftRow (w : FVec F S1x256 .f32) : FVec F S1x256 .f32 := subf w (extf .f32 (truncf .bf16 w bitsLt_bf16_f32) bitsLt_bf16_f32)

/-- Put a row's rounding into row `r` of a block. -/
def rowInto (r : BitVec 32) (b : FVec F S1x256 .f32) (z : FVec F S128x256 .f32) : FVec F S128x256 .f32 :=
  select (cmpi .eq (iota .tc S128x256 32 [0] iota_S128x256_d0_w32) (broadcast S128x256 r))
    (broadcastTo S128x256 (shapeCast S1x256 (extf .f32 (truncf .bf16 b bitsLt_bf16_f32) bitsLt_bf16_f32) shapeCasts_S1x256_S1x256)
      broadcasts_S1x256_S128x256) z

/-- The two biases side by side. -/
def biases (ba bx : Vec F S1x1x128 .f32) : FVec F S1x256 .f32 :=
  concatenate S1x256 1 [⟨S1x128, shapeCast S1x128 ba shapeCasts_S1x1x128_S1x128⟩, ⟨S1x128, shapeCast S1x128 bx shapeCasts_S1x1x128_S1x128⟩]
    concatenates_S1x128_S1x128_S1x256_d1

/-- The prepared weights of one head. -/
def prepared (wa wx : Vec F S1x128x128 .fp8e4m3) (sa sx ba bx : Vec F S1x1x128 .f32) : Vec F S1x512x256 .bf16 :=
  shapeCast S1x512x256 (concatenate S512x256 0 [⟨S128x256, truncf .bf16 (wide wa wx sa sx) bitsLt_bf16_f32⟩,
    ⟨S128x256, truncf .bf16 (left (wide wa wx sa sx)) bitsLt_bf16_f32⟩,
    ⟨S128x256, truncf .bf16 (left (left (wide wa wx sa sx))) bitsLt_bf16_f32⟩,
    ⟨S128x256, truncf .bf16 (rowInto 2#32 (leftRow (leftRow (biases ba bx))) (rowInto 1#32 (leftRow (biases ba bx))
      (rowInto 0#32 (biases ba bx) (broadcast S128x256 (Scalar.ofBits .f32 0x00000000#32))))) bitsLt_bf16_f32⟩]
    concatenates_S128x256_S128x256_S128x256_S128x256_S512x256_d0) shapeCasts_S512x256_S1x512x256

abbrev rP1 (t : Fin k0_t1_loop.trips) (h2 : k0_cond2 i = 1#1) : Rect S48x128x128 :=
  Rect.unit (s := S48x128x128) (k0_off1 i t) S1x128x128.size (k0_off1_inb i t h2)
abbrev rP2 (t : Fin k0_t1_loop.trips) (h2 : k0_cond2 i = 1#1) : Rect S48x1x128 :=
  Rect.unit (s := S48x1x128) (k0_off2 i t) S1x1x128.size (k0_off2_inb i t h2)
abbrev rP3 (t : Fin k0_t1_loop.trips) (h2 : k0_cond2 i = 1#1) : Rect S48x512x256 :=
  Rect.unit (s := S48x512x256) (k0_off3 i t) S1x512x256.size (k0_off3_inb i t h2)

/-- Prepare the weights of one head. -/
def prepP (h2 : k0_cond2 i = 1#1) (t : Fin k0_t1_loop.trips) : P F :=
  .op (.load A.arg4 (rP1 i t h2).toLoadRect (View.loadsAt_vmem h_S1x128x128)) fun wa =>
  .op (.load A.arg7 (rP1 i t h2).toLoadRect (View.loadsAt_vmem h_S1x128x128)) fun wx =>
  .op (.load A.arg5 (rP2 i t h2).toLoadRect (View.loadsAt_vmem h_S1x1x128)) fun sa =>
  .op (.load A.arg8 (rP2 i t h2).toLoadRect (View.loadsAt_vmem h_S1x1x128)) fun sx =>
  .op (.load A.arg6 (rP2 i t h2).toLoadRect (View.loadsAt_vmem h_S1x1x128)) fun ba =>
  .op (.load A.arg9 (rP2 i t h2).toLoadRect (View.loadsAt_vmem h_S1x1x128)) fun bx =>
  .op (.load A.arg15 (rP3 i t h2).toLoadRect (View.loadsAt_vmem h_S1x512x256)) fun _ =>
  .op (.store A.arg15 (rP3 i t h2) (prepared wa wx sa sx ba bx) Finset.univ
    (View.stores_vmem h_S1x512x256 (A.harg15.storeExact_slice rfl _ (k0_off3_packedbf16 i t h2)) (fun _ => rfl)) (.inl rfl)) fun _ => .ret ⟨⟩

/-- In the first tile: prepare the weights of the step's four heads. -/
def weightsP : P F :=
  if h2 : k0_cond2 i = 1#1 then
    Scf.Loop.for k0_t1_loop (k0_t1_ok i h2) (⟨⟩ : PUnit.{1}) fun t _ => prepP A i h2 t
  else .ret ⟨⟩

/-- On the last step of a tile: the tile's scales go out. -/
def scalesP : P F :=
  if h3 : k0_cond3 i = 1#1 then
  .op (.load A.arg20 (Rect.unit (s := S8x64x128) ![0, 0, 0] S8x64x48.size inb_S8x64x128_S8x64x48_0_0_0).toLoadRect (View.loadsAt_vmem h_S8x64x48)) fun v =>
  .op (.load A.arg14 (Rect.unit (s := S8x64x48) ![0, 0, 0] S8x64x48.size inb_S8x64x48_S8x64x48_0_0_0).toLoadRect (View.loadsAt_vmem h_S8x64x48)) fun _ =>
  .op (.store A.arg14 (Rect.unit (s := S8x64x48) ![0, 0, 0] S8x64x48.size inb_S8x64x48_S8x64x48_0_0_0) v
    Finset.univ (View.stores_vmem_bits_univ h_S8x64x48 rfl) (.inl rfl)) fun _ => .ret ⟨⟩
  else .ret ⟨⟩

/-- On the last step of all: the last states go out. -/
def finalP : P F :=
  if h4 : k0_cond4 i = 1#1 then
  .op (.load A.arg17 (Rect.unit (s := S48x8x128) ![0, 0, 0] S48x8x128.size inb_S48x8x128_S48x8x128_0_0_0).toLoadRect (View.loadsAt_vmem h_S48x8x128)) fun v =>
  .op (.load A.arg12 (Rect.unit (s := S48x8x128) ![0, 0, 0] S48x8x128.size inb_S48x8x128_S48x8x128_0_0_0).toLoadRect (View.loadsAt_vmem h_S48x8x128)) fun _ =>
  .op (.store A.arg12 (Rect.unit (s := S48x8x128) ![0, 0, 0] S48x8x128.size inb_S48x8x128_S48x8x128_0_0_0) v
    Finset.univ (View.stores_vmem_bits_univ h_S48x8x128 rfl) (.inl rfl)) fun _ => .ret ⟨⟩
  else .ret ⟨⟩

/-- The straight-line middle and the two closing conditionals. -/
def mainP : P F :=
  upto (headP A i) 4 le_rfl (⟨⟩ : PUnit.{1}) fun _ =>
    Prog.bind (scalesP A i) fun _ => finalP A i

/-- The whole body. -/
def bodyP : P F := Prog.bind (startP A i) fun _ => Prog.bind (weightsP A i) fun _ => mainP A i

end Cert.Kernel.Own
-- ==== Proof.Rules.lean ====
module

public import proofs.«01_k».proof.Proof.Body
public import proofs.«01_k».proof.Proof.Gen.Kernel.Points
public import Idealize.ShloMosaic.Lib.Pipeline.FrameBody
public import Idealize.ShloMosaic.Lib.Tactic

@[expose] public section
set_option maxRecDepth 16384
noncomputable section
namespace Cert.Kernel.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Facts₀ Cert.Kernel.Facts

variable {F : FTy → Type} [FloatOps F]
local notation "𝕄" => MT nD τ sig Unit (Elt F) ℕ (UR sig nD τ) ℕ

/-- A tensor with a rectangle's elements replaced. -/
def put {s : Shape} {e : EltTy} (r : Rect s) (w : r.shape.Idx → Elt F e) (T : s.Idx → Elt F e) : s.Idx → Elt F e :=
  fun y => match preimage? r.emb y with
    | some x => w x
    | none => T y

theorem put_in {s : Shape} {e : EltTy} (r : Rect s) (w : r.shape.Idx → Elt F e) (T : s.Idx → Elt F e) (x : r.shape.Idx) :
    put r w T (r.emb x) = w x := by
  unfold put; rw [preimage?_emb]

theorem put_out {s : Shape} {e : EltTy} (r : Rect s) (w : r.shape.Idx → Elt F e) (T : s.Idx → Elt F e) (y : s.Idx)
    (h : ∀ x, r.emb x ≠ y) : put r w T y = T y := by
  unfold put; rw [preimage?_eq_none h]

variable (𝒱 : Variants) (c : Dev nD) (E : Set ℕ)

/-- The weakest precondition of a program run by core `c`. -/
abbrev W {α : Type} (p : Prog (TpuEff nD τ sig (Elt F) Λ₀ .tc) α) (Q : α → sProp 𝕄) : sProp 𝕄 :=
  wp frame (wpE (defs₀ (F := F)) 𝒱 (c : Thread nD τ) none) E p Q

variable {sp : CoreSpace} {s : Shape} {e : EltTy} {α : Type}

theorem load_step (m : Memref sig .tc sp s e) (T : s.Idx → Elt F e) (R : sProp 𝕄) (r : LoadRect s) (hl : m.view.LoadsAt r)
    (k : (r.shape.Idx → Elt F e) → Prog (TpuEff nD τ sig (Elt F) Λ₀ .tc) α) (Q : α → sProp 𝕄)
    (h : iprop(owns (c : Thread nD τ) m fullShare T ∗ R) ⊢ W 𝒱 c E (k fun x => T (r.idx x)) Q) :
    iprop(owns (c : Thread nD τ) m fullShare T ∗ R) ⊢ W 𝒱 c E (.op (.load m r hl) k) Q := by
  unfold owns at h ⊢
  iintro ⟨⟨%f, %hf, H⟩, HR⟩
  iapply (wp_load (defs := defs₀ (F := F)) 𝒱 (c : Thread nD τ) none E (m := m) (r := r) (hl := hl) (k := k)
    (S := m.view.set) (f := f) (Finset.map_subset_map.mpr (Finset.subset_univ _))) $$ H
  iintro H
  have e1 : (m.view.readAt (Elt F) r f) = fun x => T (r.idx x) := by subst hf; rfl
  rw [e1]
  iapply h
  isplitl [H]
  · iexists f; isplitr; · ipureintro; exact hf
    iexact H
  · iexact HR

theorem store_step (m : Memref sig .tc sp s e) (T : s.Idx → Elt F e) (R : sProp 𝕄) (r : Rect s) (w : r.shape.Idx → Elt F e)
    (hx : (m.access r).Stores Finset.univ) (hm)
    (k : PUnit.{1} → Prog (TpuEff nD τ sig (Elt F) Λ₀ .tc) α) (Q : α → sProp 𝕄)
    (h : iprop(owns (c : Thread nD τ) m fullShare (put r w T) ∗ R) ⊢ W 𝒱 c E (k ⟨⟩) Q) :
    iprop(owns (c : Thread nD τ) m fullShare T ∗ R) ⊢ W 𝒱 c E (.op (.store m r w Finset.univ hx hm) k) Q := by
  unfold owns at h ⊢
  iintro ⟨⟨%f, %hf, H⟩, HR⟩
  iapply (wp_store (defs := defs₀ (F := F)) 𝒱 (c : Thread nD τ) none E (m := m) (r := r) (w := w) (Mk := Finset.univ)
    (hx := hx) (hm := hm) (k := k) (S := m.view.set) (f := f) (View.set_slice_subset _ r)) $$ H
  iintro H
  iapply h
  isplitl [H]
  · iexists _
    isplitr
    rotate_left
    · iexact H
    · ipureintro
      subst hf
      funext y
      by_cases hy : ∃ x, r.emb x = y
      · obtain ⟨x, rfl⟩ := hy
        rw [put_in]
        exact View.read_slice_write_emb r f w (Finset.mem_univ x)
      · rw [put_out r w _ y (fun x hx => hy ⟨x, hx⟩)]
        exact View.read_slice_write_of_not_mem r f w Finset.univ (by
          intro hm'; obtain ⟨x, -, hx'⟩ := Finset.mem_map.mp hm'; exact hy ⟨x, hx'⟩)
  · iexact HR

/-- Separating conjunctions may be reordered, as an equality. -/
instance sepComm.{v} {M : Type v} [RA M] : _root_.Std.Commutative (α := sProp M) BIBase.sep :=
  ⟨fun P Q => _root_.Std.Commutative.comm (op := fun P Q : sProp M => BI.sep P Q) P Q⟩

instance sepAssoc.{v} {M : Type v} [RA M] : _root_.Std.Associative (α := sProp M) BIBase.sep :=
  ⟨fun P Q R => _root_.Std.Associative.assoc (op := fun P Q : sProp M => BI.sep P Q) P Q R⟩

/-- What the input windows hold. -/
structure In (F : FTy → Type) where
  x : S8x64x512.Idx → Elt F .bf16
  h0 : S48x8x128.Idx → Elt F .f32
  wa : S48x128x128.Idx → Elt F .fp8e4m3
  sa : S48x1x128.Idx → Elt F .f32
  ba : S48x1x128.Idx → Elt F .f32
  wx : S48x128x128.Idx → Elt F .fp8e4m3
  sx : S48x1x128.Idx → Elt F .f32
  bx : S48x1x128.Idx → Elt F .f32
  lam : S48x1x128.Idx → Elt F .f32

/-- What the output windows and the scratch buffers hold. -/
structure St (F : FTy → Type) where
  y : S8x64x512.Idx → Elt F .bf16
  hf : S48x8x128.Idx → Elt F .f32
  xc : S8x64x512.Idx → Elt F .fp8e4m3
  xs : S8x64x48.Idx → Elt F .f32
  w : S48x512x256.Idx → Elt F .bf16
  k : S48x1x128.Idx → Elt F .f32
  h : S48x8x128.Idx → Elt F .f32
  a : S4x576x128.Idx → Elt F .f32
  u : S4x576x128.Idx → Elt F .f32
  sc : S8x64x128.Idx → Elt F .f32

/-- The nineteen buffers at their contents. -/
def all (A : Args) (I : In F) (S : St F) : sProp 𝕄 :=
  iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)

variable (A : Args) (I : In F) (S : St F) (k : PUnit.{1} → Prog (TpuEff nD τ sig (Elt F) Λ₀ .tc) α)

/-- The other eighteen. -/
def but2 : sProp 𝕄 := iprop(owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all2 : all c A I S = iprop(owns (c : Thread nD τ) A.arg2 fullShare I.x ∗ but2 c A I S) := by
  unfold all but2; ac_rfl
theorem ld2 (Q : α → sProp 𝕄) (r : LoadRect _) (hl : A.arg2.view.LoadsAt r) (k : (r.shape.Idx → Elt F _) → Prog (TpuEff nD τ sig (Elt F) Λ₀ .tc) α)
    (h : all c A I S ⊢ W 𝒱 c E (k fun x => I.x (r.idx x)) Q) : all c A I S ⊢ W 𝒱 c E (.op (.load A.arg2 r hl) k) Q := by
  rw [all2] at h ⊢; exact load_step 𝒱 c E _ _ _ _ _ _ _ h

/-- The other eighteen. -/
def but3 : sProp 𝕄 := iprop(owns (c : Thread nD τ) A.arg2 fullShare I.x
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all3 : all c A I S = iprop(owns (c : Thread nD τ) A.arg3 fullShare I.h0 ∗ but3 c A I S) := by
  unfold all but3; ac_rfl
theorem ld3 (Q : α → sProp 𝕄) (r : LoadRect _) (hl : A.arg3.view.LoadsAt r) (k : (r.shape.Idx → Elt F _) → Prog (TpuEff nD τ sig (Elt F) Λ₀ .tc) α)
    (h : all c A I S ⊢ W 𝒱 c E (k fun x => I.h0 (r.idx x)) Q) : all c A I S ⊢ W 𝒱 c E (.op (.load A.arg3 r hl) k) Q := by
  rw [all3] at h ⊢; exact load_step 𝒱 c E _ _ _ _ _ _ _ h

/-- The other eighteen. -/
def but4 : sProp 𝕄 := iprop(owns (c : Thread nD τ) A.arg2 fullShare I.x
    ∗ owns (c : Thread nD τ) A.arg3 fullShare I.h0
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all4 : all c A I S = iprop(owns (c : Thread nD τ) A.arg4 fullShare I.wa ∗ but4 c A I S) := by
  unfold all but4; ac_rfl
theorem ld4 (Q : α → sProp 𝕄) (r : LoadRect _) (hl : A.arg4.view.LoadsAt r) (k : (r.shape.Idx → Elt F _) → Prog (TpuEff nD τ sig (Elt F) Λ₀ .tc) α)
    (h : all c A I S ⊢ W 𝒱 c E (k fun x => I.wa (r.idx x)) Q) : all c A I S ⊢ W 𝒱 c E (.op (.load A.arg4 r hl) k) Q := by
  rw [all4] at h ⊢; exact load_step 𝒱 c E _ _ _ _ _ _ _ h

/-- The other eighteen. -/
def but5 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all5 : all c A I S = iprop(owns (c : Thread nD τ) A.arg5 fullShare I.sa ∗ but5 c A I S) := by
  unfold all but5; ac_rfl
theorem ld5 (Q : α → sProp 𝕄) (r : LoadRect _) (hl : A.arg5.view.LoadsAt r) (k : (r.shape.Idx → Elt F _) → Prog (TpuEff nD τ sig (Elt F) Λ₀ .tc) α)
    (h : all c A I S ⊢ W 𝒱 c E (k fun x => I.sa (r.idx x)) Q) : all c A I S ⊢ W 𝒱 c E (.op (.load A.arg5 r hl) k) Q := by
  rw [all5] at h ⊢; exact load_step 𝒱 c E _ _ _ _ _ _ _ h

/-- The other eighteen. -/
def but6 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all6 : all c A I S = iprop(owns (c : Thread nD τ) A.arg6 fullShare I.ba ∗ but6 c A I S) := by
  unfold all but6; ac_rfl
theorem ld6 (Q : α → sProp 𝕄) (r : LoadRect _) (hl : A.arg6.view.LoadsAt r) (k : (r.shape.Idx → Elt F _) → Prog (TpuEff nD τ sig (Elt F) Λ₀ .tc) α)
    (h : all c A I S ⊢ W 𝒱 c E (k fun x => I.ba (r.idx x)) Q) : all c A I S ⊢ W 𝒱 c E (.op (.load A.arg6 r hl) k) Q := by
  rw [all6] at h ⊢; exact load_step 𝒱 c E _ _ _ _ _ _ _ h

/-- The other eighteen. -/
def but7 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all7 : all c A I S = iprop(owns (c : Thread nD τ) A.arg7 fullShare I.wx ∗ but7 c A I S) := by
  unfold all but7; ac_rfl
theorem ld7 (Q : α → sProp 𝕄) (r : LoadRect _) (hl : A.arg7.view.LoadsAt r) (k : (r.shape.Idx → Elt F _) → Prog (TpuEff nD τ sig (Elt F) Λ₀ .tc) α)
    (h : all c A I S ⊢ W 𝒱 c E (k fun x => I.wx (r.idx x)) Q) : all c A I S ⊢ W 𝒱 c E (.op (.load A.arg7 r hl) k) Q := by
  rw [all7] at h ⊢; exact load_step 𝒱 c E _ _ _ _ _ _ _ h

/-- The other eighteen. -/
def but8 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all8 : all c A I S = iprop(owns (c : Thread nD τ) A.arg8 fullShare I.sx ∗ but8 c A I S) := by
  unfold all but8; ac_rfl
theorem ld8 (Q : α → sProp 𝕄) (r : LoadRect _) (hl : A.arg8.view.LoadsAt r) (k : (r.shape.Idx → Elt F _) → Prog (TpuEff nD τ sig (Elt F) Λ₀ .tc) α)
    (h : all c A I S ⊢ W 𝒱 c E (k fun x => I.sx (r.idx x)) Q) : all c A I S ⊢ W 𝒱 c E (.op (.load A.arg8 r hl) k) Q := by
  rw [all8] at h ⊢; exact load_step 𝒱 c E _ _ _ _ _ _ _ h

/-- The other eighteen. -/
def but9 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all9 : all c A I S = iprop(owns (c : Thread nD τ) A.arg9 fullShare I.bx ∗ but9 c A I S) := by
  unfold all but9; ac_rfl
theorem ld9 (Q : α → sProp 𝕄) (r : LoadRect _) (hl : A.arg9.view.LoadsAt r) (k : (r.shape.Idx → Elt F _) → Prog (TpuEff nD τ sig (Elt F) Λ₀ .tc) α)
    (h : all c A I S ⊢ W 𝒱 c E (k fun x => I.bx (r.idx x)) Q) : all c A I S ⊢ W 𝒱 c E (.op (.load A.arg9 r hl) k) Q := by
  rw [all9] at h ⊢; exact load_step 𝒱 c E _ _ _ _ _ _ _ h

/-- The other eighteen. -/
def but10 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all10 : all c A I S = iprop(owns (c : Thread nD τ) A.arg10 fullShare I.lam ∗ but10 c A I S) := by
  unfold all but10; ac_rfl
theorem ld10 (Q : α → sProp 𝕄) (r : LoadRect _) (hl : A.arg10.view.LoadsAt r) (k : (r.shape.Idx → Elt F _) → Prog (TpuEff nD τ sig (Elt F) Λ₀ .tc) α)
    (h : all c A I S ⊢ W 𝒱 c E (k fun x => I.lam (r.idx x)) Q) : all c A I S ⊢ W 𝒱 c E (.op (.load A.arg10 r hl) k) Q := by
  rw [all10] at h ⊢; exact load_step 𝒱 c E _ _ _ _ _ _ _ h

/-- The other eighteen. -/
def but11 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all11 : all c A I S = iprop(owns (c : Thread nD τ) A.arg11 fullShare S.y ∗ but11 c A I S) := by
  unfold all but11; ac_rfl
theorem ld11 (Q : α → sProp 𝕄) (r : LoadRect _) (hl : A.arg11.view.LoadsAt r) (k : (r.shape.Idx → Elt F _) → Prog (TpuEff nD τ sig (Elt F) Λ₀ .tc) α)
    (h : all c A I S ⊢ W 𝒱 c E (k fun x => S.y (r.idx x)) Q) : all c A I S ⊢ W 𝒱 c E (.op (.load A.arg11 r hl) k) Q := by
  rw [all11] at h ⊢; exact load_step 𝒱 c E _ _ _ _ _ _ _ h
theorem st11 (Q : α → sProp 𝕄) (r : Rect _) (w : r.shape.Idx → Elt F _) (hx : (A.arg11.access r).Stores Finset.univ) (hm)
    (h : all c A I { S with y := put r w S.y } ⊢ W 𝒱 c E (k ⟨⟩) Q) :
    all c A I S ⊢ W 𝒱 c E (.op (.store A.arg11 r w Finset.univ hx hm) k) Q := by
  rw [all11] at h ⊢; exact store_step 𝒱 c E _ _ _ _ _ _ _ _ _ h

/-- The other eighteen. -/
def but12 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all12 : all c A I S = iprop(owns (c : Thread nD τ) A.arg12 fullShare S.hf ∗ but12 c A I S) := by
  unfold all but12; ac_rfl
theorem ld12 (Q : α → sProp 𝕄) (r : LoadRect _) (hl : A.arg12.view.LoadsAt r) (k : (r.shape.Idx → Elt F _) → Prog (TpuEff nD τ sig (Elt F) Λ₀ .tc) α)
    (h : all c A I S ⊢ W 𝒱 c E (k fun x => S.hf (r.idx x)) Q) : all c A I S ⊢ W 𝒱 c E (.op (.load A.arg12 r hl) k) Q := by
  rw [all12] at h ⊢; exact load_step 𝒱 c E _ _ _ _ _ _ _ h
theorem st12 (Q : α → sProp 𝕄) (r : Rect _) (w : r.shape.Idx → Elt F _) (hx : (A.arg12.access r).Stores Finset.univ) (hm)
    (h : all c A I { S with hf := put r w S.hf } ⊢ W 𝒱 c E (k ⟨⟩) Q) :
    all c A I S ⊢ W 𝒱 c E (.op (.store A.arg12 r w Finset.univ hx hm) k) Q := by
  rw [all12] at h ⊢; exact store_step 𝒱 c E _ _ _ _ _ _ _ _ _ h

/-- The other eighteen. -/
def but13 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all13 : all c A I S = iprop(owns (c : Thread nD τ) A.arg13 fullShare S.xc ∗ but13 c A I S) := by
  unfold all but13; ac_rfl
theorem ld13 (Q : α → sProp 𝕄) (r : LoadRect _) (hl : A.arg13.view.LoadsAt r) (k : (r.shape.Idx → Elt F _) → Prog (TpuEff nD τ sig (Elt F) Λ₀ .tc) α)
    (h : all c A I S ⊢ W 𝒱 c E (k fun x => S.xc (r.idx x)) Q) : all c A I S ⊢ W 𝒱 c E (.op (.load A.arg13 r hl) k) Q := by
  rw [all13] at h ⊢; exact load_step 𝒱 c E _ _ _ _ _ _ _ h
theorem st13 (Q : α → sProp 𝕄) (r : Rect _) (w : r.shape.Idx → Elt F _) (hx : (A.arg13.access r).Stores Finset.univ) (hm)
    (h : all c A I { S with xc := put r w S.xc } ⊢ W 𝒱 c E (k ⟨⟩) Q) :
    all c A I S ⊢ W 𝒱 c E (.op (.store A.arg13 r w Finset.univ hx hm) k) Q := by
  rw [all13] at h ⊢; exact store_step 𝒱 c E _ _ _ _ _ _ _ _ _ h

/-- The other eighteen. -/
def but14 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all14 : all c A I S = iprop(owns (c : Thread nD τ) A.arg14 fullShare S.xs ∗ but14 c A I S) := by
  unfold all but14; ac_rfl
theorem ld14 (Q : α → sProp 𝕄) (r : LoadRect _) (hl : A.arg14.view.LoadsAt r) (k : (r.shape.Idx → Elt F _) → Prog (TpuEff nD τ sig (Elt F) Λ₀ .tc) α)
    (h : all c A I S ⊢ W 𝒱 c E (k fun x => S.xs (r.idx x)) Q) : all c A I S ⊢ W 𝒱 c E (.op (.load A.arg14 r hl) k) Q := by
  rw [all14] at h ⊢; exact load_step 𝒱 c E _ _ _ _ _ _ _ h
theorem st14 (Q : α → sProp 𝕄) (r : Rect _) (w : r.shape.Idx → Elt F _) (hx : (A.arg14.access r).Stores Finset.univ) (hm)
    (h : all c A I { S with xs := put r w S.xs } ⊢ W 𝒱 c E (k ⟨⟩) Q) :
    all c A I S ⊢ W 𝒱 c E (.op (.store A.arg14 r w Finset.univ hx hm) k) Q := by
  rw [all14] at h ⊢; exact store_step 𝒱 c E _ _ _ _ _ _ _ _ _ h

/-- The other eighteen. -/
def but15 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all15 : all c A I S = iprop(owns (c : Thread nD τ) A.arg15 fullShare S.w ∗ but15 c A I S) := by
  unfold all but15; ac_rfl
theorem ld15 (Q : α → sProp 𝕄) (r : LoadRect _) (hl : A.arg15.view.LoadsAt r) (k : (r.shape.Idx → Elt F _) → Prog (TpuEff nD τ sig (Elt F) Λ₀ .tc) α)
    (h : all c A I S ⊢ W 𝒱 c E (k fun x => S.w (r.idx x)) Q) : all c A I S ⊢ W 𝒱 c E (.op (.load A.arg15 r hl) k) Q := by
  rw [all15] at h ⊢; exact load_step 𝒱 c E _ _ _ _ _ _ _ h
theorem st15 (Q : α → sProp 𝕄) (r : Rect _) (w : r.shape.Idx → Elt F _) (hx : (A.arg15.access r).Stores Finset.univ) (hm)
    (h : all c A I { S with w := put r w S.w } ⊢ W 𝒱 c E (k ⟨⟩) Q) :
    all c A I S ⊢ W 𝒱 c E (.op (.store A.arg15 r w Finset.univ hx hm) k) Q := by
  rw [all15] at h ⊢; exact store_step 𝒱 c E _ _ _ _ _ _ _ _ _ h

/-- The other eighteen. -/
def but16 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all16 : all c A I S = iprop(owns (c : Thread nD τ) A.arg16 fullShare S.k ∗ but16 c A I S) := by
  unfold all but16; ac_rfl
theorem ld16 (Q : α → sProp 𝕄) (r : LoadRect _) (hl : A.arg16.view.LoadsAt r) (k : (r.shape.Idx → Elt F _) → Prog (TpuEff nD τ sig (Elt F) Λ₀ .tc) α)
    (h : all c A I S ⊢ W 𝒱 c E (k fun x => S.k (r.idx x)) Q) : all c A I S ⊢ W 𝒱 c E (.op (.load A.arg16 r hl) k) Q := by
  rw [all16] at h ⊢; exact load_step 𝒱 c E _ _ _ _ _ _ _ h
theorem st16 (Q : α → sProp 𝕄) (r : Rect _) (w : r.shape.Idx → Elt F _) (hx : (A.arg16.access r).Stores Finset.univ) (hm)
    (h : all c A I { S with k := put r w S.k } ⊢ W 𝒱 c E (k ⟨⟩) Q) :
    all c A I S ⊢ W 𝒱 c E (.op (.store A.arg16 r w Finset.univ hx hm) k) Q := by
  rw [all16] at h ⊢; exact store_step 𝒱 c E _ _ _ _ _ _ _ _ _ h

/-- The other eighteen. -/
def but17 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg18 fullShare S.a
    ∗ owns (c : Thread nD τ) A.arg19 fullShare S.u
    ∗ owns (c : Thread nD τ) A.arg20 fullShare S.sc)
theorem all17 : all c A I S = iprop(owns (c : Thread nD τ) A.arg17 fullShare S.h ∗ but17 c A I S) := by
  unfold all but17; ac_rfl
theorem ld17 (Q : α → sProp 𝕄) (r : LoadRect _) (hl : A.arg17.view.LoadsAt r) (k : (r.shape.Idx → Elt F _) → Prog (TpuEff nD τ sig (Elt F) Λ₀ .tc) α)
    (h : all c A I S ⊢ W 𝒱 c E (k fun x => S.h (r.idx x)) Q) : all c A I S ⊢ W 𝒱 c E (.op (.load A.arg17 r hl) k) Q := by
  rw [all17] at h ⊢; exact load_step 𝒱 c E _ _ _ _ _ _ _ h
theorem st17 (Q : α → sProp 𝕄) (r : Rect _) (w : r.shape.Idx → Elt F _) (hx : (A.arg17.access r).Stores Finset.univ) (hm)
    (h : all c A I { S with h := put r w S.h } ⊢ W 𝒱 c E (k ⟨⟩) Q) :
    all c A I S ⊢ W 𝒱 c E (.op (.store A.arg17 r w Finset.univ hx hm) k) Q := by
  rw [all17] at h ⊢; exact store_step 𝒱 c E _ _ _ _ _ _ _ _ _ h

/-- The other eighteen. -/
def but18 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg19 fullShare S.u
    ∗ owns (c : Thread nD τ) A.arg20 fullShare S.sc)
theorem all18 : all c A I S = iprop(owns (c : Thread nD τ) A.arg18 fullShare S.a ∗ but18 c A I S) := by
  unfold all but18; ac_rfl
theorem ld18 (Q : α → sProp 𝕄) (r : LoadRect _) (hl : A.arg18.view.LoadsAt r) (k : (r.shape.Idx → Elt F _) → Prog (TpuEff nD τ sig (Elt F) Λ₀ .tc) α)
    (h : all c A I S ⊢ W 𝒱 c E (k fun x => S.a (r.idx x)) Q) : all c A I S ⊢ W 𝒱 c E (.op (.load A.arg18 r hl) k) Q := by
  rw [all18] at h ⊢; exact load_step 𝒱 c E _ _ _ _ _ _ _ h
theorem st18 (Q : α → sProp 𝕄) (r : Rect _) (w : r.shape.Idx → Elt F _) (hx : (A.arg18.access r).Stores Finset.univ) (hm)
    (h : all c A I { S with a := put r w S.a } ⊢ W 𝒱 c E (k ⟨⟩) Q) :
    all c A I S ⊢ W 𝒱 c E (.op (.store A.arg18 r w Finset.univ hx hm) k) Q := by
  rw [all18] at h ⊢; exact store_step 𝒱 c E _ _ _ _ _ _ _ _ _ h

/-- The other eighteen. -/
def but19 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg20 fullShare S.sc)
theorem all19 : all c A I S = iprop(owns (c : Thread nD τ) A.arg19 fullShare S.u ∗ but19 c A I S) := by
  unfold all but19; ac_rfl
theorem ld19 (Q : α → sProp 𝕄) (r : LoadRect _) (hl : A.arg19.view.LoadsAt r) (k : (r.shape.Idx → Elt F _) → Prog (TpuEff nD τ sig (Elt F) Λ₀ .tc) α)
    (h : all c A I S ⊢ W 𝒱 c E (k fun x => S.u (r.idx x)) Q) : all c A I S ⊢ W 𝒱 c E (.op (.load A.arg19 r hl) k) Q := by
  rw [all19] at h ⊢; exact load_step 𝒱 c E _ _ _ _ _ _ _ h
theorem st19 (Q : α → sProp 𝕄) (r : Rect _) (w : r.shape.Idx → Elt F _) (hx : (A.arg19.access r).Stores Finset.univ) (hm)
    (h : all c A I { S with u := put r w S.u } ⊢ W 𝒱 c E (k ⟨⟩) Q) :
    all c A I S ⊢ W 𝒱 c E (.op (.store A.arg19 r w Finset.univ hx hm) k) Q := by
  rw [all19] at h ⊢; exact store_step 𝒱 c E _ _ _ _ _ _ _ _ _ h

/-- The other eighteen. -/
def but20 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u)
theorem all20 : all c A I S = iprop(owns (c : Thread nD τ) A.arg20 fullShare S.sc ∗ but20 c A I S) := by
  unfold all but20; ac_rfl
theorem ld20 (Q : α → sProp 𝕄) (r : LoadRect _) (hl : A.arg20.view.LoadsAt r) (k : (r.shape.Idx → Elt F _) → Prog (TpuEff nD τ sig (Elt F) Λ₀ .tc) α)
    (h : all c A I S ⊢ W 𝒱 c E (k fun x => S.sc (r.idx x)) Q) : all c A I S ⊢ W 𝒱 c E (.op (.load A.arg20 r hl) k) Q := by
  rw [all20] at h ⊢; exact load_step 𝒱 c E _ _ _ _ _ _ _ h
theorem st20 (Q : α → sProp 𝕄) (r : Rect _) (w : r.shape.Idx → Elt F _) (hx : (A.arg20.access r).Stores Finset.univ) (hm)
    (h : all c A I { S with sc := put r w S.sc } ⊢ W 𝒱 c E (k ⟨⟩) Q) :
    all c A I S ⊢ W 𝒱 c E (.op (.store A.arg20 r w Finset.univ hx hm) k) Q := by
  rw [all20] at h ⊢; exact store_step 𝒱 c E _ _ _ _ _ _ _ _ _ h

end Cert.Kernel.Own
-- ==== Proof.Whole.lean ====
module

public import proofs.«01_k».proof.Proof.Body
public import Idealize.ShloMosaic.Lib.Tactic

@[expose] public section
set_option maxRecDepth 1000000
set_option pp.maxSteps 400
noncomputable section
namespace Cert.Kernel.Own
open Idealize.ShloMosaic Idealize.SL.Sem
open Idealize.ShloMosaic.TcCoe
open Cert.Kernel.Facts₀ Cert.Kernel.Facts

variable {F : FTy → Type} [FloatOps F]

/-- What the text's first part does after its two conditionals. -/
def firstP (A : Args) (i : grid0.Coords) : Prog (TpuEff nD τ sig (Elt F) Λ₀ .tc) (Σ' (arg0 : BitVec 32) (arg1 : BitVec 32) (v8 : FVec F S64x128 .bf16) (v9 : IVec S64x128 32) (v11 : BitVec 32) (v14 : FVec F S1x128 .f32) (v17 : FVec F S512x256 .bf16) (v20 : FVec F S64x128 .f32) (v27 : FVec F S64x128 .f32) (v33 : IVec S64x128 32), IVec S64x128 32) :=
  .op (.load A.arg16 (rK i 0).toLoadRect (View.loadsAt_vmem h_S1x1x128)) fun v13 =>
  .op (.load A.arg15 (rW i 0).toLoadRect (View.loadsAt_vmem h_S1x512x256)) fun v16 =>
  .op (.load A.arg2 (rX 0 0).toLoadRect (View.loadsAt_vmem h_S1x64x128)) fun v18 =>
  .ret ⟨BitVec.ofNat 32 (i 0).val, BitVec.ofNat 32 (i 1).val, ones, iota .tc S64x128 32 [1] iota_S64x128_d1_w32, headNo i 0,
    shapeCast S1x128 v13 shapeCasts_S1x1x128_S1x128, shapeCast S512x256 v16 shapeCasts_S1x512x256_S512x256, xOf v18,
    rowMax (xOf v18), bit 1073741824#32 (rowMax (xOf v18)) (broadcast S64x128 0#32),
    ori (bit 1073741824#32 (rowMax (xOf v18)) (broadcast S64x128 0#32)) (broadcast S64x128 536870912#32)⟩

theorem part2_eq (A : Args) (i : grid0.Coords) :
    k0_part2 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20
      = Prog.bind (startP A i) fun _ => Prog.bind (weightsP A i) fun _ => firstP A i := by
  unfold k0_part2 startP weightsP
  by_cases h1 : cond1 i = 1#1
  · by_cases h2 : k0_cond2 i = 1#1
    · rw [dif_pos h1, dif_pos h1]; simp only [dif_pos h2]; sl_kernel_rfl
    · rw [dif_pos h1, dif_pos h1]; simp only [dif_neg h2]; sl_kernel_rfl
  · by_cases h2 : k0_cond2 i = 1#1
    · rw [dif_neg h1, dif_neg h1]; simp only [dif_pos h2]; sl_kernel_rfl
    · rw [dif_neg h1, dif_neg h1]; simp only [dif_neg h2]; sl_kernel_rfl

/-- The kernel's text is the structured body. -/
theorem run_eq (A : Args) (i : grid0.Coords) : A.run (F := F) i = bodyP A i := by
  unfold Args.run cc0_rglru k0_part172
  rw [part2_eq]
  refine (congrArg (fun p => Prog.bind p _) (Prog.bind_assoc _ _ _)).trans ((Prog.bind_assoc _ _ _).trans ?_)
  refine congrArg (Prog.bind (startP A i)) (funext fun _ => ?_)
  refine (congrArg (fun p => Prog.bind p _) (Prog.bind_assoc _ _ _)).trans ((Prog.bind_assoc _ _ _).trans ?_)
  refine congrArg (Prog.bind (weightsP A i)) (funext fun _ => ?_)
  sl_kernel_rfl

end Cert.Kernel.Own
-- ==== Proof.Triple.lean ====
module

public import proofs.«01_k».proof.Proof.Rules
public import proofs.«01_k».proof.Proof.Whole

@[expose] public section
set_option maxRecDepth 16384
noncomputable section
namespace Cert.Kernel.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Facts₀ Cert.Kernel.Facts

variable {F : FTy → Type} [FloatOps F]
local notation "𝕄" => MT nD τ sig Unit (Elt F) ℕ (UR sig nD τ) ℕ

/-! ## What each piece of the body makes of the state -/

/-- Fold `g` over `0 … n-1`. -/
def fold {N : ℕ} {σ : Type} (g : Fin N → σ → σ) : (n : ℕ) → n ≤ N → σ → σ
  | 0, _, s => s
  | n + 1, h, s => g ⟨n, h⟩ (fold g n (Nat.le_of_succ_le h) s)

/-- The rows of batch `b` and head `j`, as numbers of the wider format. -/
abbrev xAt (I : In F) (j : Fin 4) (b : Fin 8) : FVec F S64x128 .f32 := xOf fun x => I.x ((rX j b).toLoadRect.idx x)
/-- The exponent fields of those rows' scales. -/
abbrev fieldAt (I : In F) (j : Fin 4) (b : Fin 8) : IVec S64x128 32 := field (rowMax (xAt I j b))
abbrev codesAt (I : In F) (j : Fin 4) (b : Fin 8) : FVec F S64x128 .fp8e4m3 := codesOf (xAt I j b) (invOf (fieldAt I j b))
abbrev scaleAt (I : In F) (j : Fin 4) (b : Fin 8) : FVec F S64x128 .f32 := scaleOf (fieldAt I j b)
abbrev gatesAt (I : In F) (v8 : FVec F S64x128 .bf16) (v17 : FVec F S512x256 .bf16) (j : Fin 4) (b : Fin 8) : FVec F S64x256 .f32 :=
  gates (codesAt I j b) (scaleAt I j b) v8 v17
abbrev decayAt (I : In F) (v8 : FVec F S64x128 .bf16) (v14 : FVec F S1x128 .f32) (v17 : FVec F S512x256 .bf16) (j : Fin 4) (b : Fin 8) :
    FVec F S64x128 .f32 := decay (gatesAt I v8 v17 j b) v14
abbrev driveAt (I : In F) (v8 : FVec F S64x128 .bf16) (v14 : FVec F S1x128 .f32) (v17 : FVec F S512x256 .bf16) (j : Fin 4) (b : Fin 8) :
    FVec F S64x128 .f32 := drive (gatesAt I v8 v17 j b) (decayAt I v8 v14 v17 j b) (xAt I j b)

def unitS (I : In F) (v8 : FVec F S64x128 .bf16) (v9 : IVec S64x128 32) (v11 : BitVec 32) (v14 : FVec F S1x128 .f32)
    (v17 : FVec F S512x256 .bf16) (j : Fin 4) (b : Fin 8) (S : St F) : St F :=
  { S with
    xc := put (rX j b) (shapeCast S1x64x128 (codesAt I j b) shapeCasts_S64x128_S1x64x128) S.xc
    sc := put (rS b) (shapeCast S1x64x128 (select (cmpi .eq v9 (broadcast S64x128 v11)) (scaleAt I j b)
      (shapeCast S64x128 (fun x => S.sc ((rS b).toLoadRect.idx x)) shapeCasts_S1x64x128_S64x128)) shapeCasts_S64x128_S1x64x128) S.sc
    a := put (rT j b) (shapeCast S1x64x128 (decayAt I v8 v14 v17 j b) shapeCasts_S64x128_S1x64x128) S.a
    u := put (rT j b) (shapeCast S1x64x128 (driveAt I v8 v14 v17 j b) shapeCasts_S64x128_S1x64x128) S.u }

/-- The state one time step on. -/
def nextH (j : Fin 4) (s : Fin 64) (p : St F × FVec F S8x128 .f32) : FVec F S8x128 .f32 :=
  advance (fun x => p.1.a ((rR j s).toLoadRect.idx x)) p.2 (fun x => p.1.u ((rR j s).toLoadRect.idx x))

def stepS (j : Fin 4) (s : Fin 64) (p : St F × FVec F S8x128 .f32) : St F × FVec F S8x128 .f32 :=
  ({ p.1 with u := put (rR j s) (shapeCast S1x8x128 (nextH j s p) shapeCasts_S8x128_S1x8x128) p.1.u }, nextH j s p)

def outS (j : Fin 4) (b : Fin 8) (S : St F) : St F :=
  { S with y := put (rX j b) (shapeCast S1x64x128 (truncf .bf16 (shapeCast S64x128 (fun x => S.u ((lT j b).idx x))
      shapeCasts_S1x64x128_S64x128) bitsLt_bf16_f32) shapeCasts_S64x128_S1x64x128) S.y }

section
variable (i : grid0.Coords)

abbrev lanes : IVec S64x128 32 := iota .tc S64x128 32 [1] iota_S64x128_d1_w32

/-- The eight units of head `j`. -/
def unitsS (I : In F) (j : Fin 4) (S : St F) : St F :=
  fold (unitS I ones lanes (headNo i j)
    (shapeCast S1x128 (fun x => S.k ((rK i j).toLoadRect.idx x)) shapeCasts_S1x1x128_S1x128)
    (shapeCast S512x256 (fun x => S.w ((rW i j).toLoadRect.idx x)) shapeCasts_S1x512x256_S512x256) j) 8 le_rfl S

/-- The sixty-four time steps of head `j`. -/
def scanS (j : Fin 4) (S : St F) : St F × FVec F S8x128 .f32 :=
  fold (stepS j) 64 le_rfl (S, shapeCast S8x128 (fun x => S.h ((rH i j).toLoadRect.idx x)) shapeCasts_S1x8x128_S8x128)

def keepS (j : Fin 4) (p : St F × FVec F S8x128 .f32) : St F :=
  { p.1 with h := put (rH i j) (shapeCast S1x8x128 p.2 shapeCasts_S8x128_S1x8x128) p.1.h }

def headS (I : In F) (j : Fin 4) (S : St F) : St F :=
  fold (outS j) 8 le_rfl (keepS i j (scanS i j (unitsS i I j S)))

def startS (I : In F) (S : St F) : St F :=
  if cond1 i = 1#1 then { S with
    k := put (Rect.unit (s := S48x1x128) ![0, 0, 0] S48x1x128.size inb_S48x1x128_S48x1x128_0_0_0)
      (rates fun x => I.lam ((Rect.unit (s := S48x1x128) ![0, 0, 0] S48x1x128.size inb_S48x1x128_S48x1x128_0_0_0).toLoadRect.idx x)) S.k
    h := put (Rect.unit (s := S48x8x128) ![0, 0, 0] S48x8x128.size inb_S48x8x128_S48x8x128_0_0_0)
      (shapeCast S48x8x128 (shapeCast S48x8x128 (fun x => I.h0 ((Rect.unit (s := S48x8x128) ![0, 0, 0] S48x8x128.size
        inb_S48x8x128_S48x8x128_0_0_0).toLoadRect.idx x)) shapeCasts_S48x8x128_S48x8x128) shapeCasts_S48x8x128_S48x8x128) S.h
    sc := put (Rect.unit (s := S8x64x128) ![0, 0, 0] S8x64x128.size inb_S8x64x128_S8x64x128_0_0_0)
      (shapeCast S8x64x128 (broadcast S8x64x128 (Scalar.ofBits .f32 0x00000000#32)) shapeCasts_S8x64x128_S8x64x128) S.sc }
  else S

def prepS (I : In F) (h2 : k0_cond2 i = 1#1) (t : Fin k0_t1_loop.trips) (S : St F) : St F :=
  { S with w := put (rP3 i t h2) (prepared (fun x => I.wa ((rP1 i t h2).toLoadRect.idx x)) (fun x => I.wx ((rP1 i t h2).toLoadRect.idx x))
      (fun x => I.sa ((rP2 i t h2).toLoadRect.idx x)) (fun x => I.sx ((rP2 i t h2).toLoadRect.idx x))
      (fun x => I.ba ((rP2 i t h2).toLoadRect.idx x)) (fun x => I.bx ((rP2 i t h2).toLoadRect.idx x))) S.w }

def weightsS (I : In F) (S : St F) : St F :=
  if h2 : k0_cond2 i = 1#1 then fold (prepS i I h2) k0_t1_loop.trips le_rfl S else S

def scalesS (S : St F) : St F :=
  if k0_cond3 i = 1#1 then { S with
    xs := put (Rect.unit (s := S8x64x48) ![0, 0, 0] S8x64x48.size inb_S8x64x48_S8x64x48_0_0_0)
      (fun x => S.sc ((Rect.unit (s := S8x64x128) ![0, 0, 0] S8x64x48.size inb_S8x64x128_S8x64x48_0_0_0).toLoadRect.idx x)) S.xs }
  else S

def finalS (S : St F) : St F :=
  if k0_cond4 i = 1#1 then { S with
    hf := put (Rect.unit (s := S48x8x128) ![0, 0, 0] S48x8x128.size inb_S48x8x128_S48x8x128_0_0_0)
      (fun x => S.h ((Rect.unit (s := S48x8x128) ![0, 0, 0] S48x8x128.size inb_S48x8x128_S48x8x128_0_0_0).toLoadRect.idx x)) S.hf }
  else S

/-- What one point of the grid makes of the state. -/
def bodyS (I : In F) (S : St F) : St F :=
  finalS i (scalesS i (fold (headS i I) 4 le_rfl (weightsS i I (startS i I S))))
end

/-! ## And that it does -/

variable (𝒱 : Variants) (c : Dev nD) (E : Set ℕ) (A : Args) (I : In F) (i : grid0.Coords)

theorem upto_step (Q : PUnit.{1} → sProp 𝕄) {N : ℕ} {α : Type} (f : Fin N → α → (α → P F) → P F) (g : Fin N → St F × α → St F × α)
    (hf : ∀ n p k, (all c A I (g n p).1 ⊢ W 𝒱 c E (k (g n p).2) Q) → all c A I p.1 ⊢ W 𝒱 c E (f n p.2 k) Q) :
    ∀ (n : ℕ) (h : n ≤ N) (p : St F × α) (k : α → P F),
      (all c A I (fold g n h p).1 ⊢ W 𝒱 c E (k (fold g n h p).2) Q) → all c A I p.1 ⊢ W 𝒱 c E (upto f n h p.2 k) Q
  | 0, _, p, k, hk => hk
  | n + 1, h, p, k, hk => upto_step Q f g hf n _ p _ (hf ⟨n, h⟩ _ k hk)

theorem fold_fst {N : ℕ} (g : Fin N → St F → St F) : ∀ (n : ℕ) (h : n ≤ N) (S : St F),
    fold (fun n (p : St F × PUnit.{1}) => (g n p.1, p.2)) n h (S, ⟨⟩) = (fold g n h S, ⟨⟩)
  | 0, _, _ => rfl
  | n + 1, h, S => by rw [fold, fold_fst g n]; rfl

theorem upto_step' (Q : PUnit.{1} → sProp 𝕄) {N : ℕ} (f : Fin N → PUnit.{1} → (PUnit.{1} → P F) → P F) (g : Fin N → St F → St F)
    (hf : ∀ n S k, (all c A I (g n S) ⊢ W 𝒱 c E (k ⟨⟩) Q) → all c A I S ⊢ W 𝒱 c E (f n ⟨⟩ k) Q)
    (n : ℕ) (h : n ≤ N) (S : St F) (k : PUnit.{1} → P F) (hk : all c A I (fold g n h S) ⊢ W 𝒱 c E (k ⟨⟩) Q) :
    all c A I S ⊢ W 𝒱 c E (upto f n h ⟨⟩ k) Q :=
  upto_step 𝒱 c E A I Q f (fun n p => (g n p.1, p.2)) (fun n p k => hf n p.1 k) n h (S, ⟨⟩) k (by rw [fold_fst]; exact hk)

theorem unit_step (Q : PUnit.{1} → sProp 𝕄) (v8 v9 v11 v14 v17) (j : Fin 4) (b : Fin 8) (S : St F) (k : PUnit.{1} → P F)
    (h : all c A I (unitS I v8 v9 v11 v14 v17 j b S) ⊢ W 𝒱 c E (k ⟨⟩) Q) :
    all c A I S ⊢ W 𝒱 c E (unitP A v8 v9 v11 v14 v17 j b ⟨⟩ k) Q := by
  unfold unitP
  refine ld2 𝒱 c E A I S Q _ _ _ ?_
  refine ld13 𝒱 c E A I _ Q _ _ _ ?_
  refine st13 𝒱 c E A I _ _ Q _ _ _ _ ?_
  refine ld20 𝒱 c E A I _ Q _ _ _ ?_
  refine ld20 𝒱 c E A I _ Q _ _ _ ?_
  refine st20 𝒱 c E A I _ _ Q _ _ _ _ ?_
  refine ld18 𝒱 c E A I _ Q _ _ _ ?_
  refine st18 𝒱 c E A I _ _ Q _ _ _ _ ?_
  refine ld19 𝒱 c E A I _ Q _ _ _ ?_
  refine st19 𝒱 c E A I _ _ Q _ _ _ _ ?_
  refine Eq.mp ?_ h
  sl_kernel_rfl

theorem time_step (Q : PUnit.{1} → sProp 𝕄) (j : Fin 4) (s : Fin 64) (p : St F × FVec F S8x128 .f32) (k : FVec F S8x128 .f32 → P F)
    (h : all c A I (stepS j s p).1 ⊢ W 𝒱 c E (k (stepS j s p).2) Q) :
    all c A I p.1 ⊢ W 𝒱 c E (stepP A j s p.2 k) Q := by
  unfold stepP
  refine ld18 𝒱 c E A I _ Q _ _ _ ?_
  refine ld19 𝒱 c E A I _ Q _ _ _ ?_
  refine ld19 𝒱 c E A I _ Q _ _ _ ?_
  refine st19 𝒱 c E A I _ _ Q _ _ _ _ ?_
  exact h

theorem out_step (Q : PUnit.{1} → sProp 𝕄) (j : Fin 4) (b : Fin 8) (S : St F) (k : PUnit.{1} → P F)
    (h : all c A I (outS j b S) ⊢ W 𝒱 c E (k ⟨⟩) Q) : all c A I S ⊢ W 𝒱 c E (outP A j b ⟨⟩ k) Q := by
  unfold outP
  refine ld19 𝒱 c E A I _ Q _ _ _ ?_
  refine ld11 𝒱 c E A I _ Q _ _ _ ?_
  refine st11 𝒱 c E A I _ _ Q _ _ _ _ ?_
  exact h

theorem head_step (Q : PUnit.{1} → sProp 𝕄) (j : Fin 4) (S : St F) (k : PUnit.{1} → P F)
    (h : all c A I (headS i I j S) ⊢ W 𝒱 c E (k ⟨⟩) Q) : all c A I S ⊢ W 𝒱 c E (headP A i j ⟨⟩ k) Q := by
  unfold headP
  refine ld16 𝒱 c E A I _ Q _ _ _ ?_
  refine ld15 𝒱 c E A I _ Q _ _ _ ?_
  refine upto_step' 𝒱 c E A I Q _ _ (fun b S k hk => unit_step 𝒱 c E A I Q _ _ _ _ _ j b S k hk) 8 le_rfl _ _ ?_
  refine ld17 𝒱 c E A I _ Q _ _ _ ?_
  refine upto_step 𝒱 c E A I Q _ _ (fun s p k hk => time_step 𝒱 c E A I Q j s p k hk) 64 le_rfl (unitsS i I j S, _) _ ?_
  refine ld17 𝒱 c E A I _ Q _ _ _ ?_
  refine st17 𝒱 c E A I _ _ Q _ _ _ _ ?_
  exact upto_step' 𝒱 c E A I Q _ _ (fun b S k hk => out_step 𝒱 c E A I Q j b S k hk) 8 le_rfl _ _ h

theorem ret_step (Q : PUnit.{1} → sProp 𝕄) (S : St F) (h : all c A I S ⊢ Q ⟨⟩) : all c A I S ⊢ W 𝒱 c E (.ret ⟨⟩) Q :=
  h.trans (le_wp_ret _ _ _ _ _)

theorem bind_step (Q : PUnit.{1} → sProp 𝕄) (p : P F) (k : PUnit.{1} → P F) (S S' : St F)
    (hp : ∀ Q : PUnit → sProp 𝕄, (all c A I S' ⊢ Q ⟨⟩) → all c A I S ⊢ W 𝒱 c E p Q)
    (hk : all c A I S' ⊢ W 𝒱 c E (k ⟨⟩) Q) : all c A I S ⊢ W 𝒱 c E (Prog.bind p k) Q := by
  have e := wp_bind frame (wpE (defs₀ (F := F)) 𝒱 (c : Thread nD τ) none) E p k Q
  exact (hp _ hk).trans (le_of_eq e.symm)

theorem start_step (Q : PUnit.{1} → sProp 𝕄) (S : St F) (h : all c A I (startS i I S) ⊢ Q ⟨⟩) : all c A I S ⊢ W 𝒱 c E (startP A i) Q := by
  unfold startP
  unfold startS at h
  by_cases h1 : cond1 i = 1#1
  · rw [dif_pos h1]; rw [if_pos h1] at h
    refine ld10 𝒱 c E A I _ Q _ _ _ ?_
    refine ld16 𝒱 c E A I _ Q _ _ _ ?_
    refine st16 𝒱 c E A I _ _ Q _ _ _ _ ?_
    refine ld3 𝒱 c E A I _ Q _ _ _ ?_
    refine ld17 𝒱 c E A I _ Q _ _ _ ?_
    refine st17 𝒱 c E A I _ _ Q _ _ _ _ ?_
    refine ld20 𝒱 c E A I _ Q _ _ _ ?_
    refine st20 𝒱 c E A I _ _ Q _ _ _ _ ?_
    exact ret_step 𝒱 c E A I Q _ h
  · rw [dif_neg h1]; rw [if_neg h1] at h
    exact ret_step 𝒱 c E A I Q _ h

theorem prep_step (Q : PUnit.{1} → sProp 𝕄) (h2 : k0_cond2 i = 1#1) (t : Fin k0_t1_loop.trips) (S : St F)
    (h : all c A I (prepS i I h2 t S) ⊢ Q ⟨⟩) : all c A I S ⊢ W 𝒱 c E (prepP A i h2 t) Q := by
  unfold prepP
  refine ld4 𝒱 c E A I _ Q _ _ _ ?_
  refine ld7 𝒱 c E A I _ Q _ _ _ ?_
  refine ld5 𝒱 c E A I _ Q _ _ _ ?_
  refine ld8 𝒱 c E A I _ Q _ _ _ ?_
  refine ld6 𝒱 c E A I _ Q _ _ _ ?_
  refine ld9 𝒱 c E A I _ Q _ _ _ ?_
  refine ld15 𝒱 c E A I _ Q _ _ _ ?_
  refine st15 𝒱 c E A I _ _ Q _ _ _ _ ?_
  exact ret_step 𝒱 c E A I Q _ h

theorem weights_step (Q : PUnit.{1} → sProp 𝕄) (S : St F) (h : all c A I (weightsS i I S) ⊢ Q ⟨⟩) : all c A I S ⊢ W 𝒱 c E (weightsP A i) Q := by
  unfold weightsP
  unfold weightsS at h
  by_cases h2 : k0_cond2 i = 1#1
  · rw [dif_pos h2]; rw [dif_pos h2] at h
    have := Scf.wp_for frame (wpE (defs₀ (F := F)) 𝒱 (c : Thread nD τ) none) E _ _ _ (k0_t1_ok i h2) PUnit.unit (fun t _ => prepP A i h2 t)
      (fun n _ => iprop(∃ hn : n ≤ k0_t1_loop.trips, all c A I (fold (prepS i I h2) n hn S))) (fun t _ => by
        iintro ⟨%hn, H⟩
        iapply (prep_step 𝒱 c E A I i _ h2 t (fold (prepS i I h2) t.val hn S) (by
          iintro H; iexists t.isLt; iexact H))
        iexact H) (Q := Q)
    refine BIBase.Entails.trans ?_ this
    iintro H
    isplitl [H]
    · iexists Nat.zero_le _; iexact H
    · iintro %_ ⟨%hn, H⟩
      iapply h
      iexact H
  · rw [dif_neg h2]; rw [dif_neg h2] at h
    exact ret_step 𝒱 c E A I Q _ h

theorem scales_step (Q : PUnit.{1} → sProp 𝕄) (S : St F) (h : all c A I (scalesS i S) ⊢ Q ⟨⟩) : all c A I S ⊢ W 𝒱 c E (scalesP A i) Q := by
  unfold scalesP
  unfold scalesS at h
  by_cases h3 : k0_cond3 i = 1#1
  · rw [dif_pos h3]; rw [if_pos h3] at h
    refine ld20 𝒱 c E A I _ Q _ _ _ ?_
    refine ld14 𝒱 c E A I _ Q _ _ _ ?_
    refine st14 𝒱 c E A I _ _ Q _ _ _ _ ?_
    exact ret_step 𝒱 c E A I Q _ h
  · rw [dif_neg h3]; rw [if_neg h3] at h
    exact ret_step 𝒱 c E A I Q _ h

theorem final_step (Q : PUnit.{1} → sProp 𝕄) (S : St F) (h : all c A I (finalS i S) ⊢ Q ⟨⟩) : all c A I S ⊢ W 𝒱 c E (finalP A i) Q := by
  unfold finalP
  unfold finalS at h
  by_cases h4 : k0_cond4 i = 1#1
  · rw [dif_pos h4]; rw [if_pos h4] at h
    refine ld17 𝒱 c E A I _ Q _ _ _ ?_
    refine ld12 𝒱 c E A I _ Q _ _ _ ?_
    refine st12 𝒱 c E A I _ _ Q _ _ _ _ ?_
    exact ret_step 𝒱 c E A I Q _ h
  · rw [dif_neg h4]; rw [if_neg h4] at h
    exact ret_step 𝒱 c E A I Q _ h

set_option maxRecDepth 1000000 in
theorem main_step (Q : PUnit.{1} → sProp 𝕄) (S : St F) (h : all c A I (finalS i (scalesS i (fold (headS i I) 4 le_rfl S))) ⊢ Q ⟨⟩) :
    all c A I S ⊢ W 𝒱 c E (mainP A i) Q :=
  upto_step' 𝒱 c E A I Q (headP A i) (headS i I) (fun j S k hk => head_step 𝒱 c E A I i Q j S k hk) 4 le_rfl S
    (fun _ => Prog.bind (scalesP A i) fun _ => finalP A i)
    (bind_step 𝒱 c E A I Q _ _ _ (scalesS i (fold (headS i I) 4 le_rfl S)) (fun Q hQ => scales_step 𝒱 c E A I i Q _ hQ)
      (final_step 𝒱 c E A I i Q _ h))

/-- One point of the grid: from any contents of the outputs and the scratch to `bodyS` of them, the inputs as they were. -/
theorem body_step (Q : PUnit.{1} → sProp 𝕄) (S : St F) (h : all c A I (bodyS i I S) ⊢ Q ⟨⟩) : all c A I S ⊢ W 𝒱 c E (A.run i) Q := by
  rw [run_eq]
  exact bind_step 𝒱 c E A I Q (startP A i) _ S (startS i I S) (fun Q hQ => start_step 𝒱 c E A I i Q S hQ)
    (bind_step 𝒱 c E A I Q (weightsP A i) _ _ (weightsS i I (startS i I S)) (fun Q hQ => weights_step 𝒱 c E A I i Q _ hQ)
      (main_step 𝒱 c E A I i Q _ h))

end Cert.Kernel.Own
-- ==== Proof.Points.lean ====
module

public import proofs.«01_k».proof.Proof.Triple
public import proofs.«01_k».proof.Proof.Gen.Kernel.Frame

@[expose] public section
set_option maxRecDepth 16384
noncomputable section
namespace Cert.Kernel.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The buffers a point of the grid is run with. -/
def argsAt (t : Fin cfg0.N) : Args :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _⟩

theorem run_argsAt (t : Fin cfg0.N) : (argsAt t).run (F := F) (grid0.coords t) = bodyAt0 t := rfl

/-- What the inputs' buffers hold at a point of the grid. -/
def inAt (c : Dev nD) (t : Fin cfg0.N) : In F :=
  ⟨iblk m c 0 t, iblk m c 1 t, iblk m c 2 t, iblk m c 3 t, iblk m c 4 t, iblk m c 5 t, iblk m c 6 t, iblk m c 7 t, iblk m c 8 t⟩

/-- The scratch buffers at a state. -/
def held (c : Dev nD) (S : St F) : sProp 𝕄 :=
  iprop(owns (c : Thread nD τ) (Memref.whole cc0_scratch0) fullShare S.w
    ∗ owns (c : Thread nD τ) (Memref.whole cc0_scratch1) fullShare S.k
    ∗ owns (c : Thread nD τ) (Memref.whole cc0_scratch2) fullShare S.h
    ∗ owns (c : Thread nD τ) (Memref.whole cc0_scratch3) fullShare S.a
    ∗ owns (c : Thread nD τ) (Memref.whole cc0_scratch4) fullShare S.u
    ∗ owns (c : Thread nD τ) (Memref.whole cc0_scratch5) fullShare S.sc)

/-- The pipeline's own rest is the scratch buffers at some state, and the generator register. -/
theorem rest_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Any state at all. -/
def anySt : St F := ⟨fun _ => Scalar.ofBits .bf16 0x0000#16,
    fun _ => Scalar.ofBits .f32 0x00000000#32,
    fun _ => Scalar.ofBits .fp8e4m3 0x00#8,
    fun _ => Scalar.ofBits .f32 0x00000000#32,
    fun _ => Scalar.ofBits .bf16 0x0000#16,
    fun _ => Scalar.ofBits .f32 0x00000000#32,
    fun _ => Scalar.ofBits .f32 0x00000000#32,
    fun _ => Scalar.ofBits .f32 0x00000000#32,
    fun _ => Scalar.ofBits .f32 0x00000000#32,
    fun _ => Scalar.ofBits .f32 0x00000000#32⟩

theorem rest_held (c : Dev nD) : (Pipeline.ΦA spec0 c : sProp 𝕄) ⊢ iprop((∃ S : St F, held c S) ∗ (∃ r, prngReg c r)) := by
  rw [rest_eq]
  iintro ⟨⟨⟨%d0, H0⟩, ⟨%d1, H1⟩, ⟨%d2, H2⟩, ⟨%d3, H3⟩, ⟨%d4, H4⟩, ⟨%d5, H5⟩⟩, Hg⟩
  isplitr [Hg]
  · iexists { (anySt : St F) with w := d0, k := d1, h := d2, a := d3, u := d4, sc := d5 }
    unfold held
    isplitl [H0]; · iexact H0
    isplitl [H1]; · iexact H1
    isplitl [H2]; · iexact H2
    isplitl [H3]; · iexact H3
    isplitl [H4]; · iexact H4
    iexact H5
  · iexact Hg

theorem held_rest (c : Dev nD) : iprop((∃ S : St F, held c S) ∗ (∃ r, prngReg c r)) ⊢ (Pipeline.ΦA spec0 c : sProp 𝕄) := by
  rw [rest_eq]
  unfold held
  iintro ⟨⟨%S, H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hg

/-- `body_step` with what is left to do as a wand. -/
theorem bind_frame (𝒱 : Variants) (c : Dev nD) (A : Args) (I : In F) (i : grid0.Coords) (S : St F) (Q : PUnit.{1} → sProp 𝕄) :
    iprop(all c A I S ∗ (all c A I (bodyS i I S) -∗ Q ⟨⟩)) ⊢ W 𝒱 c Set.univ (A.run i) Q := by
  have h := body_step 𝒱 c Set.univ A I i (fun _ => all c A I (bodyS i I S)) S .rfl
  have e : ∀ x : PUnit.{1}, iprop(all c A I (bodyS i I S) ∗ (all c A I (bodyS i I S) -∗ Q ⟨⟩)) ⊢ Q x := fun x => by
    iintro ⟨H, HQ⟩
    iapply HQ; iexact H
  exact BIBase.Entails.trans (sep_mono h .rfl)
    (BIBase.Entails.trans (wp_frame frame (wpE (defs₀ (F := F)) 𝒱 (c : Thread nD τ) none) Set.univ (A.run i)).frame
      ((wp frame (wpE (defs₀ (F := F)) 𝒱 (c : Thread nD τ) none) Set.univ (A.run i)).mono e))

/-- A point of the grid, its buffers one by one. -/
theorem point_step (𝒱 : Variants) (c : Dev nD) (t : Fin cfg0.N) (S : St F) (Q : PUnit.{1} → sProp 𝕄) :
    iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare S.y
    ∗ owns (c : Thread nD τ) (st0_10 t) fullShare S.hf
    ∗ owns (c : Thread nD τ) (st0_11 t) fullShare S.xc
    ∗ owns (c : Thread nD τ) (st0_12 t) fullShare S.xs
    ∗ held c S ∗ (owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (bodyS (grid0.coords t) (inAt m c t) S).y
    ∗ owns (c : Thread nD τ) (st0_10 t) fullShare (bodyS (grid0.coords t) (inAt m c t) S).hf
    ∗ owns (c : Thread nD τ) (st0_11 t) fullShare (bodyS (grid0.coords t) (inAt m c t) S).xc
    ∗ owns (c : Thread nD τ) (st0_12 t) fullShare (bodyS (grid0.coords t) (inAt m c t) S).xs
    ∗ held c (bodyS (grid0.coords t) (inAt m c t) S) -∗ Q ⟨⟩))
    ⊢ wp frame (wpE (defs₀ (F := F)) 𝒱 (c : Thread nD τ) none) Set.univ (bodyAt0 t) Q := by
  rw [← run_argsAt]
  unfold held
  iintro ⟨H0, H1, H2, H3, H4, H5, H6, H7, H8, H9, H10, H11, H12, ⟨H13, H14, H15, H16, H17, H18⟩, HQ⟩
  iapply (bind_frame 𝒱 c (argsAt t) (inAt m c t) (grid0.coords t) S Q)
  isplitr [HQ]
  · unfold all
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro H
    unfold all
    icases H with ⟨H0, H1, H2, H3, H4, H5, H6, H7, H8, H9, H10, H11, H12, H13, H14, H15, H16, H17, H18⟩
    iapply HQ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.Kernel.Own
-- ==== Proof.Ends.lean ====
module

public import proofs.«01_k».proof.Proof.Points

@[expose] public section
set_option maxRecDepth 16384
noncomputable section
namespace Cert.Kernel.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The run, with nothing said of the outputs -/

def loose : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true

/-- The inputs' buffers at their blocks; of the outputs and of the scratch nothing is said. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (anySt : St F).y
    | ⟨10, _⟩ => (anySt : St F).hf
    | ⟨11, _⟩ => (anySt : St F).xc
    | ⟨12, _⟩ => (anySt : St F).xs
  Φ _ := Pipeline.ΦA spec0 c
  q _ := fullShare
  owed _ := 0

theorem datF_A (c : Dev nD) (w : Fin cfg0.W) : (datF m 0 c).A w = V m c (Pipeline.arrRef spec0 w) := by
  dsimp only [datF]

theorem foundF_0 (c : Dev nD) (t : Fin cfg0.N) (d) : (datF m 0 c).before 0 t d = iblk m c 0 t :=
  before0_0_of m (datF m 0 c) (datF_A m c 0) (fun t => by dsimp only [datF]) t d
theorem foundF_1 (c : Dev nD) (t : Fin cfg0.N) (d) : (datF m 0 c).before 1 t d = iblk m c 1 t :=
  before0_1_of m (datF m 0 c) (datF_A m c 1) (fun t => by dsimp only [datF]) t d
theorem foundF_2 (c : Dev nD) (t : Fin cfg0.N) (d) : (datF m 0 c).before 2 t d = iblk m c 2 t :=
  before0_2_of m (datF m 0 c) (datF_A m c 2) (fun t => by dsimp only [datF]) t d
theorem foundF_3 (c : Dev nD) (t : Fin cfg0.N) (d) : (datF m 0 c).before 3 t d = iblk m c 3 t :=
  before0_3_of m (datF m 0 c) (datF_A m c 3) (fun t => by dsimp only [datF]) t d
theorem foundF_4 (c : Dev nD) (t : Fin cfg0.N) (d) : (datF m 0 c).before 4 t d = iblk m c 4 t :=
  before0_4_of m (datF m 0 c) (datF_A m c 4) (fun t => by dsimp only [datF]) t d
theorem foundF_5 (c : Dev nD) (t : Fin cfg0.N) (d) : (datF m 0 c).before 5 t d = iblk m c 5 t :=
  before0_5_of m (datF m 0 c) (datF_A m c 5) (fun t => by dsimp only [datF]) t d
theorem foundF_6 (c : Dev nD) (t : Fin cfg0.N) (d) : (datF m 0 c).before 6 t d = iblk m c 6 t :=
  before0_6_of m (datF m 0 c) (datF_A m c 6) (fun t => by dsimp only [datF]) t d
theorem foundF_7 (c : Dev nD) (t : Fin cfg0.N) (d) : (datF m 0 c).before 7 t d = iblk m c 7 t :=
  before0_7_of m (datF m 0 c) (datF_A m c 7) (fun t => by dsimp only [datF]) t d
theorem foundF_8 (c : Dev nD) (t : Fin cfg0.N) (d) : (datF m 0 c).before 8 t d = iblk m c 8 t :=
  before0_8_of m (datF m 0 c) (datF_A m c 8) (fun t => by dsimp only [datF]) t d

def preF (c : Dev nD) (t : Fin cfg0.N) : sProp 𝕄 :=
  iprop(Pipeline.ΦA spec0 c ∗ (datF m 0 c).owesAt () t.castSucc
    ∗ (∃ d, owns (c : Thread nD τ) (st0_0 t) fullShare ((datF m 0 c).before 0 t d))
    ∗ (∃ d, owns (c : Thread nD τ) (st0_1 t) fullShare ((datF m 0 c).before 1 t d))
    ∗ (∃ d, owns (c : Thread nD τ) (st0_2 t) fullShare ((datF m 0 c).before 2 t d))
    ∗ (∃ d, owns (c : Thread nD τ) (st0_3 t) fullShare ((datF m 0 c).before 3 t d))
    ∗ (∃ d, owns (c : Thread nD τ) (st0_4 t) fullShare ((datF m 0 c).before 4 t d))
    ∗ (∃ d, owns (c : Thread nD τ) (st0_5 t) fullShare ((datF m 0 c).before 5 t d))
    ∗ (∃ d, owns (c : Thread nD τ) (st0_6 t) fullShare ((datF m 0 c).before 6 t d))
    ∗ (∃ d, owns (c : Thread nD τ) (st0_7 t) fullShare ((datF m 0 c).before 7 t d))
    ∗ (∃ d, owns (c : Thread nD τ) (st0_8 t) fullShare ((datF m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

def postF (c : Dev nD) (t : Fin cfg0.N) : sProp 𝕄 :=
  iprop(Pipeline.ΦA spec0 c ∗ (datF m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

theorem bodyF (c : Dev nD) (t : Fin cfg0.N) :
    preF m c t ⊢ wp frame (wpE (defs₀ (F := F)) Variants.none c none) Set.univ (bodyAt0 t) (fun _ => postF m c t) := by
  unfold preF postF
  simp only [foundF_0, foundF_1, foundF_2, foundF_3, foundF_4, foundF_5, foundF_6, foundF_7, foundF_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HΦ := (rest_held c) $$ HΦ
  icases HΦ with ⟨⟨%S, HS⟩, Hg⟩
  iapply (point_step m Variants.none c t { S with y := d9, hf := d10, xc := d11, xs := d12 } _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · iapply (held_rest c)
    isplitl [HS]; · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

theorem row (t : Fin cfg0.N) : defs₀ (F := F) .tc cfg0.body (cfg0.bodyArgs t (cfg0.slots t)) = bodyAt0 t := by
  unfold defs₀; rw [Defs.onTc_tc]

theorem obligationF (c : Dev nD) : BodyObligation (datF (F := F) m 0 c) (defs₀ (F := F)) Variants.none () Set.univ loose := fun t => by
  rw [bigSep_W0, bigSep_W0, row]
  exact triple_restated (bodyF m c t) rfl .rfl fun _ => .rfl

set_option backward.isDefEq.respectTransparency.types false in
set_option maxHeartbeats 800000 in
/-- Every run of the program ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_frame_around_T_track_forget (Q' := _) cfgs (datF m) (0 : Fin 1) launch0 defs₀ Variants.none loose {main_v10, main_v11} m ρ main
    (hbody := fun c => (obligationF m c).loose) (hshare := fun c => (datF m 0 c).share_full fun _ => rfl)
    (howed := fun _ _ => rfl) (V₀ := V0 m) (opss := [hostOps1]) (hsub := sfx_sub) (hfresh := sfx_fresh) (hkeep := sfx_keeps)
    (hT := by
      intro ops hops op hop b hb
      rw [List.mem_singleton] at hops; subst hops
      simp only [hostOps1, List.mem_cons, List.not_mem_nil, or_false] at hop
      rcases hop with rfl | rfl <;>
        simp only [StableHlo.unary_writes, StableHlo.reshape_writes, Finset.mem_singleton] at hb <;>
        simp only [Finset.mem_insert, Finset.mem_singleton]
      · exact .inl (Proc.devRef_injective _ hb)
      · exact .inr (Proc.devRef_injective _ hb))
    (hmain := hmain m Variants.none) (hA := datF_A m) (hin := fun _ => .rfl) (hout := fun _ => .rfl)
    (hQ' := fun r h => ⟨fun c => by
      have h0 := (h.1 c).1 0
      rw [RDat.ArrAt_in _ 0 rfl] at h0
      have hr : ∀ b : Ref sig .tc, b ∈ Pipeline.restRefs sig spec0 \ {main_v10, main_v11} →
        r.2.mem ((c.tc : Thread nD τ).loc b) = V m c b := (h.1 c).2
      exact ⟨h0.trans (V_main_arg0 m c),
        (hr main_arg1 (Finset.mem_sdiff.mpr ⟨Pipeline.mem_restRefs_of main_arg1 (by decide) (by decide), by decide⟩)).trans (V_main_arg1 m c),
        (hr main_arg2 (Finset.mem_sdiff.mpr ⟨Pipeline.mem_restRefs_of main_arg2 (by decide) (by decide), by decide⟩)).trans (V_main_arg2 m c),
        (hr main_arg3 (Finset.mem_sdiff.mpr ⟨Pipeline.mem_restRefs_of main_arg3 (by decide) (by decide), by decide⟩)).trans (V_main_arg3 m c),
        (hr main_arg4 (Finset.mem_sdiff.mpr ⟨Pipeline.mem_restRefs_of main_arg4 (by decide) (by decide), by decide⟩)).trans (V_main_arg4 m c),
        (hr main_arg5 (Finset.mem_sdiff.mpr ⟨Pipeline.mem_restRefs_of main_arg5 (by decide) (by decide), by decide⟩)).trans (V_main_arg5 m c),
        (hr main_arg6 (Finset.mem_sdiff.mpr ⟨Pipeline.mem_restRefs_of main_arg6 (by decide) (by decide), by decide⟩)).trans (V_main_arg6 m c),
        (hr main_arg7 (Finset.mem_sdiff.mpr ⟨Pipeline.mem_restRefs_of main_arg7 (by decide) (by decide), by decide⟩)).trans (V_main_arg7 m c),
        (hr main_arg8 (Finset.mem_sdiff.mpr ⟨Pipeline.mem_restRefs_of main_arg8 (by decide) (by decide), by decide⟩)).trans (V_main_arg8 m c)⟩, h.2⟩)

end Cert.Kernel.Own
-- ==== Proof.Ideal.Body.lean ====
module

public import proofs.«01_k».proof.Proof.Gen.KernelIdeal

@[expose] public section
set_option maxRecDepth 16384
set_option synthInstance.maxSize 4096
noncomputable section
namespace Cert.KernelIdeal.Own
open Idealize.ShloMosaic Idealize.SL.Sem
open Idealize.ShloMosaic.TcCoe
open Cert.KernelIdeal.Facts₀ Cert.KernelIdeal.Facts

variable {F : FTy → Type} [FloatOps F] [Named F]

/-- The nineteen buffers one point of the grid works on, each a whole memory reference. -/
structure Args where
  arg2 : Memref sig .tc .vmem S8x64x512 .bf16
  harg2 : arg2.IsWhole
  arg3 : Memref sig .tc .vmem S48x8x128 .f32
  harg3 : arg3.IsWhole
  arg4 : Memref sig .tc .vmem S48x128x128 .fp8e4m3
  harg4 : arg4.IsWhole
  arg5 : Memref sig .tc .vmem S48x1x128 .f32
  harg5 : arg5.IsWhole
  arg6 : Memref sig .tc .vmem S48x1x128 .f32
  harg6 : arg6.IsWhole
  arg7 : Memref sig .tc .vmem S48x128x128 .fp8e4m3
  harg7 : arg7.IsWhole
  arg8 : Memref sig .tc .vmem S48x1x128 .f32
  harg8 : arg8.IsWhole
  arg9 : Memref sig .tc .vmem S48x1x128 .f32
  harg9 : arg9.IsWhole
  arg10 : Memref sig .tc .vmem S48x1x128 .f32
  harg10 : arg10.IsWhole
  arg11 : Memref sig .tc .vmem S8x64x512 .bf16
  harg11 : arg11.IsWhole
  arg12 : Memref sig .tc .vmem S48x8x128 .f32
  harg12 : arg12.IsWhole
  arg13 : Memref sig .tc .vmem S8x64x512 .fp8e4m3
  harg13 : arg13.IsWhole
  arg14 : Memref sig .tc .vmem S8x64x48 .f32
  harg14 : arg14.IsWhole
  arg15 : Memref sig .tc .vmem S48x512x256 .bf16
  harg15 : arg15.IsWhole
  arg16 : Memref sig .tc .vmem S48x1x128 .f32
  harg16 : arg16.IsWhole
  arg17 : Memref sig .tc .vmem S48x8x128 .f32
  harg17 : arg17.IsWhole
  arg18 : Memref sig .tc .vmem S4x576x128 .f32
  harg18 : arg18.IsWhole
  arg19 : Memref sig .tc .vmem S4x576x128 .f32
  harg19 : arg19.IsWhole
  arg20 : Memref sig .tc .vmem S8x64x128 .f32
  harg20 : arg20.IsWhole

/-- The kernel's body over a bundle of buffers. -/
abbrev Args.run (A : Args) (i : grid0.Coords) : Prog (TpuEff nD τ sig (Elt F) Λ₀ .tc) PUnit :=
  cc0_rglru i A.arg2 A.harg2 A.arg3 A.harg3 A.arg4 A.harg4 A.arg5 A.harg5 A.arg6 A.harg6 A.arg7 A.harg7
    A.arg8 A.harg8 A.arg9 A.harg9 A.arg10 A.harg10 A.arg11 A.harg11 A.arg12 A.harg12 A.arg13 A.harg13
    A.arg14 A.harg14 A.arg15 A.harg15 A.arg16 A.harg16 A.arg17 A.harg17 A.arg18 A.harg18 A.arg19 A.harg19
    A.arg20 A.harg20

theorem inbX : ∀ (j : Fin 4) (b : Fin 8) (a : Fin 3),
    (![b.val, 0, 128 * j.val] : Fin 3 → Nat) a + S1x64x128.size a ≤ S8x64x512.size a := by decide
theorem inbS : ∀ (b : Fin 8) (a : Fin 3),
    (![b.val, 0, 0] : Fin 3 → Nat) a + S1x64x128.size a ≤ S8x64x128.size a := by decide
theorem inbT : ∀ (j : Fin 4) (b : Fin 8) (a : Fin 3), S1x64x128.size a = 0 ∨
    (![j.val, b.val, 0] : Fin 3 → Nat) a + (![1, 9, 1] : Fin 3 → Nat) a * (S1x64x128.size a - 1) < S4x576x128.size a := by
  decide
theorem inbR (j : Fin 4) (s : Fin 64) (a : Fin 3) :
    (![j.val, 9 * s.val, 0] : Fin 3 → Nat) a + S1x8x128.size a ≤ S4x576x128.size a := by
  revert a; revert s; revert j; decide

/-- The rows of batch `b` in the columns of the step's head `j`. -/
abbrev rX (j : Fin 4) (b : Fin 8) : Rect S8x64x512 :=
  Rect.unit (s := S8x64x512) ![b.val, 0, 128 * j.val] S1x64x128.size (inbX j b)
/-- The rows of batch `b`. -/
abbrev rS (b : Fin 8) : Rect S8x64x128 := Rect.unit (s := S8x64x128) ![b.val, 0, 0] S1x64x128.size (inbS b)
/-- Every ninth row from row `b` on, of head `j`. -/
abbrev lT (j : Fin 4) (b : Fin 8) : LoadRect S4x576x128 := ⟨![j.val, b.val, 0], S1x64x128.size, ![1, 9, 1], inbT j b⟩
abbrev rT (j : Fin 4) (b : Fin 8) : Rect S4x576x128 := ⟨lT j b, spos_1_9_1⟩
/-- The eight rows of time `s`, of head `j`. -/
abbrev rR (j : Fin 4) (s : Fin 64) : Rect S4x576x128 :=
  Rect.unit (s := S4x576x128) ![j.val, 9 * s.val, 0] S1x8x128.size (inbR j s)
abbrev rK (i : grid0.Coords) (j : Fin 4) : Rect S48x1x128 :=
  Rect.unit (s := S48x1x128) (k0_off4 i (BitVec.ofNat 32 j.val)) S1x1x128.size (k0_off4_inb i j)
abbrev rW (i : grid0.Coords) (j : Fin 4) : Rect S48x512x256 :=
  Rect.unit (s := S48x512x256) (k0_off5 i (BitVec.ofNat 32 j.val)) S1x512x256.size (k0_off5_inb i j)
abbrev rH (i : grid0.Coords) (j : Fin 4) : Rect S48x8x128 :=
  Rect.unit (s := S48x8x128) (k0_off6 i (BitVec.ofNat 32 j.val)) S1x8x128.size (k0_off6_inb i j)

theorem packed8 : ∀ (j : Fin 4) (b : Fin 8), (rX j b).PackedRows (EltTy.packing .fp8e4m3) := by decide
theorem packed16 : ∀ (j : Fin 4) (b : Fin 8), (rX j b).PackedRows (EltTy.packing .bf16) := by decide

/-! ## The values the body computes -/

/-- One step of the search for the exponent field: keep the bit if the number it makes is still at most `p`. -/
def bit (c : BitVec 32) (p : FVec F S64x128 .f32) (e : IVec S64x128 32) : IVec S64x128 32 :=
  select (cmpf .oge p (bitcastToFloat .f32 (ori e (broadcast S64x128 c)))) (ori e (broadcast S64x128 c)) e

/-- The exponent field of `p`, one bit at a time from the top. -/
def field (p : FVec F S64x128 .f32) : IVec S64x128 32 :=
  bit 8388608#32 p (bit 16777216#32 p (bit 33554432#32 p (bit 67108864#32 p (bit 134217728#32 p
    (bit 268435456#32 p (bit 536870912#32 p (bit 1073741824#32 p (broadcast S64x128 0#32))))))))

/-- A row's largest magnitude over 448, repeated along the row. -/
def rowMax (x : FVec F S64x128 .f32) : FVec F S64x128 .f32 :=
  broadcastTo S64x128 (shapeCast S64x1 (mulf (shapeCast S64x1 (multiReduction .maximumf [1] S64 (absf x) 0xFF800000#32
    reduces_S64x128_S64 (.inl rfl) rfl) shapeCasts_S64_S64x1) (broadcast S64x1 (Scalar.ofBits .f32 0x3B124925#32)))
    shapeCasts_S64x1_S64x1) broadcasts_S64x1_S64x128

/-- The scale with the given exponent field. -/
def scaleOf (e : IVec S64x128 32) : FVec F S64x128 .f32 :=
  bitcastToFloat .f32 (select (cmpi .sgt e (broadcast S64x128 0#32)) (addi e (broadcast S64x128 8388608#32))
    (broadcast S64x128 1065353216#32))

/-- Its reciprocal. -/
def invOf (e : IVec S64x128 32) : FVec F S64x128 .f32 :=
  bitcastToFloat .f32 (select (cmpi .sgt e (broadcast S64x128 0#32)) (subi (broadcast S64x128 2122317824#32) e)
    (broadcast S64x128 1065353216#32))

/-- The codes: scaled, clipped to ±448 and rounded to 8 bits. -/
def codesOf (x inv : FVec F S64x128 .f32) : FVec F S64x128 .fp8e4m3 :=
  truncf .fp8e4m3 (minimumf (broadcast S64x128 (Scalar.ofBits .f32 0x43E00000#32))
    (maximumf (broadcast S64x128 (Scalar.ofBits .f32 0xC3E00000#32)) (mulf x inv))) bitsLt_fp8e4m3_f32

/-- The row of ones the bias rows of the prepared weights meet. -/
def ones : FVec F S64x128 .bf16 := broadcast S64x128 (Scalar.ofBits .bf16 0x3F80#16)

/-- Both gates' arguments: the codes times their scale, three times over, and a row of ones, against the prepared weights. -/
def gates (c : FVec F S64x128 .fp8e4m3) (sc : FVec F S64x128 .f32) (one : FVec F S64x128 .bf16) (w : FVec F S512x256 .bf16) :
    FVec F S64x256 .f32 :=
  matmul dot_S64x512_S512x256_S64x256_1_0_0_1_n_n none
    (concatenate S64x512 1 [⟨S64x128, mulf (extf .bf16 c bitsLt_fp8e4m3_bf16) (truncf .bf16 sc bitsLt_bf16_f32)⟩,
      ⟨S64x128, mulf (extf .bf16 c bitsLt_fp8e4m3_bf16) (truncf .bf16 sc bitsLt_bf16_f32)⟩,
      ⟨S64x128, mulf (extf .bf16 c bitsLt_fp8e4m3_bf16) (truncf .bf16 sc bitsLt_bf16_f32)⟩, ⟨S64x128, one⟩]
      concatenates_S64x128_S64x128_S64x128_S64x128_S64x512_d1) w (constant S64x256 .f32 0x00000000#32)

/-- The decay of the state. -/
def decay (g : FVec F S64x256 .f32) (k : FVec F S1x128 .f32) : FVec F S64x128 .f32 :=
  exp2 (mulf (logistic (extractStridedSlice S64x128 ![0, 0] g slices_S64x256_o0_0_S64x128))
    (broadcastTo S64x128 k broadcasts_S1x128_S64x128))

/-- One less the square of the decay, kept above the floor. -/
def room (a : FVec F S64x128 .f32) : FVec F S64x128 .f32 :=
  maximumf (subf (broadcast S64x128 (Scalar.ofBits .f32 0x3F800000#32)) (mulf a a))
    (broadcast S64x128 (Named.named κ "floor" 0x02081CEA#32))

/-- The gated input of the state. -/
def drive (g : FVec F S64x256 .f32) (a x : FVec F S64x128 .f32) : FVec F S64x128 .f32 :=
  mulf (mulf (room a) (rsqrt (room a)))
    (mulf (logistic (extractStridedSlice S64x128 ![0, 128] g slices_S64x256_o0_128_S64x128)) x)

/-- The state after one time step. -/
def advance (a : Vec F S1x8x128 .f32) (h : FVec F S8x128 .f32) (u : Vec F S1x8x128 .f32) : FVec F S8x128 .f32 :=
  addf (mulf (shapeCast S8x128 a shapeCasts_S1x8x128_S8x128) h) (shapeCast S8x128 u shapeCasts_S1x8x128_S8x128)

/-- The rates from `lam`: minus the softplus of minus `lam`, times eight over the logarithm of two. -/
def rates (l : Vec F S48x1x128 .f32) : FVec F S48x1x128 .f32 :=
  shapeCast S48x1x128 (mulf (addf (maximumf (subf (broadcast S48x1x128 (Scalar.ofBits .f32 0x00000000#32))
      (shapeCast S48x1x128 l shapeCasts_S48x1x128_S48x1x128)) (broadcast S48x1x128 (Scalar.ofBits .f32 0x00000000#32)))
    (log1p (exp (subf (broadcast S48x1x128 (Scalar.ofBits .f32 0x00000000#32))
      (absf (shapeCast S48x1x128 l shapeCasts_S48x1x128_S48x1x128))))))
    (broadcast S48x1x128 (Named.named κ "decay" 0xC138AA3B#32))) shapeCasts_S48x1x128_S48x1x128

/-- What the kernel's text spells at a load of batch `b`'s rows. -/
abbrev xOf (v : Vec F S1x64x128 .bf16) : FVec F S64x128 .f32 :=
  extf .f32 (shapeCast S64x128 v shapeCasts_S1x64x128_S64x128) bitsLt_bf16_f32

/-! ## The body as one program -/

abbrev P (F : FTy → Type) [FloatOps F] := Prog (TpuEff nD τ sig (Elt F) Λ₀ .tc) PUnit

/-- Run `f` for `0 … n-1` on a value passed along, then `k`. -/
def upto {N : ℕ} {α : Type} {β : Type 1} (f : Fin N → α → (α → β) → β) : (n : ℕ) → n ≤ N → α → (α → β) → β
  | 0, _, a, k => k a
  | n + 1, h, a, k => upto f n (Nat.le_of_succ_le h) a (fun a' => f ⟨n, h⟩ a' k)

variable (A : Args) (i : grid0.Coords)

/-- Batch `b` of head `j`: quantise, the gates, and the two operands of the recurrence. -/
def unitP (v8 : FVec F S64x128 .bf16) (v9 : IVec S64x128 32) (v11 : BitVec 32) (v14 : FVec F S1x128 .f32) (v17 : FVec F S512x256 .bf16)
    (j : Fin 4) (b : Fin 8) (_ : PUnit.{1}) (k : PUnit.{1} → P F) : P F :=
  .op (.load A.arg2 (rX j b).toLoadRect (View.loadsAt_vmem h_S1x64x128)) fun v18 =>
  .op (.load A.arg13 (rX j b).toLoadRect (View.loadsAt_vmem h_S1x64x128)) fun _ =>
  .op (.store A.arg13 (rX j b) (shapeCast S1x64x128 (codesOf (xOf v18) (invOf (field (rowMax (xOf v18))))) shapeCasts_S64x128_S1x64x128)
    Finset.univ (View.stores_vmem h_S1x64x128 (A.harg13.storeExact_slice rfl _ (packed8 j b)) (fun _ => rfl)) (.inl rfl)) fun _ =>
  .op (.load A.arg20 (rS b).toLoadRect (View.loadsAt_vmem h_S1x64x128)) fun v92 =>
  .op (.load A.arg20 (rS b).toLoadRect (View.loadsAt_vmem h_S1x64x128)) fun _ =>
  .op (.store A.arg20 (rS b) (shapeCast S1x64x128 (select (cmpi .eq v9 (broadcast S64x128 v11)) (scaleOf (field (rowMax (xOf v18))))
      (shapeCast S64x128 v92 shapeCasts_S1x64x128_S64x128)) shapeCasts_S64x128_S1x64x128)
    Finset.univ (View.stores_vmem_bits_univ h_S1x64x128 rfl) (.inl rfl)) fun _ =>
  .op (.load A.arg18 (lT j b) (View.loadsAt_vmem h_S1x64x128)) fun _ =>
  .op (.store A.arg18 (rT j b) (shapeCast S1x64x128 (decay (gates (codesOf (xOf v18) (invOf (field (rowMax (xOf v18)))))
      (scaleOf (field (rowMax (xOf v18)))) v8 v17) v14) shapeCasts_S64x128_S1x64x128)
    Finset.univ (View.stores_vmem_bits_univ h_S1x64x128 rfl) (.inl rfl)) fun _ =>
  .op (.load A.arg19 (lT j b) (View.loadsAt_vmem h_S1x64x128)) fun _ =>
  .op (.store A.arg19 (rT j b) (shapeCast S1x64x128 (drive (gates (codesOf (xOf v18) (invOf (field (rowMax (xOf v18)))))
      (scaleOf (field (rowMax (xOf v18)))) v8 v17) (decay (gates (codesOf (xOf v18) (invOf (field (rowMax (xOf v18)))))
      (scaleOf (field (rowMax (xOf v18)))) v8 v17) v14) (xOf v18)) shapeCasts_S64x128_S1x64x128)
    Finset.univ (View.stores_vmem_bits_univ h_S1x64x128 rfl) (.inl rfl)) k

/-- Time step `s` of head `j`: advance the state and leave it where its input was. -/
def stepP (j : Fin 4) (s : Fin 64) (h : FVec F S8x128 .f32) (k : FVec F S8x128 .f32 → P F) : P F :=
  .op (.load A.arg18 (rR j s).toLoadRect (View.loadsAt_vmem h_S1x8x128)) fun va =>
  .op (.load A.arg19 (rR j s).toLoadRect (View.loadsAt_vmem h_S1x8x128)) fun vu =>
  .op (.load A.arg19 (rR j s).toLoadRect (View.loadsAt_vmem h_S1x8x128)) fun _ =>
  .op (.store A.arg19 (rR j s) (shapeCast S1x8x128 (advance va h vu) shapeCasts_S8x128_S1x8x128)
    Finset.univ (View.stores_vmem_bits_univ h_S1x8x128 rfl) (.inl rfl)) fun _ => k (advance va h vu)

/-- The states of batch `b` of head `j`, written out. -/
def outP (j : Fin 4) (b : Fin 8) (_ : PUnit.{1}) (k : PUnit.{1} → P F) : P F :=
  .op (.load A.arg19 (lT j b) (View.loadsAt_vmem h_S1x64x128)) fun v =>
  .op (.load A.arg11 (rX j b).toLoadRect (View.loadsAt_vmem h_S1x64x128)) fun _ =>
  .op (.store A.arg11 (rX j b) (shapeCast S1x64x128 (truncf .bf16 (shapeCast S64x128 v shapeCasts_S1x64x128_S64x128) bitsLt_bf16_f32)
      shapeCasts_S64x128_S1x64x128)
    Finset.univ (View.stores_vmem h_S1x64x128 (A.harg11.storeExact_slice rfl _ (packed16 j b)) (fun _ => rfl)) (.inl rfl)) k

/-- The number of head `j` of the step. -/
abbrev headNo (j : Fin 4) : BitVec 32 :=
  Scalar.addi (Scalar.muli (BitVec.ofNat 32 (i 1).val) 4#32) (BitVec.ofNat 32 j.val)

/-- Head `j` of the step. -/
def headP (j : Fin 4) (u : PUnit.{1}) (k : PUnit.{1} → P F) : P F :=
  .op (.load A.arg16 (rK i j).toLoadRect (View.loadsAt_vmem h_S1x1x128)) fun v13 =>
  .op (.load A.arg15 (rW i j).toLoadRect (View.loadsAt_vmem h_S1x512x256)) fun v16 =>
  upto (unitP A ones (iota .tc S64x128 32 [1] iota_S64x128_d1_w32) (headNo i j)
    (shapeCast S1x128 v13 shapeCasts_S1x1x128_S1x128) (shapeCast S512x256 v16 shapeCasts_S1x512x256_S512x256) j) 8 le_rfl (⟨⟩ : PUnit.{1}) fun _ =>
  .op (.load A.arg17 (rH i j).toLoadRect (View.loadsAt_vmem h_S1x8x128)) fun v875 =>
  upto (stepP A j) 64 le_rfl (shapeCast S8x128 v875 shapeCasts_S1x8x128_S8x128) fun h =>
  .op (.load A.arg17 (rH i j).toLoadRect (View.loadsAt_vmem h_S1x8x128)) fun _ =>
  .op (.store A.arg17 (rH i j) (shapeCast S1x8x128 h shapeCasts_S8x128_S1x8x128)
    Finset.univ (View.stores_vmem_bits_univ h_S1x8x128 rfl) (.inl rfl)) fun _ =>
  upto (outP A j) 8 le_rfl (⟨⟩ : PUnit.{1}) k

/-- The condition of the first point of the grid. -/
abbrev cond1 : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- On the first point: the rates, the first states, and no scales yet. -/
def startP : P F :=
  if h1 : cond1 i = 1#1 then
  .op (.load A.arg10 (Rect.unit (s := S48x1x128) ![0, 0, 0] S48x1x128.size inb_S48x1x128_S48x1x128_0_0_0).toLoadRect (View.loadsAt_vmem h_S48x1x128)) fun v5998 =>
  .op (.load A.arg16 (Rect.unit (s := S48x1x128) ![0, 0, 0] S48x1x128.size inb_S48x1x128_S48x1x128_0_0_0).toLoadRect (View.loadsAt_vmem h_S48x1x128)) fun _ =>
  .op (.store A.arg16 (Rect.unit (s := S48x1x128) ![0, 0, 0] S48x1x128.size inb_S48x1x128_S48x1x128_0_0_0) (rates v5998)
    Finset.univ (View.stores_vmem_bits_univ h_S48x1x128 rfl) (.inl rfl)) fun _ =>
  .op (.load A.arg3 (Rect.unit (s := S48x8x128) ![0, 0, 0] S48x8x128.size inb_S48x8x128_S48x8x128_0_0_0).toLoadRect (View.loadsAt_vmem h_S48x8x128)) fun v6015 =>
  .op (.load A.arg17 (Rect.unit (s := S48x8x128) ![0, 0, 0] S48x8x128.size inb_S48x8x128_S48x8x128_0_0_0).toLoadRect (View.loadsAt_vmem h_S48x8x128)) fun _ =>
  .op (.store A.arg17 (Rect.unit (s := S48x8x128) ![0, 0, 0] S48x8x128.size inb_S48x8x128_S48x8x128_0_0_0)
    (shapeCast S48x8x128 (shapeCast S48x8x128 v6015 shapeCasts_S48x8x128_S48x8x128) shapeCasts_S48x8x128_S48x8x128)
    Finset.univ (View.stores_vmem_bits_univ h_S48x8x128 rfl) (.inl rfl)) fun _ =>
  .op (.load A.arg20 (Rect.unit (s := S8x64x128) ![0, 0, 0] S8x64x128.size inb_S8x64x128_S8x64x128_0_0_0).toLoadRect (View.loadsAt_vmem h_S8x64x128)) fun _ =>
  .op (.store A.arg20 (Rect.unit (s := S8x64x128) ![0, 0, 0] S8x64x128.size inb_S8x64x128_S8x64x128_0_0_0)
    (shapeCast S8x64x128 (broadcast S8x64x128 (Scalar.ofBits .f32 0x00000000#32)) shapeCasts_S8x64x128_S8x64x128)
    Finset.univ (View.stores_vmem_bits_univ h_S8x64x128 rfl) (.inl rfl)) fun _ => .ret ⟨⟩
  else .ret ⟨⟩

/-- The first part of a gate's prepared weights, in three halves of the format's precision. -/
def wide (wa wx : Vec F S1x128x128 .fp8e4m3) (sa sx : Vec F S1x1x128 .f32) : FVec F S128x256 .f32 :=
  concatenate S128x256 1 [⟨S128x128, mulf (extf .f32 (shapeCast S128x128 wa shapeCasts_S1x128x128_S128x128) bitsLt_fp8e4m3_f32)
      (broadcastTo S128x128 (shapeCast S1x128 sa shapeCasts_S1x1x128_S1x128) broadcasts_S1x128_S128x128)⟩,
    ⟨S128x128, mulf (extf .f32 (shapeCast S128x128 wx shapeCasts_S1x128x128_S128x128) bitsLt_fp8e4m3_f32)
      (broadcastTo S128x128 (shapeCast S1x128 sx shapeCasts_S1x1x128_S1x128) broadcasts_S1x128_S128x128)⟩]
    concatenates_S128x128_S128x128_S128x256_d1

/-- A number less its rounding to 16 bits. -/
def left (w : FVec F S128x256 .f32) : FVec F S128x256 .f32 := subf w (extf .f32 (truncf .bf16 w bitsLt_bf16_f32) bitsLt_bf16_f32)
def leftRow (w : FVec F S1x256 .f32) : FVec F S1x256 .f32 := subf w (extf .f32 (truncf .bf16 w bitsLt_bf16_f32) bitsLt_bf16_f32)

/-- Put a row's rounding into row `r` of a block. -/
def rowInto (r : BitVec 32) (b : FVec F S1x256 .f32) (z : FVec F S128x256 .f32) : FVec F S128x256 .f32 :=
  select (cmpi .eq (iota .tc S128x256 32 [0] iota_S128x256_d0_w32) (broadcast S128x256 r))
    (broadcastTo S128x256 (shapeCast S1x256 (extf .f32 (truncf .bf16 b bitsLt_bf16_f32) bitsLt_bf16_f32) shapeCasts_S1x256_S1x256)
      broadcasts_S1x256_S128x256) z

/-- The two biases side by side. -/
def biases (ba bx : Vec F S1x1x128 .f32) : FVec F S1x256 .f32 :=
  concatenate S1x256 1 [⟨S1x128, shapeCast S1x128 ba shapeCasts_S1x1x128_S1x128⟩, ⟨S1x128, shapeCast S1x128 bx shapeCasts_S1x1x128_S1x128⟩]
    concatenates_S1x128_S1x128_S1x256_d1

/-- The prepared weights of one head. -/
def prepared (wa wx : Vec F S1x128x128 .fp8e4m3) (sa sx ba bx : Vec F S1x1x128 .f32) : Vec F S1x512x256 .bf16 :=
  shapeCast S1x512x256 (concatenate S512x256 0 [⟨S128x256, truncf .bf16 (wide wa wx sa sx) bitsLt_bf16_f32⟩,
    ⟨S128x256, truncf .bf16 (left (wide wa wx sa sx)) bitsLt_bf16_f32⟩,
    ⟨S128x256, truncf .bf16 (left (left (wide wa wx sa sx))) bitsLt_bf16_f32⟩,
    ⟨S128x256, truncf .bf16 (rowInto 2#32 (leftRow (leftRow (biases ba bx))) (rowInto 1#32 (leftRow (biases ba bx))
      (rowInto 0#32 (biases ba bx) (broadcast S128x256 (Scalar.ofBits .f32 0x00000000#32))))) bitsLt_bf16_f32⟩]
    concatenates_S128x256_S128x256_S128x256_S128x256_S512x256_d0) shapeCasts_S512x256_S1x512x256

abbrev rP1 (t : Fin k0_t1_loop.trips) (h2 : k0_cond2 i = 1#1) : Rect S48x128x128 :=
  Rect.unit (s := S48x128x128) (k0_off1 i t) S1x128x128.size (k0_off1_inb i t h2)
abbrev rP2 (t : Fin k0_t1_loop.trips) (h2 : k0_cond2 i = 1#1) : Rect S48x1x128 :=
  Rect.unit (s := S48x1x128) (k0_off2 i t) S1x1x128.size (k0_off2_inb i t h2)
abbrev rP3 (t : Fin k0_t1_loop.trips) (h2 : k0_cond2 i = 1#1) : Rect S48x512x256 :=
  Rect.unit (s := S48x512x256) (k0_off3 i t) S1x512x256.size (k0_off3_inb i t h2)

/-- Prepare the weights of one head. -/
def prepP (h2 : k0_cond2 i = 1#1) (t : Fin k0_t1_loop.trips) : P F :=
  .op (.load A.arg4 (rP1 i t h2).toLoadRect (View.loadsAt_vmem h_S1x128x128)) fun wa =>
  .op (.load A.arg7 (rP1 i t h2).toLoadRect (View.loadsAt_vmem h_S1x128x128)) fun wx =>
  .op (.load A.arg5 (rP2 i t h2).toLoadRect (View.loadsAt_vmem h_S1x1x128)) fun sa =>
  .op (.load A.arg8 (rP2 i t h2).toLoadRect (View.loadsAt_vmem h_S1x1x128)) fun sx =>
  .op (.load A.arg6 (rP2 i t h2).toLoadRect (View.loadsAt_vmem h_S1x1x128)) fun ba =>
  .op (.load A.arg9 (rP2 i t h2).toLoadRect (View.loadsAt_vmem h_S1x1x128)) fun bx =>
  .op (.load A.arg15 (rP3 i t h2).toLoadRect (View.loadsAt_vmem h_S1x512x256)) fun _ =>
  .op (.store A.arg15 (rP3 i t h2) (prepared wa wx sa sx ba bx) Finset.univ
    (View.stores_vmem h_S1x512x256 (A.harg15.storeExact_slice rfl _ (k0_off3_packedbf16 i t h2)) (fun _ => rfl)) (.inl rfl)) fun _ => .ret ⟨⟩

/-- In the first tile: prepare the weights of the step's four heads. -/
def weightsP : P F :=
  if h2 : k0_cond2 i = 1#1 then
    Scf.Loop.for k0_t1_loop (k0_t1_ok i h2) (⟨⟩ : PUnit.{1}) fun t _ => prepP A i h2 t
  else .ret ⟨⟩

/-- On the last step of a tile: the tile's scales go out. -/
def scalesP : P F :=
  if h3 : k0_cond3 i = 1#1 then
  .op (.load A.arg20 (Rect.unit (s := S8x64x128) ![0, 0, 0] S8x64x48.size inb_S8x64x128_S8x64x48_0_0_0).toLoadRect (View.loadsAt_vmem h_S8x64x48)) fun v =>
  .op (.load A.arg14 (Rect.unit (s := S8x64x48) ![0, 0, 0] S8x64x48.size inb_S8x64x48_S8x64x48_0_0_0).toLoadRect (View.loadsAt_vmem h_S8x64x48)) fun _ =>
  .op (.store A.arg14 (Rect.unit (s := S8x64x48) ![0, 0, 0] S8x64x48.size inb_S8x64x48_S8x64x48_0_0_0) v
    Finset.univ (View.stores_vmem_bits_univ h_S8x64x48 rfl) (.inl rfl)) fun _ => .ret ⟨⟩
  else .ret ⟨⟩

/-- On the last step of all: the last states go out. -/
def finalP : P F :=
  if h4 : k0_cond4 i = 1#1 then
  .op (.load A.arg17 (Rect.unit (s := S48x8x128) ![0, 0, 0] S48x8x128.size inb_S48x8x128_S48x8x128_0_0_0).toLoadRect (View.loadsAt_vmem h_S48x8x128)) fun v =>
  .op (.load A.arg12 (Rect.unit (s := S48x8x128) ![0, 0, 0] S48x8x128.size inb_S48x8x128_S48x8x128_0_0_0).toLoadRect (View.loadsAt_vmem h_S48x8x128)) fun _ =>
  .op (.store A.arg12 (Rect.unit (s := S48x8x128) ![0, 0, 0] S48x8x128.size inb_S48x8x128_S48x8x128_0_0_0) v
    Finset.univ (View.stores_vmem_bits_univ h_S48x8x128 rfl) (.inl rfl)) fun _ => .ret ⟨⟩
  else .ret ⟨⟩

/-- The straight-line middle and the two closing conditionals. -/
def mainP : P F :=
  upto (headP A i) 4 le_rfl (⟨⟩ : PUnit.{1}) fun _ =>
    Prog.bind (scalesP A i) fun _ => finalP A i

/-- The whole body. -/
def bodyP : P F := Prog.bind (startP A i) fun _ => Prog.bind (weightsP A i) fun _ => mainP A i

end Cert.KernelIdeal.Own
-- ==== Proof.Ideal.Rules.lean ====
module

public import proofs.«01_k».proof.Proof.Ideal.Body
public import proofs.«01_k».proof.Proof.Gen.KernelIdeal.Points
public import Idealize.ShloMosaic.Lib.Pipeline.FrameBody
public import Idealize.ShloMosaic.Lib.Tactic

@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Named F]
local notation "𝕄" => MT nD τ sig Unit (Elt F) ℕ (UR sig nD τ) ℕ

/-- A tensor with a rectangle's elements replaced. -/
def put {s : Shape} {e : EltTy} (r : Rect s) (w : r.shape.Idx → Elt F e) (T : s.Idx → Elt F e) : s.Idx → Elt F e :=
  fun y => match preimage? r.emb y with
    | some x => w x
    | none => T y

theorem put_in {s : Shape} {e : EltTy} (r : Rect s) (w : r.shape.Idx → Elt F e) (T : s.Idx → Elt F e) (x : r.shape.Idx) :
    put r w T (r.emb x) = w x := by
  unfold put; rw [preimage?_emb]

theorem put_out {s : Shape} {e : EltTy} (r : Rect s) (w : r.shape.Idx → Elt F e) (T : s.Idx → Elt F e) (y : s.Idx)
    (h : ∀ x, r.emb x ≠ y) : put r w T y = T y := by
  unfold put; rw [preimage?_eq_none h]

variable (𝒱 : Variants) (c : Dev nD) (E : Set ℕ)

/-- The weakest precondition of a program run by core `c`. -/
abbrev W {α : Type} (p : Prog (TpuEff nD τ sig (Elt F) Λ₀ .tc) α) (Q : α → sProp 𝕄) : sProp 𝕄 :=
  wp frame (wpE (defs₀ (F := F)) 𝒱 (c : Thread nD τ) none) E p Q

variable {sp : CoreSpace} {s : Shape} {e : EltTy} {α : Type}

theorem load_step (m : Memref sig .tc sp s e) (T : s.Idx → Elt F e) (R : sProp 𝕄) (r : LoadRect s) (hl : m.view.LoadsAt r)
    (k : (r.shape.Idx → Elt F e) → Prog (TpuEff nD τ sig (Elt F) Λ₀ .tc) α) (Q : α → sProp 𝕄)
    (h : iprop(owns (c : Thread nD τ) m fullShare T ∗ R) ⊢ W 𝒱 c E (k fun x => T (r.idx x)) Q) :
    iprop(owns (c : Thread nD τ) m fullShare T ∗ R) ⊢ W 𝒱 c E (.op (.load m r hl) k) Q := by
  unfold owns at h ⊢
  iintro ⟨⟨%f, %hf, H⟩, HR⟩
  iapply (wp_load (defs := defs₀ (F := F)) 𝒱 (c : Thread nD τ) none E (m := m) (r := r) (hl := hl) (k := k)
    (S := m.view.set) (f := f) (Finset.map_subset_map.mpr (Finset.subset_univ _))) $$ H
  iintro H
  have e1 : (m.view.readAt (Elt F) r f) = fun x => T (r.idx x) := by subst hf; rfl
  rw [e1]
  iapply h
  isplitl [H]
  · iexists f; isplitr; · ipureintro; exact hf
    iexact H
  · iexact HR

theorem store_step (m : Memref sig .tc sp s e) (T : s.Idx → Elt F e) (R : sProp 𝕄) (r : Rect s) (w : r.shape.Idx → Elt F e)
    (hx : (m.access r).Stores Finset.univ) (hm)
    (k : PUnit.{1} → Prog (TpuEff nD τ sig (Elt F) Λ₀ .tc) α) (Q : α → sProp 𝕄)
    (h : iprop(owns (c : Thread nD τ) m fullShare (put r w T) ∗ R) ⊢ W 𝒱 c E (k ⟨⟩) Q) :
    iprop(owns (c : Thread nD τ) m fullShare T ∗ R) ⊢ W 𝒱 c E (.op (.store m r w Finset.univ hx hm) k) Q := by
  unfold owns at h ⊢
  iintro ⟨⟨%f, %hf, H⟩, HR⟩
  iapply (wp_store (defs := defs₀ (F := F)) 𝒱 (c : Thread nD τ) none E (m := m) (r := r) (w := w) (Mk := Finset.univ)
    (hx := hx) (hm := hm) (k := k) (S := m.view.set) (f := f) (View.set_slice_subset _ r)) $$ H
  iintro H
  iapply h
  isplitl [H]
  · iexists _
    isplitr
    rotate_left
    · iexact H
    · ipureintro
      subst hf
      funext y
      by_cases hy : ∃ x, r.emb x = y
      · obtain ⟨x, rfl⟩ := hy
        rw [put_in]
        exact View.read_slice_write_emb r f w (Finset.mem_univ x)
      · rw [put_out r w _ y (fun x hx => hy ⟨x, hx⟩)]
        exact View.read_slice_write_of_not_mem r f w Finset.univ (by
          intro hm'; obtain ⟨x, -, hx'⟩ := Finset.mem_map.mp hm'; exact hy ⟨x, hx'⟩)
  · iexact HR

/-- Separating conjunctions may be reordered, as an equality. -/
instance sepComm.{v} {M : Type v} [RA M] : _root_.Std.Commutative (α := sProp M) BIBase.sep :=
  ⟨fun P Q => _root_.Std.Commutative.comm (op := fun P Q : sProp M => BI.sep P Q) P Q⟩

instance sepAssoc.{v} {M : Type v} [RA M] : _root_.Std.Associative (α := sProp M) BIBase.sep :=
  ⟨fun P Q R => _root_.Std.Associative.assoc (op := fun P Q : sProp M => BI.sep P Q) P Q R⟩

/-- What the input windows hold. -/
structure In (F : FTy → Type) where
  x : S8x64x512.Idx → Elt F .bf16
  h0 : S48x8x128.Idx → Elt F .f32
  wa : S48x128x128.Idx → Elt F .fp8e4m3
  sa : S48x1x128.Idx → Elt F .f32
  ba : S48x1x128.Idx → Elt F .f32
  wx : S48x128x128.Idx → Elt F .fp8e4m3
  sx : S48x1x128.Idx → Elt F .f32
  bx : S48x1x128.Idx → Elt F .f32
  lam : S48x1x128.Idx → Elt F .f32

/-- What the output windows and the scratch buffers hold. -/
structure St (F : FTy → Type) where
  y : S8x64x512.Idx → Elt F .bf16
  hf : S48x8x128.Idx → Elt F .f32
  xc : S8x64x512.Idx → Elt F .fp8e4m3
  xs : S8x64x48.Idx → Elt F .f32
  w : S48x512x256.Idx → Elt F .bf16
  k : S48x1x128.Idx → Elt F .f32
  h : S48x8x128.Idx → Elt F .f32
  a : S4x576x128.Idx → Elt F .f32
  u : S4x576x128.Idx → Elt F .f32
  sc : S8x64x128.Idx → Elt F .f32

/-- The nineteen buffers at their contents. -/
def all (A : Args) (I : In F) (S : St F) : sProp 𝕄 :=
  iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)

variable (A : Args) (I : In F) (S : St F) (k : PUnit.{1} → Prog (TpuEff nD τ sig (Elt F) Λ₀ .tc) α)

/-- The other eighteen. -/
def but2 : sProp 𝕄 := iprop(owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all2 : all c A I S = iprop(owns (c : Thread nD τ) A.arg2 fullShare I.x ∗ but2 c A I S) := by
  unfold all but2; ac_rfl
theorem ld2 (Q : α → sProp 𝕄) (r : LoadRect _) (hl : A.arg2.view.LoadsAt r) (k : (r.shape.Idx → Elt F _) → Prog (TpuEff nD τ sig (Elt F) Λ₀ .tc) α)
    (h : all c A I S ⊢ W 𝒱 c E (k fun x => I.x (r.idx x)) Q) : all c A I S ⊢ W 𝒱 c E (.op (.load A.arg2 r hl) k) Q := by
  rw [all2] at h ⊢; exact load_step 𝒱 c E _ _ _ _ _ _ _ h

/-- The other eighteen. -/
def but3 : sProp 𝕄 := iprop(owns (c : Thread nD τ) A.arg2 fullShare I.x
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all3 : all c A I S = iprop(owns (c : Thread nD τ) A.arg3 fullShare I.h0 ∗ but3 c A I S) := by
  unfold all but3; ac_rfl
theorem ld3 (Q : α → sProp 𝕄) (r : LoadRect _) (hl : A.arg3.view.LoadsAt r) (k : (r.shape.Idx → Elt F _) → Prog (TpuEff nD τ sig (Elt F) Λ₀ .tc) α)
    (h : all c A I S ⊢ W 𝒱 c E (k fun x => I.h0 (r.idx x)) Q) : all c A I S ⊢ W 𝒱 c E (.op (.load A.arg3 r hl) k) Q := by
  rw [all3] at h ⊢; exact load_step 𝒱 c E _ _ _ _ _ _ _ h

/-- The other eighteen. -/
def but4 : sProp 𝕄 := iprop(owns (c : Thread nD τ) A.arg2 fullShare I.x
    ∗ owns (c : Thread nD τ) A.arg3 fullShare I.h0
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all4 : all c A I S = iprop(owns (c : Thread nD τ) A.arg4 fullShare I.wa ∗ but4 c A I S) := by
  unfold all but4; ac_rfl
theorem ld4 (Q : α → sProp 𝕄) (r : LoadRect _) (hl : A.arg4.view.LoadsAt r) (k : (r.shape.Idx → Elt F _) → Prog (TpuEff nD τ sig (Elt F) Λ₀ .tc) α)
    (h : all c A I S ⊢ W 𝒱 c E (k fun x => I.wa (r.idx x)) Q) : all c A I S ⊢ W 𝒱 c E (.op (.load A.arg4 r hl) k) Q := by
  rw [all4] at h ⊢; exact load_step 𝒱 c E _ _ _ _ _ _ _ h

/-- The other eighteen. -/
def but5 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all5 : all c A I S = iprop(owns (c : Thread nD τ) A.arg5 fullShare I.sa ∗ but5 c A I S) := by
  unfold all but5; ac_rfl
theorem ld5 (Q : α → sProp 𝕄) (r : LoadRect _) (hl : A.arg5.view.LoadsAt r) (k : (r.shape.Idx → Elt F _) → Prog (TpuEff nD τ sig (Elt F) Λ₀ .tc) α)
    (h : all c A I S ⊢ W 𝒱 c E (k fun x => I.sa (r.idx x)) Q) : all c A I S ⊢ W 𝒱 c E (.op (.load A.arg5 r hl) k) Q := by
  rw [all5] at h ⊢; exact load_step 𝒱 c E _ _ _ _ _ _ _ h

/-- The other eighteen. -/
def but6 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all6 : all c A I S = iprop(owns (c : Thread nD τ) A.arg6 fullShare I.ba ∗ but6 c A I S) := by
  unfold all but6; ac_rfl
theorem ld6 (Q : α → sProp 𝕄) (r : LoadRect _) (hl : A.arg6.view.LoadsAt r) (k : (r.shape.Idx → Elt F _) → Prog (TpuEff nD τ sig (Elt F) Λ₀ .tc) α)
    (h : all c A I S ⊢ W 𝒱 c E (k fun x => I.ba (r.idx x)) Q) : all c A I S ⊢ W 𝒱 c E (.op (.load A.arg6 r hl) k) Q := by
  rw [all6] at h ⊢; exact load_step 𝒱 c E _ _ _ _ _ _ _ h

/-- The other eighteen. -/
def but7 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all7 : all c A I S = iprop(owns (c : Thread nD τ) A.arg7 fullShare I.wx ∗ but7 c A I S) := by
  unfold all but7; ac_rfl
theorem ld7 (Q : α → sProp 𝕄) (r : LoadRect _) (hl : A.arg7.view.LoadsAt r) (k : (r.shape.Idx → Elt F _) → Prog (TpuEff nD τ sig (Elt F) Λ₀ .tc) α)
    (h : all c A I S ⊢ W 𝒱 c E (k fun x => I.wx (r.idx x)) Q) : all c A I S ⊢ W 𝒱 c E (.op (.load A.arg7 r hl) k) Q := by
  rw [all7] at h ⊢; exact load_step 𝒱 c E _ _ _ _ _ _ _ h

/-- The other eighteen. -/
def but8 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all8 : all c A I S = iprop(owns (c : Thread nD τ) A.arg8 fullShare I.sx ∗ but8 c A I S) := by
  unfold all but8; ac_rfl
theorem ld8 (Q : α → sProp 𝕄) (r : LoadRect _) (hl : A.arg8.view.LoadsAt r) (k : (r.shape.Idx → Elt F _) → Prog (TpuEff nD τ sig (Elt F) Λ₀ .tc) α)
    (h : all c A I S ⊢ W 𝒱 c E (k fun x => I.sx (r.idx x)) Q) : all c A I S ⊢ W 𝒱 c E (.op (.load A.arg8 r hl) k) Q := by
  rw [all8] at h ⊢; exact load_step 𝒱 c E _ _ _ _ _ _ _ h

/-- The other eighteen. -/
def but9 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all9 : all c A I S = iprop(owns (c : Thread nD τ) A.arg9 fullShare I.bx ∗ but9 c A I S) := by
  unfold all but9; ac_rfl
theorem ld9 (Q : α → sProp 𝕄) (r : LoadRect _) (hl : A.arg9.view.LoadsAt r) (k : (r.shape.Idx → Elt F _) → Prog (TpuEff nD τ sig (Elt F) Λ₀ .tc) α)
    (h : all c A I S ⊢ W 𝒱 c E (k fun x => I.bx (r.idx x)) Q) : all c A I S ⊢ W 𝒱 c E (.op (.load A.arg9 r hl) k) Q := by
  rw [all9] at h ⊢; exact load_step 𝒱 c E _ _ _ _ _ _ _ h

/-- The other eighteen. -/
def but10 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all10 : all c A I S = iprop(owns (c : Thread nD τ) A.arg10 fullShare I.lam ∗ but10 c A I S) := by
  unfold all but10; ac_rfl
theorem ld10 (Q : α → sProp 𝕄) (r : LoadRect _) (hl : A.arg10.view.LoadsAt r) (k : (r.shape.Idx → Elt F _) → Prog (TpuEff nD τ sig (Elt F) Λ₀ .tc) α)
    (h : all c A I S ⊢ W 𝒱 c E (k fun x => I.lam (r.idx x)) Q) : all c A I S ⊢ W 𝒱 c E (.op (.load A.arg10 r hl) k) Q := by
  rw [all10] at h ⊢; exact load_step 𝒱 c E _ _ _ _ _ _ _ h

/-- The other eighteen. -/
def but11 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all11 : all c A I S = iprop(owns (c : Thread nD τ) A.arg11 fullShare S.y ∗ but11 c A I S) := by
  unfold all but11; ac_rfl
theorem ld11 (Q : α → sProp 𝕄) (r : LoadRect _) (hl : A.arg11.view.LoadsAt r) (k : (r.shape.Idx → Elt F _) → Prog (TpuEff nD τ sig (Elt F) Λ₀ .tc) α)
    (h : all c A I S ⊢ W 𝒱 c E (k fun x => S.y (r.idx x)) Q) : all c A I S ⊢ W 𝒱 c E (.op (.load A.arg11 r hl) k) Q := by
  rw [all11] at h ⊢; exact load_step 𝒱 c E _ _ _ _ _ _ _ h
theorem st11 (Q : α → sProp 𝕄) (r : Rect _) (w : r.shape.Idx → Elt F _) (hx : (A.arg11.access r).Stores Finset.univ) (hm)
    (h : all c A I { S with y := put r w S.y } ⊢ W 𝒱 c E (k ⟨⟩) Q) :
    all c A I S ⊢ W 𝒱 c E (.op (.store A.arg11 r w Finset.univ hx hm) k) Q := by
  rw [all11] at h ⊢; exact store_step 𝒱 c E _ _ _ _ _ _ _ _ _ h

/-- The other eighteen. -/
def but12 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all12 : all c A I S = iprop(owns (c : Thread nD τ) A.arg12 fullShare S.hf ∗ but12 c A I S) := by
  unfold all but12; ac_rfl
theorem ld12 (Q : α → sProp 𝕄) (r : LoadRect _) (hl : A.arg12.view.LoadsAt r) (k : (r.shape.Idx → Elt F _) → Prog (TpuEff nD τ sig (Elt F) Λ₀ .tc) α)
    (h : all c A I S ⊢ W 𝒱 c E (k fun x => S.hf (r.idx x)) Q) : all c A I S ⊢ W 𝒱 c E (.op (.load A.arg12 r hl) k) Q := by
  rw [all12] at h ⊢; exact load_step 𝒱 c E _ _ _ _ _ _ _ h
theorem st12 (Q : α → sProp 𝕄) (r : Rect _) (w : r.shape.Idx → Elt F _) (hx : (A.arg12.access r).Stores Finset.univ) (hm)
    (h : all c A I { S with hf := put r w S.hf } ⊢ W 𝒱 c E (k ⟨⟩) Q) :
    all c A I S ⊢ W 𝒱 c E (.op (.store A.arg12 r w Finset.univ hx hm) k) Q := by
  rw [all12] at h ⊢; exact store_step 𝒱 c E _ _ _ _ _ _ _ _ _ h

/-- The other eighteen. -/
def but13 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all13 : all c A I S = iprop(owns (c : Thread nD τ) A.arg13 fullShare S.xc ∗ but13 c A I S) := by
  unfold all but13; ac_rfl
theorem ld13 (Q : α → sProp 𝕄) (r : LoadRect _) (hl : A.arg13.view.LoadsAt r) (k : (r.shape.Idx → Elt F _) → Prog (TpuEff nD τ sig (Elt F) Λ₀ .tc) α)
    (h : all c A I S ⊢ W 𝒱 c E (k fun x => S.xc (r.idx x)) Q) : all c A I S ⊢ W 𝒱 c E (.op (.load A.arg13 r hl) k) Q := by
  rw [all13] at h ⊢; exact load_step 𝒱 c E _ _ _ _ _ _ _ h
theorem st13 (Q : α → sProp 𝕄) (r : Rect _) (w : r.shape.Idx → Elt F _) (hx : (A.arg13.access r).Stores Finset.univ) (hm)
    (h : all c A I { S with xc := put r w S.xc } ⊢ W 𝒱 c E (k ⟨⟩) Q) :
    all c A I S ⊢ W 𝒱 c E (.op (.store A.arg13 r w Finset.univ hx hm) k) Q := by
  rw [all13] at h ⊢; exact store_step 𝒱 c E _ _ _ _ _ _ _ _ _ h

/-- The other eighteen. -/
def but14 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all14 : all c A I S = iprop(owns (c : Thread nD τ) A.arg14 fullShare S.xs ∗ but14 c A I S) := by
  unfold all but14; ac_rfl
theorem ld14 (Q : α → sProp 𝕄) (r : LoadRect _) (hl : A.arg14.view.LoadsAt r) (k : (r.shape.Idx → Elt F _) → Prog (TpuEff nD τ sig (Elt F) Λ₀ .tc) α)
    (h : all c A I S ⊢ W 𝒱 c E (k fun x => S.xs (r.idx x)) Q) : all c A I S ⊢ W 𝒱 c E (.op (.load A.arg14 r hl) k) Q := by
  rw [all14] at h ⊢; exact load_step 𝒱 c E _ _ _ _ _ _ _ h
theorem st14 (Q : α → sProp 𝕄) (r : Rect _) (w : r.shape.Idx → Elt F _) (hx : (A.arg14.access r).Stores Finset.univ) (hm)
    (h : all c A I { S with xs := put r w S.xs } ⊢ W 𝒱 c E (k ⟨⟩) Q) :
    all c A I S ⊢ W 𝒱 c E (.op (.store A.arg14 r w Finset.univ hx hm) k) Q := by
  rw [all14] at h ⊢; exact store_step 𝒱 c E _ _ _ _ _ _ _ _ _ h

/-- The other eighteen. -/
def but15 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all15 : all c A I S = iprop(owns (c : Thread nD τ) A.arg15 fullShare S.w ∗ but15 c A I S) := by
  unfold all but15; ac_rfl
theorem ld15 (Q : α → sProp 𝕄) (r : LoadRect _) (hl : A.arg15.view.LoadsAt r) (k : (r.shape.Idx → Elt F _) → Prog (TpuEff nD τ sig (Elt F) Λ₀ .tc) α)
    (h : all c A I S ⊢ W 𝒱 c E (k fun x => S.w (r.idx x)) Q) : all c A I S ⊢ W 𝒱 c E (.op (.load A.arg15 r hl) k) Q := by
  rw [all15] at h ⊢; exact load_step 𝒱 c E _ _ _ _ _ _ _ h
theorem st15 (Q : α → sProp 𝕄) (r : Rect _) (w : r.shape.Idx → Elt F _) (hx : (A.arg15.access r).Stores Finset.univ) (hm)
    (h : all c A I { S with w := put r w S.w } ⊢ W 𝒱 c E (k ⟨⟩) Q) :
    all c A I S ⊢ W 𝒱 c E (.op (.store A.arg15 r w Finset.univ hx hm) k) Q := by
  rw [all15] at h ⊢; exact store_step 𝒱 c E _ _ _ _ _ _ _ _ _ h

/-- The other eighteen. -/
def but16 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg17 fullShare S.h
    ∗ owns (c : Thread nD τ) A.arg18 fullShare S.a
    ∗ owns (c : Thread nD τ) A.arg19 fullShare S.u
    ∗ owns (c : Thread nD τ) A.arg20 fullShare S.sc)
theorem all16 : all c A I S = iprop(owns (c : Thread nD τ) A.arg16 fullShare S.k ∗ but16 c A I S) := by
  unfold all but16; ac_rfl
theorem ld16 (Q : α → sProp 𝕄) (r : LoadRect _) (hl : A.arg16.view.LoadsAt r) (k : (r.shape.Idx → Elt F _) → Prog (TpuEff nD τ sig (Elt F) Λ₀ .tc) α)
    (h : all c A I S ⊢ W 𝒱 c E (k fun x => S.k (r.idx x)) Q) : all c A I S ⊢ W 𝒱 c E (.op (.load A.arg16 r hl) k) Q := by
  rw [all16] at h ⊢; exact load_step 𝒱 c E _ _ _ _ _ _ _ h
theorem st16 (Q : α → sProp 𝕄) (r : Rect _) (w : r.shape.Idx → Elt F _) (hx : (A.arg16.access r).Stores Finset.univ) (hm)
    (h : all c A I { S with k := put r w S.k } ⊢ W 𝒱 c E (k ⟨⟩) Q) :
    all c A I S ⊢ W 𝒱 c E (.op (.store A.arg16 r w Finset.univ hx hm) k) Q := by
  rw [all16] at h ⊢; exact store_step 𝒱 c E _ _ _ _ _ _ _ _ _ h

/-- The other eighteen. -/
def but17 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg18 fullShare S.a
    ∗ owns (c : Thread nD τ) A.arg19 fullShare S.u
    ∗ owns (c : Thread nD τ) A.arg20 fullShare S.sc)
theorem all17 : all c A I S = iprop(owns (c : Thread nD τ) A.arg17 fullShare S.h ∗ but17 c A I S) := by
  unfold all but17; ac_rfl
theorem ld17 (Q : α → sProp 𝕄) (r : LoadRect _) (hl : A.arg17.view.LoadsAt r) (k : (r.shape.Idx → Elt F _) → Prog (TpuEff nD τ sig (Elt F) Λ₀ .tc) α)
    (h : all c A I S ⊢ W 𝒱 c E (k fun x => S.h (r.idx x)) Q) : all c A I S ⊢ W 𝒱 c E (.op (.load A.arg17 r hl) k) Q := by
  rw [all17] at h ⊢; exact load_step 𝒱 c E _ _ _ _ _ _ _ h
theorem st17 (Q : α → sProp 𝕄) (r : Rect _) (w : r.shape.Idx → Elt F _) (hx : (A.arg17.access r).Stores Finset.univ) (hm)
    (h : all c A I { S with h := put r w S.h } ⊢ W 𝒱 c E (k ⟨⟩) Q) :
    all c A I S ⊢ W 𝒱 c E (.op (.store A.arg17 r w Finset.univ hx hm) k) Q := by
  rw [all17] at h ⊢; exact store_step 𝒱 c E _ _ _ _ _ _ _ _ _ h

/-- The other eighteen. -/
def but18 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg19 fullShare S.u
    ∗ owns (c : Thread nD τ) A.arg20 fullShare S.sc)
theorem all18 : all c A I S = iprop(owns (c : Thread nD τ) A.arg18 fullShare S.a ∗ but18 c A I S) := by
  unfold all but18; ac_rfl
theorem ld18 (Q : α → sProp 𝕄) (r : LoadRect _) (hl : A.arg18.view.LoadsAt r) (k : (r.shape.Idx → Elt F _) → Prog (TpuEff nD τ sig (Elt F) Λ₀ .tc) α)
    (h : all c A I S ⊢ W 𝒱 c E (k fun x => S.a (r.idx x)) Q) : all c A I S ⊢ W 𝒱 c E (.op (.load A.arg18 r hl) k) Q := by
  rw [all18] at h ⊢; exact load_step 𝒱 c E _ _ _ _ _ _ _ h
theorem st18 (Q : α → sProp 𝕄) (r : Rect _) (w : r.shape.Idx → Elt F _) (hx : (A.arg18.access r).Stores Finset.univ) (hm)
    (h : all c A I { S with a := put r w S.a } ⊢ W 𝒱 c E (k ⟨⟩) Q) :
    all c A I S ⊢ W 𝒱 c E (.op (.store A.arg18 r w Finset.univ hx hm) k) Q := by
  rw [all18] at h ⊢; exact store_step 𝒱 c E _ _ _ _ _ _ _ _ _ h

/-- The other eighteen. -/
def but19 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg20 fullShare S.sc)
theorem all19 : all c A I S = iprop(owns (c : Thread nD τ) A.arg19 fullShare S.u ∗ but19 c A I S) := by
  unfold all but19; ac_rfl
theorem ld19 (Q : α → sProp 𝕄) (r : LoadRect _) (hl : A.arg19.view.LoadsAt r) (k : (r.shape.Idx → Elt F _) → Prog (TpuEff nD τ sig (Elt F) Λ₀ .tc) α)
    (h : all c A I S ⊢ W 𝒱 c E (k fun x => S.u (r.idx x)) Q) : all c A I S ⊢ W 𝒱 c E (.op (.load A.arg19 r hl) k) Q := by
  rw [all19] at h ⊢; exact load_step 𝒱 c E _ _ _ _ _ _ _ h
theorem st19 (Q : α → sProp 𝕄) (r : Rect _) (w : r.shape.Idx → Elt F _) (hx : (A.arg19.access r).Stores Finset.univ) (hm)
    (h : all c A I { S with u := put r w S.u } ⊢ W 𝒱 c E (k ⟨⟩) Q) :
    all c A I S ⊢ W 𝒱 c E (.op (.store A.arg19 r w Finset.univ hx hm) k) Q := by
  rw [all19] at h ⊢; exact store_step 𝒱 c E _ _ _ _ _ _ _ _ _ h

/-- The other eighteen. -/
def but20 : sProp 𝕄 := iprop(owns (c : Thread nD τ) A.arg2 fullShare I.x
    ∗ owns (c : Thread nD τ) A.arg3 fullShare I.h0
    ∗ owns (c : Thread nD τ) A.arg4 fullShare I.wa
    ∗ owns (c : Thread nD τ) A.arg5 fullShare I.sa
    ∗ owns (c : Thread nD τ) A.arg6 fullShare I.ba
    ∗ owns (c : Thread nD τ) A.arg7 fullShare I.wx
    ∗ owns (c : Thread nD τ) A.arg8 fullShare I.sx
    ∗ owns (c : Thread nD τ) A.arg9 fullShare I.bx
    ∗ owns (c : Thread nD τ) A.arg10 fullShare I.lam
    ∗ owns (c : Thread nD τ) A.arg11 fullShare S.y
    ∗ owns (c : Thread nD τ) A.arg12 fullShare S.hf
    ∗ owns (c : Thread nD τ) A.arg13 fullShare S.xc
    ∗ owns (c : Thread nD τ) A.arg14 fullShare S.xs
    ∗ owns (c : Thread nD τ) A.arg15 fullShare S.w
    ∗ owns (c : Thread nD τ) A.arg16 fullShare S.k
    ∗ owns (c : Thread nD τ) A.arg17 fullShare S.h
    ∗ owns (c : Thread nD τ) A.arg18 fullShare S.a
    ∗ owns (c : Thread nD τ) A.arg19 fullShare S.u)
theorem all20 : all c A I S = iprop(owns (c : Thread nD τ) A.arg20 fullShare S.sc ∗ but20 c A I S) := by
  unfold all but20; ac_rfl
theorem ld20 (Q : α → sProp 𝕄) (r : LoadRect _) (hl : A.arg20.view.LoadsAt r) (k : (r.shape.Idx → Elt F _) → Prog (TpuEff nD τ sig (Elt F) Λ₀ .tc) α)
    (h : all c A I S ⊢ W 𝒱 c E (k fun x => S.sc (r.idx x)) Q) : all c A I S ⊢ W 𝒱 c E (.op (.load A.arg20 r hl) k) Q := by
  rw [all20] at h ⊢; exact load_step 𝒱 c E _ _ _ _ _ _ _ h
theorem st20 (Q : α → sProp 𝕄) (r : Rect _) (w : r.shape.Idx → Elt F _) (hx : (A.arg20.access r).Stores Finset.univ) (hm)
    (h : all c A I { S with sc := put r w S.sc } ⊢ W 𝒱 c E (k ⟨⟩) Q) :
    all c A I S ⊢ W 𝒱 c E (.op (.store A.arg20 r w Finset.univ hx hm) k) Q := by
  rw [all20] at h ⊢; exact store_step 𝒱 c E _ _ _ _ _ _ _ _ _ h

end Cert.KernelIdeal.Own
-- ==== Proof.Ideal.Whole.lean ====
module

public import proofs.«01_k».proof.Proof.Ideal.Body
public import Idealize.ShloMosaic.Lib.Tactic

@[expose] public section
set_option maxRecDepth 1000000
set_option pp.maxSteps 400
noncomputable section
namespace Cert.KernelIdeal.Own
open Idealize.ShloMosaic Idealize.SL.Sem
open Idealize.ShloMosaic.TcCoe
open Cert.KernelIdeal.Facts₀ Cert.KernelIdeal.Facts

variable {F : FTy → Type} [FloatOps F] [Named F]

/-- What the text's first part does after its two conditionals. -/
def firstP (A : Args) (i : grid0.Coords) : Prog (TpuEff nD τ sig (Elt F) Λ₀ .tc) (Σ' (arg0 : BitVec 32) (arg1 : BitVec 32) (v8 : FVec F S64x128 .bf16) (v9 : IVec S64x128 32) (v11 : BitVec 32) (v14 : FVec F S1x128 .f32) (v17 : FVec F S512x256 .bf16) (v20 : FVec F S64x128 .f32) (v27 : FVec F S64x128 .f32) (v33 : IVec S64x128 32), IVec S64x128 32) :=
  .op (.load A.arg16 (rK i 0).toLoadRect (View.loadsAt_vmem h_S1x1x128)) fun v13 =>
  .op (.load A.arg15 (rW i 0).toLoadRect (View.loadsAt_vmem h_S1x512x256)) fun v16 =>
  .op (.load A.arg2 (rX 0 0).toLoadRect (View.loadsAt_vmem h_S1x64x128)) fun v18 =>
  .ret ⟨BitVec.ofNat 32 (i 0).val, BitVec.ofNat 32 (i 1).val, ones, iota .tc S64x128 32 [1] iota_S64x128_d1_w32, headNo i 0,
    shapeCast S1x128 v13 shapeCasts_S1x1x128_S1x128, shapeCast S512x256 v16 shapeCasts_S1x512x256_S512x256, xOf v18,
    rowMax (xOf v18), bit 1073741824#32 (rowMax (xOf v18)) (broadcast S64x128 0#32),
    ori (bit 1073741824#32 (rowMax (xOf v18)) (broadcast S64x128 0#32)) (broadcast S64x128 536870912#32)⟩

theorem part2_eq (A : Args) (i : grid0.Coords) :
    k0_part2 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20
      = Prog.bind (startP A i) fun _ => Prog.bind (weightsP A i) fun _ => firstP A i := by
  unfold k0_part2 startP weightsP
  by_cases h1 : cond1 i = 1#1
  · by_cases h2 : k0_cond2 i = 1#1
    · rw [dif_pos h1, dif_pos h1]; simp only [dif_pos h2]; sl_kernel_rfl
    · rw [dif_pos h1, dif_pos h1]; simp only [dif_neg h2]; sl_kernel_rfl
  · by_cases h2 : k0_cond2 i = 1#1
    · rw [dif_neg h1, dif_neg h1]; simp only [dif_pos h2]; sl_kernel_rfl
    · rw [dif_neg h1, dif_neg h1]; simp only [dif_neg h2]; sl_kernel_rfl

/-- The kernel's text is the structured body. -/
theorem run_eq (A : Args) (i : grid0.Coords) : A.run (F := F) i = bodyP A i := by
  unfold Args.run cc0_rglru k0_part172
  rw [part2_eq]
  refine (congrArg (fun p => Prog.bind p _) (Prog.bind_assoc _ _ _)).trans ((Prog.bind_assoc _ _ _).trans ?_)
  refine congrArg (Prog.bind (startP A i)) (funext fun _ => ?_)
  refine (congrArg (fun p => Prog.bind p _) (Prog.bind_assoc _ _ _)).trans ((Prog.bind_assoc _ _ _).trans ?_)
  refine congrArg (Prog.bind (weightsP A i)) (funext fun _ => ?_)
  sl_kernel_rfl

end Cert.KernelIdeal.Own
-- ==== Proof.Ideal.Triple.lean ====
module

public import proofs.«01_k».proof.Proof.Ideal.Rules
public import proofs.«01_k».proof.Proof.Ideal.Whole

@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Named F]
local notation "𝕄" => MT nD τ sig Unit (Elt F) ℕ (UR sig nD τ) ℕ

/-! ## What each piece of the body makes of the state -/

/-- Fold `g` over `0 … n-1`. -/
def fold {N : ℕ} {σ : Type} (g : Fin N → σ → σ) : (n : ℕ) → n ≤ N → σ → σ
  | 0, _, s => s
  | n + 1, h, s => g ⟨n, h⟩ (fold g n (Nat.le_of_succ_le h) s)

/-- The rows of batch `b` and head `j`, as numbers of the wider format. -/
abbrev xAt (I : In F) (j : Fin 4) (b : Fin 8) : FVec F S64x128 .f32 := xOf fun x => I.x ((rX j b).toLoadRect.idx x)
/-- The exponent fields of those rows' scales. -/
abbrev fieldAt (I : In F) (j : Fin 4) (b : Fin 8) : IVec S64x128 32 := field (rowMax (xAt I j b))
abbrev codesAt (I : In F) (j : Fin 4) (b : Fin 8) : FVec F S64x128 .fp8e4m3 := codesOf (xAt I j b) (invOf (fieldAt I j b))
abbrev scaleAt (I : In F) (j : Fin 4) (b : Fin 8) : FVec F S64x128 .f32 := scaleOf (fieldAt I j b)
abbrev gatesAt (I : In F) (v8 : FVec F S64x128 .bf16) (v17 : FVec F S512x256 .bf16) (j : Fin 4) (b : Fin 8) : FVec F S64x256 .f32 :=
  gates (codesAt I j b) (scaleAt I j b) v8 v17
abbrev decayAt (I : In F) (v8 : FVec F S64x128 .bf16) (v14 : FVec F S1x128 .f32) (v17 : FVec F S512x256 .bf16) (j : Fin 4) (b : Fin 8) :
    FVec F S64x128 .f32 := decay (gatesAt I v8 v17 j b) v14
abbrev driveAt (I : In F) (v8 : FVec F S64x128 .bf16) (v14 : FVec F S1x128 .f32) (v17 : FVec F S512x256 .bf16) (j : Fin 4) (b : Fin 8) :
    FVec F S64x128 .f32 := drive (gatesAt I v8 v17 j b) (decayAt I v8 v14 v17 j b) (xAt I j b)

def unitS (I : In F) (v8 : FVec F S64x128 .bf16) (v9 : IVec S64x128 32) (v11 : BitVec 32) (v14 : FVec F S1x128 .f32)
    (v17 : FVec F S512x256 .bf16) (j : Fin 4) (b : Fin 8) (S : St F) : St F :=
  { S with
    xc := put (rX j b) (shapeCast S1x64x128 (codesAt I j b) shapeCasts_S64x128_S1x64x128) S.xc
    sc := put (rS b) (shapeCast S1x64x128 (select (cmpi .eq v9 (broadcast S64x128 v11)) (scaleAt I j b)
      (shapeCast S64x128 (fun x => S.sc ((rS b).toLoadRect.idx x)) shapeCasts_S1x64x128_S64x128)) shapeCasts_S64x128_S1x64x128) S.sc
    a := put (rT j b) (shapeCast S1x64x128 (decayAt I v8 v14 v17 j b) shapeCasts_S64x128_S1x64x128) S.a
    u := put (rT j b) (shapeCast S1x64x128 (driveAt I v8 v14 v17 j b) shapeCasts_S64x128_S1x64x128) S.u }

/-- The state one time step on. -/
def nextH (j : Fin 4) (s : Fin 64) (p : St F × FVec F S8x128 .f32) : FVec F S8x128 .f32 :=
  advance (fun x => p.1.a ((rR j s).toLoadRect.idx x)) p.2 (fun x => p.1.u ((rR j s).toLoadRect.idx x))

def stepS (j : Fin 4) (s : Fin 64) (p : St F × FVec F S8x128 .f32) : St F × FVec F S8x128 .f32 :=
  ({ p.1 with u := put (rR j s) (shapeCast S1x8x128 (nextH j s p) shapeCasts_S8x128_S1x8x128) p.1.u }, nextH j s p)

def outS (j : Fin 4) (b : Fin 8) (S : St F) : St F :=
  { S with y := put (rX j b) (shapeCast S1x64x128 (truncf .bf16 (shapeCast S64x128 (fun x => S.u ((lT j b).idx x))
      shapeCasts_S1x64x128_S64x128) bitsLt_bf16_f32) shapeCasts_S64x128_S1x64x128) S.y }

section
variable (i : grid0.Coords)

abbrev lanes : IVec S64x128 32 := iota .tc S64x128 32 [1] iota_S64x128_d1_w32

/-- The eight units of head `j`. -/
def unitsS (I : In F) (j : Fin 4) (S : St F) : St F :=
  fold (unitS I ones lanes (headNo i j)
    (shapeCast S1x128 (fun x => S.k ((rK i j).toLoadRect.idx x)) shapeCasts_S1x1x128_S1x128)
    (shapeCast S512x256 (fun x => S.w ((rW i j).toLoadRect.idx x)) shapeCasts_S1x512x256_S512x256) j) 8 le_rfl S

/-- The sixty-four time steps of head `j`. -/
def scanS (j : Fin 4) (S : St F) : St F × FVec F S8x128 .f32 :=
  fold (stepS j) 64 le_rfl (S, shapeCast S8x128 (fun x => S.h ((rH i j).toLoadRect.idx x)) shapeCasts_S1x8x128_S8x128)

def keepS (j : Fin 4) (p : St F × FVec F S8x128 .f32) : St F :=
  { p.1 with h := put (rH i j) (shapeCast S1x8x128 p.2 shapeCasts_S8x128_S1x8x128) p.1.h }

def headS (I : In F) (j : Fin 4) (S : St F) : St F :=
  fold (outS j) 8 le_rfl (keepS i j (scanS i j (unitsS i I j S)))

def startS (I : In F) (S : St F) : St F :=
  if cond1 i = 1#1 then { S with
    k := put (Rect.unit (s := S48x1x128) ![0, 0, 0] S48x1x128.size inb_S48x1x128_S48x1x128_0_0_0)
      (rates fun x => I.lam ((Rect.unit (s := S48x1x128) ![0, 0, 0] S48x1x128.size inb_S48x1x128_S48x1x128_0_0_0).toLoadRect.idx x)) S.k
    h := put (Rect.unit (s := S48x8x128) ![0, 0, 0] S48x8x128.size inb_S48x8x128_S48x8x128_0_0_0)
      (shapeCast S48x8x128 (shapeCast S48x8x128 (fun x => I.h0 ((Rect.unit (s := S48x8x128) ![0, 0, 0] S48x8x128.size
        inb_S48x8x128_S48x8x128_0_0_0).toLoadRect.idx x)) shapeCasts_S48x8x128_S48x8x128) shapeCasts_S48x8x128_S48x8x128) S.h
    sc := put (Rect.unit (s := S8x64x128) ![0, 0, 0] S8x64x128.size inb_S8x64x128_S8x64x128_0_0_0)
      (shapeCast S8x64x128 (broadcast S8x64x128 (Scalar.ofBits .f32 0x00000000#32)) shapeCasts_S8x64x128_S8x64x128) S.sc }
  else S

def prepS (I : In F) (h2 : k0_cond2 i = 1#1) (t : Fin k0_t1_loop.trips) (S : St F) : St F :=
  { S with w := put (rP3 i t h2) (prepared (fun x => I.wa ((rP1 i t h2).toLoadRect.idx x)) (fun x => I.wx ((rP1 i t h2).toLoadRect.idx x))
      (fun x => I.sa ((rP2 i t h2).toLoadRect.idx x)) (fun x => I.sx ((rP2 i t h2).toLoadRect.idx x))
      (fun x => I.ba ((rP2 i t h2).toLoadRect.idx x)) (fun x => I.bx ((rP2 i t h2).toLoadRect.idx x))) S.w }

def weightsS (I : In F) (S : St F) : St F :=
  if h2 : k0_cond2 i = 1#1 then fold (prepS i I h2) k0_t1_loop.trips le_rfl S else S

def scalesS (S : St F) : St F :=
  if k0_cond3 i = 1#1 then { S with
    xs := put (Rect.unit (s := S8x64x48) ![0, 0, 0] S8x64x48.size inb_S8x64x48_S8x64x48_0_0_0)
      (fun x => S.sc ((Rect.unit (s := S8x64x128) ![0, 0, 0] S8x64x48.size inb_S8x64x128_S8x64x48_0_0_0).toLoadRect.idx x)) S.xs }
  else S

def finalS (S : St F) : St F :=
  if k0_cond4 i = 1#1 then { S with
    hf := put (Rect.unit (s := S48x8x128) ![0, 0, 0] S48x8x128.size inb_S48x8x128_S48x8x128_0_0_0)
      (fun x => S.h ((Rect.unit (s := S48x8x128) ![0, 0, 0] S48x8x128.size inb_S48x8x128_S48x8x128_0_0_0).toLoadRect.idx x)) S.hf }
  else S

/-- What one point of the grid makes of the state. -/
def bodyS (I : In F) (S : St F) : St F :=
  finalS i (scalesS i (fold (headS i I) 4 le_rfl (weightsS i I (startS i I S))))
end

/-! ## And that it does -/

variable (𝒱 : Variants) (c : Dev nD) (E : Set ℕ) (A : Args) (I : In F) (i : grid0.Coords)

theorem upto_step (Q : PUnit.{1} → sProp 𝕄) {N : ℕ} {α : Type} (f : Fin N → α → (α → P F) → P F) (g : Fin N → St F × α → St F × α)
    (hf : ∀ n p k, (all c A I (g n p).1 ⊢ W 𝒱 c E (k (g n p).2) Q) → all c A I p.1 ⊢ W 𝒱 c E (f n p.2 k) Q) :
    ∀ (n : ℕ) (h : n ≤ N) (p : St F × α) (k : α → P F),
      (all c A I (fold g n h p).1 ⊢ W 𝒱 c E (k (fold g n h p).2) Q) → all c A I p.1 ⊢ W 𝒱 c E (upto f n h p.2 k) Q
  | 0, _, p, k, hk => hk
  | n + 1, h, p, k, hk => upto_step Q f g hf n _ p _ (hf ⟨n, h⟩ _ k hk)

theorem fold_fst {N : ℕ} (g : Fin N → St F → St F) : ∀ (n : ℕ) (h : n ≤ N) (S : St F),
    fold (fun n (p : St F × PUnit.{1}) => (g n p.1, p.2)) n h (S, ⟨⟩) = (fold g n h S, ⟨⟩)
  | 0, _, _ => rfl
  | n + 1, h, S => by rw [fold, fold_fst g n]; rfl

theorem upto_step' (Q : PUnit.{1} → sProp 𝕄) {N : ℕ} (f : Fin N → PUnit.{1} → (PUnit.{1} → P F) → P F) (g : Fin N → St F → St F)
    (hf : ∀ n S k, (all c A I (g n S) ⊢ W 𝒱 c E (k ⟨⟩) Q) → all c A I S ⊢ W 𝒱 c E (f n ⟨⟩ k) Q)
    (n : ℕ) (h : n ≤ N) (S : St F) (k : PUnit.{1} → P F) (hk : all c A I (fold g n h S) ⊢ W 𝒱 c E (k ⟨⟩) Q) :
    all c A I S ⊢ W 𝒱 c E (upto f n h ⟨⟩ k) Q :=
  upto_step 𝒱 c E A I Q f (fun n p => (g n p.1, p.2)) (fun n p k => hf n p.1 k) n h (S, ⟨⟩) k (by rw [fold_fst]; exact hk)

theorem unit_step (Q : PUnit.{1} → sProp 𝕄) (v8 v9 v11 v14 v17) (j : Fin 4) (b : Fin 8) (S : St F) (k : PUnit.{1} → P F)
    (h : all c A I (unitS I v8 v9 v11 v14 v17 j b S) ⊢ W 𝒱 c E (k ⟨⟩) Q) :
    all c A I S ⊢ W 𝒱 c E (unitP A v8 v9 v11 v14 v17 j b ⟨⟩ k) Q := by
  unfold unitP
  refine ld2 𝒱 c E A I S Q _ _ _ ?_
  refine ld13 𝒱 c E A I _ Q _ _ _ ?_
  refine st13 𝒱 c E A I _ _ Q _ _ _ _ ?_
  refine ld20 𝒱 c E A I _ Q _ _ _ ?_
  refine ld20 𝒱 c E A I _ Q _ _ _ ?_
  refine st20 𝒱 c E A I _ _ Q _ _ _ _ ?_
  refine ld18 𝒱 c E A I _ Q _ _ _ ?_
  refine st18 𝒱 c E A I _ _ Q _ _ _ _ ?_
  refine ld19 𝒱 c E A I _ Q _ _ _ ?_
  refine st19 𝒱 c E A I _ _ Q _ _ _ _ ?_
  refine Eq.mp ?_ h
  sl_kernel_rfl

theorem time_step (Q : PUnit.{1} → sProp 𝕄) (j : Fin 4) (s : Fin 64) (p : St F × FVec F S8x128 .f32) (k : FVec F S8x128 .f32 → P F)
    (h : all c A I (stepS j s p).1 ⊢ W 𝒱 c E (k (stepS j s p).2) Q) :
    all c A I p.1 ⊢ W 𝒱 c E (stepP A j s p.2 k) Q := by
  unfold stepP
  refine ld18 𝒱 c E A I _ Q _ _ _ ?_
  refine ld19 𝒱 c E A I _ Q _ _ _ ?_
  refine ld19 𝒱 c E A I _ Q _ _ _ ?_
  refine st19 𝒱 c E A I _ _ Q _ _ _ _ ?_
  exact h

theorem out_step (Q : PUnit.{1} → sProp 𝕄) (j : Fin 4) (b : Fin 8) (S : St F) (k : PUnit.{1} → P F)
    (h : all c A I (outS j b S) ⊢ W 𝒱 c E (k ⟨⟩) Q) : all c A I S ⊢ W 𝒱 c E (outP A j b ⟨⟩ k) Q := by
  unfold outP
  refine ld19 𝒱 c E A I _ Q _ _ _ ?_
  refine ld11 𝒱 c E A I _ Q _ _ _ ?_
  refine st11 𝒱 c E A I _ _ Q _ _ _ _ ?_
  exact h

theorem head_step (Q : PUnit.{1} → sProp 𝕄) (j : Fin 4) (S : St F) (k : PUnit.{1} → P F)
    (h : all c A I (headS i I j S) ⊢ W 𝒱 c E (k ⟨⟩) Q) : all c A I S ⊢ W 𝒱 c E (headP A i j ⟨⟩ k) Q := by
  unfold headP
  refine ld16 𝒱 c E A I _ Q _ _ _ ?_
  refine ld15 𝒱 c E A I _ Q _ _ _ ?_
  refine upto_step' 𝒱 c E A I Q _ _ (fun b S k hk => unit_step 𝒱 c E A I Q _ _ _ _ _ j b S k hk) 8 le_rfl _ _ ?_
  refine ld17 𝒱 c E A I _ Q _ _ _ ?_
  refine upto_step 𝒱 c E A I Q _ _ (fun s p k hk => time_step 𝒱 c E A I Q j s p k hk) 64 le_rfl (unitsS i I j S, _) _ ?_
  refine ld17 𝒱 c E A I _ Q _ _ _ ?_
  refine st17 𝒱 c E A I _ _ Q _ _ _ _ ?_
  exact upto_step' 𝒱 c E A I Q _ _ (fun b S k hk => out_step 𝒱 c E A I Q j b S k hk) 8 le_rfl _ _ h

theorem ret_step (Q : PUnit.{1} → sProp 𝕄) (S : St F) (h : all c A I S ⊢ Q ⟨⟩) : all c A I S ⊢ W 𝒱 c E (.ret ⟨⟩) Q :=
  h.trans (le_wp_ret _ _ _ _ _)

theorem bind_step (Q : PUnit.{1} → sProp 𝕄) (p : P F) (k : PUnit.{1} → P F) (S S' : St F)
    (hp : ∀ Q : PUnit → sProp 𝕄, (all c A I S' ⊢ Q ⟨⟩) → all c A I S ⊢ W 𝒱 c E p Q)
    (hk : all c A I S' ⊢ W 𝒱 c E (k ⟨⟩) Q) : all c A I S ⊢ W 𝒱 c E (Prog.bind p k) Q := by
  have e := wp_bind frame (wpE (defs₀ (F := F)) 𝒱 (c : Thread nD τ) none) E p k Q
  exact (hp _ hk).trans (le_of_eq e.symm)

theorem start_step (Q : PUnit.{1} → sProp 𝕄) (S : St F) (h : all c A I (startS i I S) ⊢ Q ⟨⟩) : all c A I S ⊢ W 𝒱 c E (startP A i) Q := by
  unfold startP
  unfold startS at h
  by_cases h1 : cond1 i = 1#1
  · rw [dif_pos h1]; rw [if_pos h1] at h
    refine ld10 𝒱 c E A I _ Q _ _ _ ?_
    refine ld16 𝒱 c E A I _ Q _ _ _ ?_
    refine st16 𝒱 c E A I _ _ Q _ _ _ _ ?_
    refine ld3 𝒱 c E A I _ Q _ _ _ ?_
    refine ld17 𝒱 c E A I _ Q _ _ _ ?_
    refine st17 𝒱 c E A I _ _ Q _ _ _ _ ?_
    refine ld20 𝒱 c E A I _ Q _ _ _ ?_
    refine st20 𝒱 c E A I _ _ Q _ _ _ _ ?_
    exact ret_step 𝒱 c E A I Q _ h
  · rw [dif_neg h1]; rw [if_neg h1] at h
    exact ret_step 𝒱 c E A I Q _ h

theorem prep_step (Q : PUnit.{1} → sProp 𝕄) (h2 : k0_cond2 i = 1#1) (t : Fin k0_t1_loop.trips) (S : St F)
    (h : all c A I (prepS i I h2 t S) ⊢ Q ⟨⟩) : all c A I S ⊢ W 𝒱 c E (prepP A i h2 t) Q := by
  unfold prepP
  refine ld4 𝒱 c E A I _ Q _ _ _ ?_
  refine ld7 𝒱 c E A I _ Q _ _ _ ?_
  refine ld5 𝒱 c E A I _ Q _ _ _ ?_
  refine ld8 𝒱 c E A I _ Q _ _ _ ?_
  refine ld6 𝒱 c E A I _ Q _ _ _ ?_
  refine ld9 𝒱 c E A I _ Q _ _ _ ?_
  refine ld15 𝒱 c E A I _ Q _ _ _ ?_
  refine st15 𝒱 c E A I _ _ Q _ _ _ _ ?_
  exact ret_step 𝒱 c E A I Q _ h

theorem weights_step (Q : PUnit.{1} → sProp 𝕄) (S : St F) (h : all c A I (weightsS i I S) ⊢ Q ⟨⟩) : all c A I S ⊢ W 𝒱 c E (weightsP A i) Q := by
  unfold weightsP
  unfold weightsS at h
  by_cases h2 : k0_cond2 i = 1#1
  · rw [dif_pos h2]; rw [dif_pos h2] at h
    have := Scf.wp_for frame (wpE (defs₀ (F := F)) 𝒱 (c : Thread nD τ) none) E _ _ _ (k0_t1_ok i h2) PUnit.unit (fun t _ => prepP A i h2 t)
      (fun n _ => iprop(∃ hn : n ≤ k0_t1_loop.trips, all c A I (fold (prepS i I h2) n hn S))) (fun t _ => by
        iintro ⟨%hn, H⟩
        iapply (prep_step 𝒱 c E A I i _ h2 t (fold (prepS i I h2) t.val hn S) (by
          iintro H; iexists t.isLt; iexact H))
        iexact H) (Q := Q)
    refine BIBase.Entails.trans ?_ this
    iintro H
    isplitl [H]
    · iexists Nat.zero_le _; iexact H
    · iintro %_ ⟨%hn, H⟩
      iapply h
      iexact H
  · rw [dif_neg h2]; rw [dif_neg h2] at h
    exact ret_step 𝒱 c E A I Q _ h

theorem scales_step (Q : PUnit.{1} → sProp 𝕄) (S : St F) (h : all c A I (scalesS i S) ⊢ Q ⟨⟩) : all c A I S ⊢ W 𝒱 c E (scalesP A i) Q := by
  unfold scalesP
  unfold scalesS at h
  by_cases h3 : k0_cond3 i = 1#1
  · rw [dif_pos h3]; rw [if_pos h3] at h
    refine ld20 𝒱 c E A I _ Q _ _ _ ?_
    refine ld14 𝒱 c E A I _ Q _ _ _ ?_
    refine st14 𝒱 c E A I _ _ Q _ _ _ _ ?_
    exact ret_step 𝒱 c E A I Q _ h
  · rw [dif_neg h3]; rw [if_neg h3] at h
    exact ret_step 𝒱 c E A I Q _ h

theorem final_step (Q : PUnit.{1} → sProp 𝕄) (S : St F) (h : all c A I (finalS i S) ⊢ Q ⟨⟩) : all c A I S ⊢ W 𝒱 c E (finalP A i) Q := by
  unfold finalP
  unfold finalS at h
  by_cases h4 : k0_cond4 i = 1#1
  · rw [dif_pos h4]; rw [if_pos h4] at h
    refine ld17 𝒱 c E A I _ Q _ _ _ ?_
    refine ld12 𝒱 c E A I _ Q _ _ _ ?_
    refine st12 𝒱 c E A I _ _ Q _ _ _ _ ?_
    exact ret_step 𝒱 c E A I Q _ h
  · rw [dif_neg h4]; rw [if_neg h4] at h
    exact ret_step 𝒱 c E A I Q _ h

set_option maxRecDepth 1000000 in
theorem main_step (Q : PUnit.{1} → sProp 𝕄) (S : St F) (h : all c A I (finalS i (scalesS i (fold (headS i I) 4 le_rfl S))) ⊢ Q ⟨⟩) :
    all c A I S ⊢ W 𝒱 c E (mainP A i) Q :=
  upto_step' 𝒱 c E A I Q (headP A i) (headS i I) (fun j S k hk => head_step 𝒱 c E A I i Q j S k hk) 4 le_rfl S
    (fun _ => Prog.bind (scalesP A i) fun _ => finalP A i)
    (bind_step 𝒱 c E A I Q _ _ _ (scalesS i (fold (headS i I) 4 le_rfl S)) (fun Q hQ => scales_step 𝒱 c E A I i Q _ hQ)
      (final_step 𝒱 c E A I i Q _ h))

/-- One point of the grid: from any contents of the outputs and the scratch to `bodyS` of them, the inputs as they were. -/
theorem body_step (Q : PUnit.{1} → sProp 𝕄) (S : St F) (h : all c A I (bodyS i I S) ⊢ Q ⟨⟩) : all c A I S ⊢ W 𝒱 c E (A.run i) Q := by
  rw [run_eq]
  exact bind_step 𝒱 c E A I Q (startP A i) _ S (startS i I S) (fun Q hQ => start_step 𝒱 c E A I i Q S hQ)
    (bind_step 𝒱 c E A I Q (weightsP A i) _ _ (weightsS i I (startS i I S)) (fun Q hQ => weights_step 𝒱 c E A I i Q _ hQ)
      (main_step 𝒱 c E A I i Q _ h))

end Cert.KernelIdeal.Own
-- ==== Proof.Ideal.Points.lean ====
module

public import proofs.«01_k».proof.Proof.Ideal.Triple
public import proofs.«01_k».proof.Proof.Gen.KernelIdeal.Frame

@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- The buffers a point of the grid is run with. -/
def argsAt (t : Fin cfg0.N) : Args :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _⟩

theorem run_argsAt (t : Fin cfg0.N) : (argsAt t).run (F := F) (grid0.coords t) = bodyAt0 t := rfl

/-- What the inputs' buffers hold at a point of the grid. -/
def inAt (c : Dev nD) (t : Fin cfg0.N) : In F :=
  ⟨iblk m c 0 t, iblk m c 1 t, iblk m c 2 t, iblk m c 3 t, iblk m c 4 t, iblk m c 5 t, iblk m c 6 t, iblk m c 7 t, iblk m c 8 t⟩

/-- The scratch buffers at a state. -/
def held (c : Dev nD) (S : St F) : sProp 𝕄 :=
  iprop(owns (c : Thread nD τ) (Memref.whole cc0_scratch0) fullShare S.w
    ∗ owns (c : Thread nD τ) (Memref.whole cc0_scratch1) fullShare S.k
    ∗ owns (c : Thread nD τ) (Memref.whole cc0_scratch2) fullShare S.h
    ∗ owns (c : Thread nD τ) (Memref.whole cc0_scratch3) fullShare S.a
    ∗ owns (c : Thread nD τ) (Memref.whole cc0_scratch4) fullShare S.u
    ∗ owns (c : Thread nD τ) (Memref.whole cc0_scratch5) fullShare S.sc)

/-- The pipeline's own rest is the scratch buffers at some state, and the generator register. -/
theorem rest_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Any state at all. -/
def anySt : St F := ⟨fun _ => Scalar.ofBits .bf16 0x0000#16,
    fun _ => Scalar.ofBits .f32 0x00000000#32,
    fun _ => Scalar.ofBits .fp8e4m3 0x00#8,
    fun _ => Scalar.ofBits .f32 0x00000000#32,
    fun _ => Scalar.ofBits .bf16 0x0000#16,
    fun _ => Scalar.ofBits .f32 0x00000000#32,
    fun _ => Scalar.ofBits .f32 0x00000000#32,
    fun _ => Scalar.ofBits .f32 0x00000000#32,
    fun _ => Scalar.ofBits .f32 0x00000000#32,
    fun _ => Scalar.ofBits .f32 0x00000000#32⟩

theorem rest_held (c : Dev nD) : (Pipeline.ΦA spec0 c : sProp 𝕄) ⊢ iprop((∃ S : St F, held c S) ∗ (∃ r, prngReg c r)) := by
  rw [rest_eq]
  iintro ⟨⟨⟨%d0, H0⟩, ⟨%d1, H1⟩, ⟨%d2, H2⟩, ⟨%d3, H3⟩, ⟨%d4, H4⟩, ⟨%d5, H5⟩⟩, Hg⟩
  isplitr [Hg]
  · iexists { (anySt : St F) with w := d0, k := d1, h := d2, a := d3, u := d4, sc := d5 }
    unfold held
    isplitl [H0]; · iexact H0
    isplitl [H1]; · iexact H1
    isplitl [H2]; · iexact H2
    isplitl [H3]; · iexact H3
    isplitl [H4]; · iexact H4
    iexact H5
  · iexact Hg

theorem held_rest (c : Dev nD) : iprop((∃ S : St F, held c S) ∗ (∃ r, prngReg c r)) ⊢ (Pipeline.ΦA spec0 c : sProp 𝕄) := by
  rw [rest_eq]
  unfold held
  iintro ⟨⟨%S, H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hg

/-- `body_step` with what is left to do as a wand. -/
theorem bind_frame (𝒱 : Variants) (c : Dev nD) (A : Args) (I : In F) (i : grid0.Coords) (S : St F) (Q : PUnit.{1} → sProp 𝕄) :
    iprop(all c A I S ∗ (all c A I (bodyS i I S) -∗ Q ⟨⟩)) ⊢ W 𝒱 c Set.univ (A.run i) Q := by
  have h := body_step 𝒱 c Set.univ A I i (fun _ => all c A I (bodyS i I S)) S .rfl
  have e : ∀ x : PUnit.{1}, iprop(all c A I (bodyS i I S) ∗ (all c A I (bodyS i I S) -∗ Q ⟨⟩)) ⊢ Q x := fun x => by
    iintro ⟨H, HQ⟩
    iapply HQ; iexact H
  exact BIBase.Entails.trans (sep_mono h .rfl)
    (BIBase.Entails.trans (wp_frame frame (wpE (defs₀ (F := F)) 𝒱 (c : Thread nD τ) none) Set.univ (A.run i)).frame
      ((wp frame (wpE (defs₀ (F := F)) 𝒱 (c : Thread nD τ) none) Set.univ (A.run i)).mono e))

/-- A point of the grid, its buffers one by one. -/
theorem point_step (𝒱 : Variants) (c : Dev nD) (t : Fin cfg0.N) (S : St F) (Q : PUnit.{1} → sProp 𝕄) :
    iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare S.y
    ∗ owns (c : Thread nD τ) (st0_10 t) fullShare S.hf
    ∗ owns (c : Thread nD τ) (st0_11 t) fullShare S.xc
    ∗ owns (c : Thread nD τ) (st0_12 t) fullShare S.xs
    ∗ held c S ∗ (owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (bodyS (grid0.coords t) (inAt m c t) S).y
    ∗ owns (c : Thread nD τ) (st0_10 t) fullShare (bodyS (grid0.coords t) (inAt m c t) S).hf
    ∗ owns (c : Thread nD τ) (st0_11 t) fullShare (bodyS (grid0.coords t) (inAt m c t) S).xc
    ∗ owns (c : Thread nD τ) (st0_12 t) fullShare (bodyS (grid0.coords t) (inAt m c t) S).xs
    ∗ held c (bodyS (grid0.coords t) (inAt m c t) S) -∗ Q ⟨⟩))
    ⊢ wp frame (wpE (defs₀ (F := F)) 𝒱 (c : Thread nD τ) none) Set.univ (bodyAt0 t) Q := by
  rw [← run_argsAt]
  unfold held
  iintro ⟨H0, H1, H2, H3, H4, H5, H6, H7, H8, H9, H10, H11, H12, ⟨H13, H14, H15, H16, H17, H18⟩, HQ⟩
  iapply (bind_frame 𝒱 c (argsAt t) (inAt m c t) (grid0.coords t) S Q)
  isplitr [HQ]
  · unfold all
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro H
    unfold all
    icases H with ⟨H0, H1, H2, H3, H4, H5, H6, H7, H8, H9, H10, H11, H12, H13, H14, H15, H16, H17, H18⟩
    iapply HQ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.KernelIdeal.Own
-- ==== Proof.Ideal.Ends.lean ====
module

public import proofs.«01_k».proof.Proof.Ideal.Points

@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-! ## The run, with nothing said of the outputs -/

def loose : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true

/-- The inputs' buffers at their blocks; of the outputs and of the scratch nothing is said. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (anySt : St F).y
    | ⟨10, _⟩ => (anySt : St F).hf
    | ⟨11, _⟩ => (anySt : St F).xc
    | ⟨12, _⟩ => (anySt : St F).xs
  Φ _ := Pipeline.ΦA spec0 c
  q _ := fullShare
  owed _ := 0

theorem datF_A (c : Dev nD) (w : Fin cfg0.W) : (datF m 0 c).A w = V m c (Pipeline.arrRef spec0 w) := by
  dsimp only [datF]

theorem foundF_0 (c : Dev nD) (t : Fin cfg0.N) (d) : (datF m 0 c).before 0 t d = iblk m c 0 t :=
  before0_0_of m (datF m 0 c) (datF_A m c 0) (fun t => by dsimp only [datF]) t d
theorem foundF_1 (c : Dev nD) (t : Fin cfg0.N) (d) : (datF m 0 c).before 1 t d = iblk m c 1 t :=
  before0_1_of m (datF m 0 c) (datF_A m c 1) (fun t => by dsimp only [datF]) t d
theorem foundF_2 (c : Dev nD) (t : Fin cfg0.N) (d) : (datF m 0 c).before 2 t d = iblk m c 2 t :=
  before0_2_of m (datF m 0 c) (datF_A m c 2) (fun t => by dsimp only [datF]) t d
theorem foundF_3 (c : Dev nD) (t : Fin cfg0.N) (d) : (datF m 0 c).before 3 t d = iblk m c 3 t :=
  before0_3_of m (datF m 0 c) (datF_A m c 3) (fun t => by dsimp only [datF]) t d
theorem foundF_4 (c : Dev nD) (t : Fin cfg0.N) (d) : (datF m 0 c).before 4 t d = iblk m c 4 t :=
  before0_4_of m (datF m 0 c) (datF_A m c 4) (fun t => by dsimp only [datF]) t d
theorem foundF_5 (c : Dev nD) (t : Fin cfg0.N) (d) : (datF m 0 c).before 5 t d = iblk m c 5 t :=
  before0_5_of m (datF m 0 c) (datF_A m c 5) (fun t => by dsimp only [datF]) t d
theorem foundF_6 (c : Dev nD) (t : Fin cfg0.N) (d) : (datF m 0 c).before 6 t d = iblk m c 6 t :=
  before0_6_of m (datF m 0 c) (datF_A m c 6) (fun t => by dsimp only [datF]) t d
theorem foundF_7 (c : Dev nD) (t : Fin cfg0.N) (d) : (datF m 0 c).before 7 t d = iblk m c 7 t :=
  before0_7_of m (datF m 0 c) (datF_A m c 7) (fun t => by dsimp only [datF]) t d
theorem foundF_8 (c : Dev nD) (t : Fin cfg0.N) (d) : (datF m 0 c).before 8 t d = iblk m c 8 t :=
  before0_8_of m (datF m 0 c) (datF_A m c 8) (fun t => by dsimp only [datF]) t d

def preF (c : Dev nD) (t : Fin cfg0.N) : sProp 𝕄 :=
  iprop(Pipeline.ΦA spec0 c ∗ (datF m 0 c).owesAt () t.castSucc
    ∗ (∃ d, owns (c : Thread nD τ) (st0_0 t) fullShare ((datF m 0 c).before 0 t d))
    ∗ (∃ d, owns (c : Thread nD τ) (st0_1 t) fullShare ((datF m 0 c).before 1 t d))
    ∗ (∃ d, owns (c : Thread nD τ) (st0_2 t) fullShare ((datF m 0 c).before 2 t d))
    ∗ (∃ d, owns (c : Thread nD τ) (st0_3 t) fullShare ((datF m 0 c).before 3 t d))
    ∗ (∃ d, owns (c : Thread nD τ) (st0_4 t) fullShare ((datF m 0 c).before 4 t d))
    ∗ (∃ d, owns (c : Thread nD τ) (st0_5 t) fullShare ((datF m 0 c).before 5 t d))
    ∗ (∃ d, owns (c : Thread nD τ) (st0_6 t) fullShare ((datF m 0 c).before 6 t d))
    ∗ (∃ d, owns (c : Thread nD τ) (st0_7 t) fullShare ((datF m 0 c).before 7 t d))
    ∗ (∃ d, owns (c : Thread nD τ) (st0_8 t) fullShare ((datF m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

def postF (c : Dev nD) (t : Fin cfg0.N) : sProp 𝕄 :=
  iprop(Pipeline.ΦA spec0 c ∗ (datF m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

theorem bodyF (c : Dev nD) (t : Fin cfg0.N) :
    preF m c t ⊢ wp frame (wpE (defs₀ (F := F)) Variants.none c none) Set.univ (bodyAt0 t) (fun _ => postF m c t) := by
  unfold preF postF
  simp only [foundF_0, foundF_1, foundF_2, foundF_3, foundF_4, foundF_5, foundF_6, foundF_7, foundF_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HΦ := (rest_held c) $$ HΦ
  icases HΦ with ⟨⟨%S, HS⟩, Hg⟩
  iapply (point_step m Variants.none c t { S with y := d9, hf := d10, xc := d11, xs := d12 } _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · iapply (held_rest c)
    isplitl [HS]; · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

theorem row (t : Fin cfg0.N) : defs₀ (F := F) .tc cfg0.body (cfg0.bodyArgs t (cfg0.slots t)) = bodyAt0 t := by
  unfold defs₀; rw [Defs.onTc_tc]

theorem obligationF (c : Dev nD) : BodyObligation (datF (F := F) m 0 c) (defs₀ (F := F)) Variants.none () Set.univ loose := fun t => by
  rw [bigSep_W0, bigSep_W0, row]
  exact triple_restated (bodyF m c t) rfl .rfl fun _ => .rfl

set_option backward.isDefEq.respectTransparency.types false in
set_option maxHeartbeats 800000 in
/-- Every run of the program ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_frame_around_T_track_forget (Q' := _) cfgs (datF m) (0 : Fin 1) launch0 defs₀ Variants.none loose {main_v10, main_v11} m ρ main
    (hbody := fun c => (obligationF m c).loose) (hshare := fun c => (datF m 0 c).share_full fun _ => rfl)
    (howed := fun _ _ => rfl) (V₀ := V0 m) (opss := [hostOps1]) (hsub := sfx_sub) (hfresh := sfx_fresh) (hkeep := sfx_keeps)
    (hT := by
      intro ops hops op hop b hb
      rw [List.mem_singleton] at hops; subst hops
      simp only [hostOps1, List.mem_cons, List.not_mem_nil, or_false] at hop
      rcases hop with rfl | rfl <;>
        simp only [StableHlo.unary_writes, StableHlo.reshape_writes, Finset.mem_singleton] at hb <;>
        simp only [Finset.mem_insert, Finset.mem_singleton]
      · exact .inl (Proc.devRef_injective _ hb)
      · exact .inr (Proc.devRef_injective _ hb))
    (hmain := hmain m Variants.none) (hA := datF_A m) (hin := fun _ => .rfl) (hout := fun _ => .rfl)
    (hQ' := fun r h => ⟨fun c => by
      have h0 := (h.1 c).1 0
      rw [RDat.ArrAt_in _ 0 rfl] at h0
      have hr : ∀ b : Ref sig .tc, b ∈ Pipeline.restRefs sig spec0 \ {main_v10, main_v11} →
        r.2.mem ((c.tc : Thread nD τ).loc b) = V m c b := (h.1 c).2
      exact ⟨h0.trans (V_main_arg0 m c),
        (hr main_arg1 (Finset.mem_sdiff.mpr ⟨Pipeline.mem_restRefs_of main_arg1 (by decide) (by decide), by decide⟩)).trans (V_main_arg1 m c),
        (hr main_arg2 (Finset.mem_sdiff.mpr ⟨Pipeline.mem_restRefs_of main_arg2 (by decide) (by decide), by decide⟩)).trans (V_main_arg2 m c),
        (hr main_arg3 (Finset.mem_sdiff.mpr ⟨Pipeline.mem_restRefs_of main_arg3 (by decide) (by decide), by decide⟩)).trans (V_main_arg3 m c),
        (hr main_arg4 (Finset.mem_sdiff.mpr ⟨Pipeline.mem_restRefs_of main_arg4 (by decide) (by decide), by decide⟩)).trans (V_main_arg4 m c),
        (hr main_arg5 (Finset.mem_sdiff.mpr ⟨Pipeline.mem_restRefs_of main_arg5 (by decide) (by decide), by decide⟩)).trans (V_main_arg5 m c),
        (hr main_arg6 (Finset.mem_sdiff.mpr ⟨Pipeline.mem_restRefs_of main_arg6 (by decide) (by decide), by decide⟩)).trans (V_main_arg6 m c),
        (hr main_arg7 (Finset.mem_sdiff.mpr ⟨Pipeline.mem_restRefs_of main_arg7 (by decide) (by decide), by decide⟩)).trans (V_main_arg7 m c),
        (hr main_arg8 (Finset.mem_sdiff.mpr ⟨Pipeline.mem_restRefs_of main_arg8 (by decide) (by decide), by decide⟩)).trans (V_main_arg8 m c)⟩, h.2⟩)

end Cert.KernelIdeal.Own
-- ==== Proof.Spec.lean ====
module

public import proofs.«01_k».proof.Defs
public import Idealize.ShloMosaic.Lib.Pointwise
public import Idealize.ShloMosaic.Lib.ValueIdx

/-! The arithmetic of one row's quantisation over the extended reals: the search for the exponent field finds the
exponent the logarithm gives. -/

@[expose] public section
set_option maxRecDepth 16384
noncomputable section
namespace Cert.Spec
open Idealize.ShloMosaic

/-! ## The search -/

/-- One step of the search: keep the bit if the number it makes is still at most `p`. -/
def stepBit (c : BitVec 32) (p : EReal) (e : BitVec 32) : BitVec 32 :=
  if Ideal.ofBits .f32 (IntOp.ori e c) ≤ p then IntOp.ori e c else e

/-- The field found, one bit at a time from the top. -/
def fieldOf (p : EReal) : BitVec 32 :=
  stepBit 8388608#32 p (stepBit 16777216#32 p (stepBit 33554432#32 p (stepBit 67108864#32 p (stepBit 134217728#32 p
    (stepBit 268435456#32 p (stepBit 536870912#32 p (stepBit 1073741824#32 p 0#32)))))))

/-- The word whose exponent field is `n`. -/
def word (n : Fin 256) : BitVec 32 := BitVec.ofNat 32 (n.val * 8388608)

theorem word_parts : ∀ n : Fin 256, ((word n).extractLsb' 31 1 == 1#1) = false ∧ ((word n).extractLsb' 23 8).toNat = n.val
    ∧ ((word n).extractLsb' 0 23).toNat = 0 := by decide +kernel

theorem ofBits_word (n : Fin 256) (h1 : 1 ≤ n.val) (h2 : n.val ≤ 254) :
    Ideal.ofBits .f32 (word n) = (((2 : ℝ) ^ ((n.val : ℤ) - 127) : ℝ) : EReal) := by
  obtain ⟨a, b, c⟩ := word_parts n
  show Ideal.ieee 8 23 (word n) = _
  unfold Ideal.ieee
  dsimp only
  rw [a, b, c, if_neg (by omega), if_neg (by omega)]
  congr 1
  have : ((n.val : ℤ) - (2 ^ (8 - 1) - 1) - ((23 : ℕ) : ℤ)) = ((n.val : ℤ) - 127) + (-23) := by norm_num; ring
  rw [this, zpow_add₀ two_ne_zero]
  norm_num
  ring

theorem ofBits_top : Ideal.ofBits .f32 (word 255) = ⊤ := by
  obtain ⟨a, b, c⟩ := word_parts 255
  show Ideal.ieee 8 23 (word 255) = _
  unfold Ideal.ieee
  dsimp only
  rw [a, b, c]
  simp

/-- The same step on the fields themselves, against the field `E` sought. -/
def stepN (k E n : Fin 256) : Fin 256 := if (n ||| k) ≤ E then n ||| k else n

theorem ori_word : ∀ (k : Fin 8) (n : Fin 256), IntOp.ori (word n) (word ⟨2 ^ k.val, by
    have := k.isLt; exact lt_of_le_of_lt (Nat.pow_le_pow_right (by norm_num) (by omega : k.val ≤ 7)) (by norm_num)⟩) = word (n ||| ⟨2 ^ k.val, by
    have := k.isLt; exact lt_of_le_of_lt (Nat.pow_le_pow_right (by norm_num) (by omega : k.val ≤ 7)) (by norm_num)⟩) := by decide +kernel

theorem chain : ∀ E : Fin 256, stepN 1 E (stepN 2 E (stepN 4 E (stepN 8 E (stepN 16 E (stepN 32 E (stepN 64 E (stepN 128 E 0))))))) = E := by
  decide +kernel

theorem stepBit_word (p : EReal) (E : Fin 256) (hE : ∀ m : Fin 256, 1 ≤ m.val → (Ideal.ofBits .f32 (word m) ≤ p ↔ m ≤ E)) (k n : Fin 256)
    (ho : IntOp.ori (word n) (word k) = word (n ||| k)) (hp : 1 ≤ (n ||| k).val) :
    stepBit (word k) p (word n) = word (stepN k E n) := by
  unfold stepBit stepN
  rw [ho]
  by_cases h : (n ||| k) ≤ E
  · rw [if_pos h, if_pos ((hE _ hp).2 h)]
  · rw [if_neg h, if_neg fun h' => h ((hE _ hp).1 h')]

theorem or_pos : ∀ (k : Fin 8) (n : Fin 256), 1 ≤ (n ||| ⟨2 ^ k.val, by
    have := k.isLt; exact lt_of_le_of_lt (Nat.pow_le_pow_right (by norm_num) (by omega : k.val ≤ 7)) (by norm_num)⟩ : Fin 256).val := by
  decide +kernel

/-- THE SEARCH finds the field that bounds `p`. -/
theorem fieldOf_eq (p : EReal) (E : Fin 256) (hE : ∀ m : Fin 256, 1 ≤ m.val → (Ideal.ofBits .f32 (word m) ≤ p ↔ m ≤ E)) :
    fieldOf p = word E := by
  have s7 : ∀ n, stepBit 1073741824#32 p (word n) = word (stepN 128 E n) := fun n => stepBit_word p E hE 128 n (ori_word 7 n) (or_pos 7 n)
  have s6 : ∀ n, stepBit 536870912#32 p (word n) = word (stepN 64 E n) := fun n => stepBit_word p E hE 64 n (ori_word 6 n) (or_pos 6 n)
  have s5 : ∀ n, stepBit 268435456#32 p (word n) = word (stepN 32 E n) := fun n => stepBit_word p E hE 32 n (ori_word 5 n) (or_pos 5 n)
  have s4 : ∀ n, stepBit 134217728#32 p (word n) = word (stepN 16 E n) := fun n => stepBit_word p E hE 16 n (ori_word 4 n) (or_pos 4 n)
  have s3 : ∀ n, stepBit 67108864#32 p (word n) = word (stepN 8 E n) := fun n => stepBit_word p E hE 8 n (ori_word 3 n) (or_pos 3 n)
  have s2 : ∀ n, stepBit 33554432#32 p (word n) = word (stepN 4 E n) := fun n => stepBit_word p E hE 4 n (ori_word 2 n) (or_pos 2 n)
  have s1 : ∀ n, stepBit 16777216#32 p (word n) = word (stepN 2 E n) := fun n => stepBit_word p E hE 2 n (ori_word 1 n) (or_pos 1 n)
  have s0 : ∀ n, stepBit 8388608#32 p (word n) = word (stepN 1 E n) := fun n => stepBit_word p E hE 1 n (ori_word 0 n) (or_pos 0 n)
  unfold fieldOf
  rw [show (0#32 : BitVec 32) = word 0 from by decide, s7, s6, s5, s4, s3, s2, s1, s0, chain]

/-- The whole part of the base-two logarithm. -/
def lg (p : ℝ) : ℤ := ⌊Real.log p / Real.log 2⌋

theorem pow_le_iff (p : ℝ) (hp : 0 < p) (x : ℤ) : (2 : ℝ) ^ x ≤ p ↔ x ≤ lg p := by
  unfold lg
  rw [Int.le_floor, le_div_iff₀ (Real.log_pos (by norm_num)), ← Real.log_zpow, Real.log_le_log_iff (by positivity) hp]

theorem field_pos (p : ℝ) (h0 : (2 : ℝ) ^ (-126 : ℤ) ≤ p) (h1 : p < (2 : ℝ) ^ (120 : ℤ)) :
    ∃ E : Fin 256, 1 ≤ E.val ∧ E.val ≤ 246 ∧ (E.val : ℤ) - 127 = lg p ∧ fieldOf (p : EReal) = word E := by
  have hp : 0 < p := lt_of_lt_of_le (by positivity) h0
  have key := pow_le_iff p hp
  have l0 : -126 ≤ lg p := (key _).1 h0
  have l1 : lg p < 120 := by
    by_contra h
    exact absurd ((key 120).2 (not_lt.1 h)) (not_le.2 h1)
  obtain ⟨n, hn⟩ : ∃ n : ℕ, (n : ℤ) = lg p + 127 := ⟨(lg p + 127).toNat, by omega⟩
  refine ⟨⟨n, by omega⟩, by show 1 ≤ n; omega, by show n ≤ 246; omega, by show (n : ℤ) - 127 = _; omega, ?_⟩
  refine fieldOf_eq _ _ fun m hm => ?_
  rcases Nat.lt_or_ge m.val 255 with hl | hl
  · rw [ofBits_word m hm (by omega), EReal.coe_le_coe_iff, key, Fin.le_def]
    show _ ↔ m.val ≤ n
    omega
  · obtain rfl : m = 255 := Fin.ext (by have := m.isLt; show m.val = 255; omega)
    rw [ofBits_top]
    constructor
    · intro h; exact absurd h (not_le.2 (EReal.coe_lt_top p))
    · intro h; rw [Fin.le_def] at h
      have : (255 : ℕ) ≤ n := h
      omega

theorem field_zero : fieldOf 0 = word 0 := by
  refine fieldOf_eq _ _ fun m hm => ?_
  rcases Nat.lt_or_ge m.val 255 with hl | hl
  · rw [ofBits_word m hm (by omega)]
    constructor
    · intro h
      have : (2 : ℝ) ^ ((m.val : ℤ) - 127) ≤ 0 := by exact_mod_cast h
      exact absurd this (not_le.2 (by positivity))
    · intro h; rw [Fin.le_def] at h
      have : m.val ≤ 0 := h
      omega
  · obtain rfl : m = 255 := Fin.ext (by have := m.isLt; show m.val = 255; omega)
    rw [ofBits_top]
    constructor
    · intro h; exact absurd h (not_le.2 EReal.zero_lt_top)
    · intro h; exact absurd h (by decide)

/-! ## Scale and reciprocal -/

/-- The scale a field gives. -/
def scaleBits (e : BitVec 32) : EReal :=
  Ideal.ofBits .f32 (Scalar.select (IntOp.cmpi CmpIPredicate.sgt e 0#32) (IntOp.addi e 8388608#32) 1065353216#32)

/-- Its reciprocal. -/
def invBits (e : BitVec 32) : EReal :=
  Ideal.ofBits .f32 (Scalar.select (IntOp.cmpi CmpIPredicate.sgt e 0#32) (IntOp.subi 2122317824#32 e) 1065353216#32)

theorem scale_word : ∀ n : Fin 256, 1 ≤ n.val → n.val ≤ 253 →
    Scalar.select (IntOp.cmpi CmpIPredicate.sgt (word n) 0#32) (IntOp.addi (word n) 8388608#32) 1065353216#32 = word (n + 1)
    ∧ Scalar.select (IntOp.cmpi CmpIPredicate.sgt (word n) 0#32) (IntOp.subi 2122317824#32 (word n)) 1065353216#32 = word (253 - n) := by
  decide +kernel

theorem scale_zero :
    Scalar.select (IntOp.cmpi CmpIPredicate.sgt (word 0) 0#32) (IntOp.addi (word 0) 8388608#32) 1065353216#32 = word 127
    ∧ Scalar.select (IntOp.cmpi CmpIPredicate.sgt (word 0) 0#32) (IntOp.subi 2122317824#32 (word 0)) 1065353216#32 = word 127 := by
  decide +kernel

/-- The exponent the logarithm gives for a row whose largest magnitude is `a`. -/
def expo (a : EReal) : EReal :=
  Scalar.select (Ideal.cmp .oeq a 0) 0 (Ideal.liftRound Int.floor (Ideal.div (Ideal.log (a * Ideal.ofBits .f32 0x3B124925#32)) (Ideal.log (Ideal.ofBits .f32 0x40000000#32))) + 1)

theorem c448 : Ideal.ofBits .f32 0x3B124925#32 = ((9586981 * (2 : ℝ) ^ (-32 : ℤ) : ℝ) : EReal) := by
  simp [Ideal.ofBits, Ideal.ieee, -EReal.coe_mul]
theorem ctwo : Ideal.ofBits .f32 0x40000000#32 = ((2 : ℝ) : EReal) := by
  simp [Ideal.ofBits, Ideal.ieee, -EReal.coe_mul]; norm_num

/-- A row's largest magnitude is none, or stays where the exponent field has room. -/
def Mag (a : EReal) : Prop := a = 0 ∨ ∃ r : ℝ, a = r ∧ 7 * (2 : ℝ) ^ (-120 : ℤ) ≤ r ∧ r < (2 : ℝ) ^ (128 : ℤ)

theorem quant (a : EReal) (ha : Mag a) : ∃ k : ℤ,
    scaleBits (fieldOf (a * Ideal.ofBits .f32 0x3B124925#32)) = (((2 : ℝ) ^ k : ℝ) : EReal)
    ∧ invBits (fieldOf (a * Ideal.ofBits .f32 0x3B124925#32)) = (((2 : ℝ) ^ (-k) : ℝ) : EReal)
    ∧ Ideal.exp2 (expo a) = (((2 : ℝ) ^ k : ℝ) : EReal)
    ∧ Ideal.exp2 (0 - expo a) = (((2 : ℝ) ^ (-k) : ℝ) : EReal) := by
  rcases ha with rfl | ⟨r, rfl, h0, h1⟩
  · refine ⟨0, ?_, ?_, ?_, ?_⟩
    · rw [zero_mul, field_zero]; unfold scaleBits; rw [scale_zero.1, ofBits_word _ (by decide) (by decide)]; rfl
    · rw [zero_mul, field_zero]; unfold invBits; rw [scale_zero.2, ofBits_word _ (by decide) (by decide)]; rfl
    · have : expo 0 = 0 := by simp [expo, Ideal.cmp, Scalar.select]
      rw [this, show (0 : EReal) = ((0 : ℝ) : EReal) from rfl, Ideal.exp2_coe]; simp
    · have : expo 0 = 0 := by simp [expo, Ideal.cmp, Scalar.select]
      rw [this, sub_zero, show (0 : EReal) = ((0 : ℝ) : EReal) from rfl, Ideal.exp2_coe]; simp
  · have hr : 0 < r := lt_of_lt_of_le (by positivity) h0
    have hpe : (r : EReal) * Ideal.ofBits .f32 0x3B124925#32 = ((r * (9586981 * (2 : ℝ) ^ (-32 : ℤ)) : ℝ) : EReal) := by
      rw [c448, ← EReal.coe_mul]
    set p : ℝ := r * (9586981 * (2 : ℝ) ^ (-32 : ℤ)) with hpd
    have hp : 0 < p := by positivity
    obtain ⟨E, e1, e2, e3, e4⟩ := field_pos p
      (by rw [hpd]
          calc (2 : ℝ) ^ (-126 : ℤ) ≤ (7 * (2 : ℝ) ^ (-120 : ℤ)) * (9586981 * (2 : ℝ) ^ (-32 : ℤ)) := by norm_num
            _ ≤ _ := by gcongr)
      (by rw [hpd]
          calc r * (9586981 * (2 : ℝ) ^ (-32 : ℤ)) ≤ (2 : ℝ) ^ (128 : ℤ) * (9586981 * (2 : ℝ) ^ (-32 : ℤ)) := by gcongr
            _ < _ := by norm_num)
    have hx : expo (r : EReal) = (((E.val : ℤ) - 126 : ℤ) : ℝ) := by
      unfold expo
      have hne : (r : EReal) ≠ 0 := by exact_mod_cast hr.ne'
      rw [hpe, ctwo, Ideal.log_coe, Ideal.log_coe, if_neg (not_le.2 hp), if_neg (by norm_num), Ideal.div_coe (Real.log_pos (by norm_num)).ne',
        ← EReal.coe_mul, Ideal.liftRound_coe, mul_one_div, show ⌊Real.log p / Real.log 2⌋ = lg p from rfl, ← e3]
      rw [show Scalar.select (Ideal.cmp .oeq (r : EReal) 0) (0 : EReal) ((((((E.val : ℤ) - 127 : ℤ) : ℝ) : EReal) + 1) : EReal) = ((((E.val : ℤ) - 127 : ℤ) : ℝ) : EReal) + 1 from by simp [Ideal.cmp, Scalar.select, hne],
        show ((1 : EReal)) = ((1 : ℝ) : EReal) from rfl, ← EReal.coe_add]
      congr 1
      push_cast
      ring
    refine ⟨(E.val : ℤ) - 126, ?_, ?_, ?_, ?_⟩
    · have hv : (E + 1 : Fin 256).val = E.val + 1 := by rw [Fin.val_add]; show (E.val + 1) % 256 = _; omega
      rw [hpe, e4]; unfold scaleBits
      rw [(scale_word E e1 (by omega)).1, ofBits_word _ (by omega) (by omega), hv]
      congr 2
      push_cast
      ring
    · have hv : (253 - E : Fin 256).val = 253 - E.val := by
        rw [Fin.sub_def]; show (256 - E.val + 253) % 256 = _; omega
      rw [hpe, e4]; unfold invBits
      rw [(scale_word E e1 (by omega)).2, ofBits_word _ (by omega) (by omega), hv]
      congr 2
      push_cast [show E.val ≤ 253 by omega]
      ring
    · rw [hx, Ideal.exp2_coe]
      congr 1
      exact Real.rpow_intCast 2 _
    · rw [hx, zero_sub, ← EReal.coe_neg, Ideal.exp2_coe]
      congr 1
      rw [← Int.cast_neg]
      exact Real.rpow_intCast 2 _

/-- The largest magnitude of a row. -/
def peak (r : Fin 128 → EReal) : EReal := Finset.univ.fold max (Ideal.ofBits .f32 0xFF800000#32) (fun l => max (r l) (-(r l)))

/-- A number is none, or its magnitude stays where the exponent field has room. -/
theorem peak_mag (r : Fin 128 → EReal) (h : ∀ l, Mag (max (r l) (-(r l)))) : Mag (peak r) := by
  have hb : Ideal.ofBits .f32 0xFF800000#32 = ⊥ := by simp [Ideal.ofBits, Ideal.ieee]
  have hex : ∃ l, peak r = max (r l) (-(r l)) := by
    unfold peak
    rw [hb]
    obtain ⟨l, _, hl⟩ := Finset.exists_mem_eq_sup (Finset.univ : Finset (Fin 128)) ⟨0, Finset.mem_univ _⟩ (fun l => max (r l) (-(r l)))
    exact ⟨l, hl⟩
  obtain ⟨l, hl⟩ := hex
  rw [hl]; exact h l

end Cert.Spec
-- ==== Proof.RefValue.lean ====
module

public import proofs.«01_k».proof.Proof.Gen.ReferenceIdeal.Value
public import proofs.«01_k».proof.Proof.Spec
public import Idealize.ShloMosaic.Lib.Pointwise
public import Idealize.ShloMosaic.Lib.ValueIdx

@[expose] public section
set_option maxRecDepth 16384
noncomputable section
namespace Cert.ReferenceIdeal.Own
open Idealize.ShloMosaic Idealize.ShloMosaic.TcCoe Idealize.SL.Sem
open Cert.ReferenceIdeal Cert.ReferenceIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the run leaves in result window 11: its payload of the whole input. -/
theorem out_11 (c : Dev nD) (arg0 : Memref sig .tc .vmem S8x2048x6144 .bf16) (harg0 : arg0.IsWhole) (arg1 : Memref sig .tc .vmem S8x6144 .f32) (harg1 : arg1.IsWhole) (arg2 : Memref sig .tc .vmem S48x128x128 .fp8e4m3) (harg2 : arg2.IsWhole) (arg3 : Memref sig .tc .vmem S48x128 .f32) (harg3 : arg3.IsWhole) (arg4 : Memref sig .tc .vmem S48x128 .f32) (harg4 : arg4.IsWhole) (arg5 : Memref sig .tc .vmem S48x128x128 .fp8e4m3) (harg5 : arg5.IsWhole) (arg6 : Memref sig .tc .vmem S48x128 .f32) (harg6 : arg6.IsWhole) (arg7 : Memref sig .tc .vmem S48x128 .f32) (harg7 : arg7.IsWhole) (arg8 : Memref sig .tc .vmem S6144 .f32) (harg8 : arg8.IsWhole) (arg9 : Memref sig .tc .vmem S8x2048x6144 .bf16) (harg9 : arg9.IsWhole) (arg10 : Memref sig .tc .vmem S8x6144 .f32) (harg10 : arg10.IsWhole) (arg11 : Memref sig .tc .vmem S8x2048x6144 .fp8e4m3) (harg11 : arg11.IsWhole) (arg12 : Memref sig .tc .vmem S8x2048x48 .f32) (harg12 : arg12.IsWhole) (arg13 : Memref sig .tc .vmem S8x2048x6144 .f32) (harg13 : arg13.IsWhole) (arg14 : Memref sig .tc .vmem S8x2048x6144 .f32) (harg14 : arg14.IsWhole) (arg15 : Memref sig .tc .vmem S8x2048x6144 .f32) (harg15 : arg15.IsWhole)
    (x0 : Vec F S8x2048x6144 .bf16) (x1 : Vec F S8x6144 .f32) (x2 : Vec F S48x128x128 .fp8e4m3) (x3 : Vec F S48x128 .f32) (x4 : Vec F S48x128 .f32) (x5 : Vec F S48x128x128 .fp8e4m3) (x6 : Vec F S48x128 .f32) (x7 : Vec F S48x128 .f32) (x8 : Vec F S6144 .f32) :
    out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay7 x0 := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  unfold kernelRun0_A
  dsimp only
  sl_unfold_words
  rw [View.canon_unit_zero hz3]
  simp only [View.readAt_eq_ld, harg0.read_unread, View.ld_unit_zero (S := S8x2048x6144) hz3]

/-- What the run leaves in result window 12: its payload of the whole input. -/
theorem out_12 (c : Dev nD) (arg0 : Memref sig .tc .vmem S8x2048x6144 .bf16) (harg0 : arg0.IsWhole) (arg1 : Memref sig .tc .vmem S8x6144 .f32) (harg1 : arg1.IsWhole) (arg2 : Memref sig .tc .vmem S48x128x128 .fp8e4m3) (harg2 : arg2.IsWhole) (arg3 : Memref sig .tc .vmem S48x128 .f32) (harg3 : arg3.IsWhole) (arg4 : Memref sig .tc .vmem S48x128 .f32) (harg4 : arg4.IsWhole) (arg5 : Memref sig .tc .vmem S48x128x128 .fp8e4m3) (harg5 : arg5.IsWhole) (arg6 : Memref sig .tc .vmem S48x128 .f32) (harg6 : arg6.IsWhole) (arg7 : Memref sig .tc .vmem S48x128 .f32) (harg7 : arg7.IsWhole) (arg8 : Memref sig .tc .vmem S6144 .f32) (harg8 : arg8.IsWhole) (arg9 : Memref sig .tc .vmem S8x2048x6144 .bf16) (harg9 : arg9.IsWhole) (arg10 : Memref sig .tc .vmem S8x6144 .f32) (harg10 : arg10.IsWhole) (arg11 : Memref sig .tc .vmem S8x2048x6144 .fp8e4m3) (harg11 : arg11.IsWhole) (arg12 : Memref sig .tc .vmem S8x2048x48 .f32) (harg12 : arg12.IsWhole) (arg13 : Memref sig .tc .vmem S8x2048x6144 .f32) (harg13 : arg13.IsWhole) (arg14 : Memref sig .tc .vmem S8x2048x6144 .f32) (harg14 : arg14.IsWhole) (arg15 : Memref sig .tc .vmem S8x2048x6144 .f32) (harg15 : arg15.IsWhole)
    (x0 : Vec F S8x2048x6144 .bf16) (x1 : Vec F S8x6144 .f32) (x2 : Vec F S48x128x128 .fp8e4m3) (x3 : Vec F S48x128 .f32) (x4 : Vec F S48x128 .f32) (x5 : Vec F S48x128x128 .fp8e4m3) (x6 : Vec F S48x128 .f32) (x7 : Vec F S48x128 .f32) (x8 : Vec F S6144 .f32) :
    out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay6 x0 := by
  unfold out0_A_12
  rw [View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  unfold kernelRun0_A
  dsimp only
  sl_unfold_words
  rw [View.canon_unit_zero hz3]
  simp only [View.readAt_eq_ld, harg0.read_unread, View.ld_unit_zero (S := S8x2048x6144) hz3]

/-! ## Codes and scales, at coordinates -/

/-- The head of a column. -/
def headOf (d : Fin 6144) : Fin 48 := ⟨d.val / 128, by omega⟩
/-- The lane of a column. -/
def laneOf (d : Fin 6144) : Fin 128 := ⟨d.val % 128, by omega⟩
/-- The column of a head's lane. -/
def colOf (h : Fin 48) (l : Fin 128) : Fin 6144 := ⟨128 * h.val + l.val, by omega⟩

theorem split_apply {α : Type} (v : S8x2048x6144.Idx → α) (hc : S8x2048x6144.ShapeCasts S8x2048x48x128) (b : Fin 8) (s : Fin 2048) (h : Fin 48)
    (l : Fin 128) : shapeCast S8x2048x48x128 v hc (ix4 b s h l) = v (ix3 b s (colOf h l)) := by
  refine shapeCast_apply v hc _ _ ?_
  rw [rowMajor_val3 _ 12582912 6144 rfl rfl, rowMajor_val4 _ 12582912 6144 128 rfl rfl rfl]
  show b.val * 12582912 + s.val * 6144 + (128 * h.val + l.val) = b.val * 12582912 + s.val * 6144 + h.val * 128 + l.val
  omega

theorem join_apply {α : Type} (v : S8x2048x48x128.Idx → α) (hc : S8x2048x48x128.ShapeCasts S8x2048x6144) (b : Fin 8) (s : Fin 2048) (d : Fin 6144) :
    shapeCast S8x2048x6144 v hc (ix3 b s d) = v (ix4 b s (headOf d) (laneOf d)) := by
  refine shapeCast_apply v hc _ _ ?_
  rw [rowMajor_val3 _ 12582912 6144 rfl rfl, rowMajor_val4 _ 12582912 6144 128 rfl rfl rfl]
  show b.val * 12582912 + s.val * 6144 + d.val / 128 * 128 + d.val % 128 = b.val * 12582912 + s.val * 6144 + d.val
  omega

theorem unit_apply {α : Type} (v : S8x2048x48.Idx → α) (hc : S8x2048x48.ShapeCasts S8x2048x48x1) (b : Fin 8) (s : Fin 2048) (h : Fin 48)
    (l : Fin 1) : shapeCast S8x2048x48x1 v hc (ix4 b s h l) = v (ix3 b s h) := by
  refine shapeCast_apply v hc _ _ ?_
  rw [rowMajor_val3 _ 98304 48 rfl rfl, rowMajor_val4 _ 98304 48 1 rfl rfl rfl]
  show b.val * 98304 + s.val * 48 + h.val = b.val * 98304 + s.val * 48 + h.val * 1 + l.val
  omega

theorem spread_apply {α : Type} (v : S8x2048x48x1.Idx → α) (hc : S8x2048x48x1.Broadcasts S8x2048x48x128) (b : Fin 8) (s : Fin 2048) (h : Fin 48)
    (l : Fin 128) : broadcastTo S8x2048x48x128 v hc (ix4 b s h l) = v (ix4 b s h 0) := by
  refine broadcastTo_apply v hc _ _ fun a => ?_
  fin_cases a <;> rfl

theorem pay3_apply (v0 : Vec Ideal S8x2048x6144 .bf16) (b : Fin 8) (s : Fin 2048) (h : Fin 48) (l : Fin 128) :
   k0_pay3 (F := Ideal) v0 (ix4 b s h l) = v0 (ix3 b s (colOf h l)) := by
  unfold k0_pay3 k0_pay2
  rw [split_apply]; rfl

theorem clip_apply {s : Shape} (x y : FVec Ideal s .f32) (i : s.Idx) :
    truncf (F := Ideal) .fp8e4m3 (minimumf (broadcast s (Scalar.ofBits .f32 0x43E00000#32)) (maximumf (broadcast s (Scalar.ofBits .f32 0xC3E00000#32)) (mulf x y)))
      bitsLt_fp8e4m3_f32 i
      = min (Ideal.ofBits .f32 0x43E00000#32) (max (Ideal.ofBits .f32 0xC3E00000#32) (x i * y i)) := by
  pointwise

theorem neg2_apply {s : Shape} (e : FVec Ideal s .f32) (i : s.Idx) :
    exp2 (F := Ideal) (subf (broadcast s (Scalar.ofBits .f32 0x00000000#32)) e) i = Ideal.exp2 (0 - e i) := by
  pointwise
  rfl

theorem pay5_apply (v0 : Vec Ideal S8x2048x6144 .bf16) (b : Fin 8) (s : Fin 2048) (h : Fin 48) (l : Fin 128) :
   k0_pay5 (F := Ideal) v0 (ix4 b s h l) = min (Ideal.ofBits .f32 0x43E00000#32) (max (Ideal.ofBits .f32 0xC3E00000#32)
     (v0 (ix3 b s (colOf h l)) * Ideal.exp2 (0 - k0_pay4 (F := Ideal) v0 (ix3 b s h)))) := by
  unfold k0_pay5
  refine (clip_apply _ _ _).trans ?_
  rw [pay3_apply, spread_apply, unit_apply, neg2_apply]

theorem pay7_apply (v0 : Vec Ideal S8x2048x6144 .bf16) (b : Fin 8) (s : Fin 2048) (d : Fin 6144) :
   k0_pay7 (F := Ideal) v0 (ix3 b s d) = k0_pay5 (F := Ideal) v0 (ix4 b s (headOf d) (laneOf d)) := by
  unfold k0_pay7
  exact join_apply _ _ _ _ _

theorem pay6_apply (v0 : Vec Ideal S8x2048x6144 .bf16) (b : Fin 8) (s : Fin 2048) (h : Fin 48) :
   k0_pay6 (F := Ideal) v0 (ix3 b s h) = Ideal.exp2 (k0_pay4 (F := Ideal) v0 (ix3 b s h)) := by
  unfold k0_pay6
  exact exp2_apply _ _

/-- The largest magnitude of head `h`'s row. -/
theorem peak_apply (v : FVec Ideal S8x2048x48x128 .f32) (hr : S8x2048x48x128.Reduces [3] S8x2048x48) (b : Fin 8) (s : Fin 2048) (h : Fin 48) :
   multiReduction (F := Ideal) .maximumf [3] S8x2048x48 v 0xFF800000#32 hr (.inl rfl) rfl (ix3 b s h) =
     Finset.univ.fold max (Ideal.ofBits .f32 0xFF800000#32) (fun l : Fin 128 => v (ix4 b s h l)) := by
  refine (multiReduction_maximumf_eq_fold v _ hr (.inl rfl) rfl _).trans ((hr.fold_fiber_r4_a3 _ _ _ _).trans ?_)
  rfl

theorem expo_apply {s : Shape} (v4 : FVec Ideal s .f32) (i : s.Idx) :
   select (cmpf .oeq v4 (broadcast s (Scalar.ofBits .f32 0x00000000#32))) (broadcast s (Scalar.ofBits .f32 0x00000000#32))
     (addf (floor (divf (log (mulf v4 (broadcast s (Scalar.ofBits .f32 0x3B124925#32)))) (log (broadcast s (Scalar.ofBits .f32 0x40000000#32)))))
       (broadcast s (Scalar.ofBits .f32 0x3F800000#32))) i = Cert.Spec.expo (v4 i) := by
  unfold Cert.Spec.expo
  pointwise

theorem pay4_apply (v0 : Vec Ideal S8x2048x6144 .bf16) (b : Fin 8) (s : Fin 2048) (h : Fin 48) :
   k0_pay4 (F := Ideal) v0 (ix3 b s h) = Cert.Spec.expo (Finset.univ.fold max (Ideal.ofBits .f32 0xFF800000#32)
     (fun l : Fin 128 => max (v0 (ix3 b s (colOf h l))) (-(v0 (ix3 b s (colOf h l)))))) := by
  unfold k0_pay4
  refine (expo_apply _ _).trans ?_
  rw [peak_apply]
  simp only [absf_apply, pay3_apply]
  rfl

end Cert.ReferenceIdeal.Own
-- ==== Proof.RefLoop.lean ====
module

public import proofs.«01_k».proof.Proof.RefValue
public import Idealize.ShloMosaic.Lib.VecWindow
public import Idealize.ShloMosaic.Lib.WritesUnit
public import Idealize.ShloMosaic.Lib.Pipeline.ValueKit

@[expose] public section
set_option maxRecDepth 16384
noncomputable section
namespace Cert.ReferenceIdeal.Own
open Idealize.ShloMosaic Idealize.ShloMosaic.TcCoe Idealize.SL.Sem
open Cert.ReferenceIdeal Cert.ReferenceIdeal.Gen

variable {F : FTy → Type} [FloatOps F]

/-! ## The scan -/

/-- Row `k` of a staged array. -/
abbrev rowRect (k : Fin k0_t1_loop.trips) : Rect S8x2048x6144 := Rect.unit (s := S8x2048x6144) (k0_off1 k) S8x1x6144.size (k0_off1_inb k)

theorem tripR_eq (𝒱 : Variants) (c : Dev nD) (bd : Option 𝒱.V) (arg0 : Memref sig .tc .vmem S8x2048x6144 .bf16) (harg0 : arg0.IsWhole) (arg1 : Memref sig .tc .vmem S8x6144 .f32) (harg1 : arg1.IsWhole) (arg2 : Memref sig .tc .vmem S48x128x128 .fp8e4m3) (harg2 : arg2.IsWhole) (arg3 : Memref sig .tc .vmem S48x128 .f32) (harg3 : arg3.IsWhole) (arg4 : Memref sig .tc .vmem S48x128 .f32) (harg4 : arg4.IsWhole) (arg5 : Memref sig .tc .vmem S48x128x128 .fp8e4m3) (harg5 : arg5.IsWhole) (arg6 : Memref sig .tc .vmem S48x128 .f32) (harg6 : arg6.IsWhole) (arg7 : Memref sig .tc .vmem S48x128 .f32) (harg7 : arg7.IsWhole) (arg8 : Memref sig .tc .vmem S6144 .f32) (harg8 : arg8.IsWhole) (arg9 : Memref sig .tc .vmem S8x2048x6144 .bf16) (harg9 : arg9.IsWhole) (arg10 : Memref sig .tc .vmem S8x6144 .f32) (harg10 : arg10.IsWhole) (arg11 : Memref sig .tc .vmem S8x2048x6144 .fp8e4m3) (harg11 : arg11.IsWhole) (arg12 : Memref sig .tc .vmem S8x2048x48 .f32) (harg12 : arg12.IsWhole) (arg13 : Memref sig .tc .vmem S8x2048x6144 .f32) (harg13 : arg13.IsWhole) (arg14 : Memref sig .tc .vmem S8x2048x6144 .f32) (harg14 : arg14.IsWhole) (arg15 : Memref sig .tc .vmem S8x2048x6144 .f32) (harg15 : arg15.IsWhole) (v1 : FVec F S8x2048x6144 .f32) (v70 : FVec F S8x2048x6144 .f32) (v72 : FVec F S8x2048x6144 .f32) (v75 : FVec F S6144 .f32) (cst_35 : F .f32) (v77 : FVec F S6144 .f32) (v79 : FVec F S6144 .f32) (X_arg13 : BufTy.Contents (Elt F) arg13.view.ty) (X_arg14 : BufTy.Contents (Elt F) arg14.view.ty) (k : Fin k0_t1_loop.trips) (acc : Vec F S8x6144 .f32) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v70 v72 v75 cst_35 v77 v79 X_arg13 X_arg14 k acc = k0_pay19 acc (View.readAt (Elt F) arg13.view (rowRect k).toLoadRect X_arg13) (View.readAt (Elt F) arg14.view (rowRect k).toLoadRect X_arg14) := by
  unfold tripR_k0_t1 trip_k0_t1
  rfl

theorem tripL_eq (𝒱 : Variants) (c : Dev nD) (bd : Option 𝒱.V) (arg0 : Memref sig .tc .vmem S8x2048x6144 .bf16) (harg0 : arg0.IsWhole) (arg1 : Memref sig .tc .vmem S8x6144 .f32) (harg1 : arg1.IsWhole) (arg2 : Memref sig .tc .vmem S48x128x128 .fp8e4m3) (harg2 : arg2.IsWhole) (arg3 : Memref sig .tc .vmem S48x128 .f32) (harg3 : arg3.IsWhole) (arg4 : Memref sig .tc .vmem S48x128 .f32) (harg4 : arg4.IsWhole) (arg5 : Memref sig .tc .vmem S48x128x128 .fp8e4m3) (harg5 : arg5.IsWhole) (arg6 : Memref sig .tc .vmem S48x128 .f32) (harg6 : arg6.IsWhole) (arg7 : Memref sig .tc .vmem S48x128 .f32) (harg7 : arg7.IsWhole) (arg8 : Memref sig .tc .vmem S6144 .f32) (harg8 : arg8.IsWhole) (arg9 : Memref sig .tc .vmem S8x2048x6144 .bf16) (harg9 : arg9.IsWhole) (arg10 : Memref sig .tc .vmem S8x6144 .f32) (harg10 : arg10.IsWhole) (arg11 : Memref sig .tc .vmem S8x2048x6144 .fp8e4m3) (harg11 : arg11.IsWhole) (arg12 : Memref sig .tc .vmem S8x2048x48 .f32) (harg12 : arg12.IsWhole) (arg13 : Memref sig .tc .vmem S8x2048x6144 .f32) (harg13 : arg13.IsWhole) (arg14 : Memref sig .tc .vmem S8x2048x6144 .f32) (harg14 : arg14.IsWhole) (arg15 : Memref sig .tc .vmem S8x2048x6144 .f32) (harg15 : arg15.IsWhole) (v1 : FVec F S8x2048x6144 .f32) (v70 : FVec F S8x2048x6144 .f32) (v72 : FVec F S8x2048x6144 .f32) (v75 : FVec F S6144 .f32) (cst_35 : F .f32) (v77 : FVec F S6144 .f32) (v79 : FVec F S6144 .f32) (X_arg13 : BufTy.Contents (Elt F) arg13.view.ty) (X_arg14 : BufTy.Contents (Elt F) arg14.view.ty) (k : Fin k0_t1_loop.trips) (acc : Vec F S8x6144 .f32) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v70 v72 v75 cst_35 v77 v79 X_arg13 X_arg14 k acc = [⟨rowRect k, k0_pay20 acc (View.readAt (Elt F) arg13.view (rowRect k).toLoadRect X_arg13) (View.readAt (Elt F) arg14.view (rowRect k).toLoadRect X_arg14)⟩] := by
  unfold tripL_k0_t1 trip_k0_t1
  rfl

/-- A step of the scan. -/
theorem pay19_apply (acc : Vec Ideal S8x6144 .f32) (p q : Vec Ideal S8x1x6144 .f32) (b : Fin 8) (d : Fin 6144) :
    k0_pay19 (F := Ideal) acc p q (ix2 b d) = p (ix3 b 0 d) * acc (ix2 b d) + q (ix3 b 0 d) := by
  have e : ∀ v : FVec Ideal S8x1x6144 .f32, shapeCast S8x6144 v shapeCasts_S8x1x6144_S8x6144 (ix2 b d) = v (ix3 b 0 d) := fun v => by
    refine shapeCast_apply v _ _ _ ?_
    rw [rowMajor_val3 _ 6144 6144 rfl rfl, rowMajor_val2 _ 6144 rfl]
    show b.val * 6144 + 0 * 6144 + d.val = b.val * 6144 + d.val
    omega
  unfold k0_pay19
  exact congrArg₂ (fun x y : EReal => x * acc (ix2 b d) + y) (e p) (e q)

theorem pay20_apply (acc : Vec Ideal S8x6144 .f32) (p q : Vec Ideal S8x1x6144 .f32) (b : Fin 8) (d : Fin 6144) :
    k0_pay20 (F := Ideal) acc p q (ix3 b 0 d) = k0_pay19 (F := Ideal) acc p q (ix2 b d) := by
  unfold k0_pay20
  refine shapeCast_apply _ _ _ _ ?_
  rw [rowMajor_val3 _ 6144 6144 rfl rfl, rowMajor_val2 _ 6144 rfl]
  show b.val * 6144 + d.val = b.val * 6144 + 0 * 6144 + d.val
  omega

theorem off_row : ∀ k : Fin k0_t1_loop.trips, k0_off1 k = ![0, k.val, 0] := by decide +kernel
theorem trips_eq : k0_t1_loop.trips = 2048 := by decide +kernel

/-- The state after `n` steps over rates `a` and drives `u`. -/
def scan (a u : S8x2048x6144.Idx → EReal) (h : S8x6144.Idx → EReal) (b : Fin 8) (d : Fin 6144) : ℕ → EReal
  | 0 => h (ix2 b d)
  | n + 1 => if hn : n < 2048 then a (ix3 b ⟨n, hn⟩ d) * scan a u h b d n + u (ix3 b ⟨n, hn⟩ d) else scan a u h b d n

section Scan
variable (𝒱 : Variants) (c : Dev nD) (bd : Option 𝒱.V) (arg0 : Memref sig .tc .vmem S8x2048x6144 .bf16) (harg0 : arg0.IsWhole) (arg1 : Memref sig .tc .vmem S8x6144 .f32) (harg1 : arg1.IsWhole) (arg2 : Memref sig .tc .vmem S48x128x128 .fp8e4m3) (harg2 : arg2.IsWhole) (arg3 : Memref sig .tc .vmem S48x128 .f32) (harg3 : arg3.IsWhole) (arg4 : Memref sig .tc .vmem S48x128 .f32) (harg4 : arg4.IsWhole) (arg5 : Memref sig .tc .vmem S48x128x128 .fp8e4m3) (harg5 : arg5.IsWhole) (arg6 : Memref sig .tc .vmem S48x128 .f32) (harg6 : arg6.IsWhole) (arg7 : Memref sig .tc .vmem S48x128 .f32) (harg7 : arg7.IsWhole) (arg8 : Memref sig .tc .vmem S6144 .f32) (harg8 : arg8.IsWhole) (arg9 : Memref sig .tc .vmem S8x2048x6144 .bf16) (harg9 : arg9.IsWhole) (arg10 : Memref sig .tc .vmem S8x6144 .f32) (harg10 : arg10.IsWhole) (arg11 : Memref sig .tc .vmem S8x2048x6144 .fp8e4m3) (harg11 : arg11.IsWhole) (arg12 : Memref sig .tc .vmem S8x2048x48 .f32) (harg12 : arg12.IsWhole) (arg13 : Memref sig .tc .vmem S8x2048x6144 .f32) (harg13 : arg13.IsWhole) (arg14 : Memref sig .tc .vmem S8x2048x6144 .f32) (harg14 : arg14.IsWhole) (arg15 : Memref sig .tc .vmem S8x2048x6144 .f32) (harg15 : arg15.IsWhole) (v1 : FVec Ideal S8x2048x6144 .f32) (v70 : FVec Ideal S8x2048x6144 .f32) (v72 : FVec Ideal S8x2048x6144 .f32) (v75 : FVec Ideal S6144 .f32) (cst_35 : Ideal .f32) (v77 : FVec Ideal S6144 .f32) (v79 : FVec Ideal S6144 .f32) (X_arg13 : BufTy.Contents (Elt Ideal) arg13.view.ty) (X_arg14 : BufTy.Contents (Elt Ideal) arg14.view.ty) (init : Vec Ideal S8x6144 .f32) (a u : S8x2048x6144.Idx → EReal)
  (hA : ∀ (k : Fin k0_t1_loop.trips) b d, View.readAt (Elt Ideal) arg13.view (rowRect k).toLoadRect X_arg13 (ix3 b 0 d) = a (ix3 b (k.cast trips_eq) d))
  (hU : ∀ (k : Fin k0_t1_loop.trips) b d, View.readAt (Elt Ideal) arg14.view (rowRect k).toLoadRect X_arg14 (ix3 b 0 d) = u (ix3 b (k.cast trips_eq) d))

include hA hU in
theorem st_value (n : ℕ) (hn : n ≤ 2048) (b : Fin 8) (d : Fin 6144) : (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v70 v72 v75 cst_35 v77 v79 X_arg13 X_arg14 init n).1 (ix2 b d) = scan a u init b d n := by
  induction n with
  | zero => rfl
  | succ n ih =>
    have hk : n < k0_t1_loop.trips := lt_of_lt_of_eq (by omega) trips_eq.symm
    have hn' : n < 2048 := by omega
    rw [st_k0_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v70 v72 v75 cst_35 v77 v79 X_arg13 X_arg14 init ⟨n, hk⟩]
    dsimp only
    rw [tripR_eq, pay19_apply, hA, hU, ih (by omega)]
    rw [scan, dif_pos hn']
    rfl

include hA hU in
theorem st_rows (G : BufTy.Contents (Elt Ideal) arg15.view.ty) (L : List (View.Piece (Elt Ideal) S8x2048x6144 .f32)) (n : ℕ) (hn : n ≤ 2048) (b : Fin 8) (t : Fin 2048) (d : Fin 6144) (ht : t.val < n) :
    arg15.view.read (Elt Ideal) (arg15.view.writes (Elt Ideal) G ((st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v70 v72 v75 cst_35 v77 v79 X_arg13 X_arg14 init n).2 ++ L)) (ix3 b t d) = scan a u init b d (t.val + 1) := by
  induction n with
  | zero => omega
  | succ n ih =>
    have hk : n < k0_t1_loop.trips := lt_of_lt_of_eq (by omega) trips_eq.symm
    have hv := st_value 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v70 v72 v75 cst_35 v77 v79 X_arg13 X_arg14 init a u hA hU (n + 1) hn b d
    rw [st_k0_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v70 v72 v75 cst_35 v77 v79 X_arg13 X_arg14 init ⟨n, hk⟩] at hv ⊢
    dsimp only at hv ⊢
    rw [tripR_eq] at hv
    rw [tripL_eq, List.singleton_append, List.cons_append]
    by_cases e : t.val = n
    · refine (View.read_writes_cons_unit_of_mem _ _ _ _ _ _ (ix3 b 0 d) (off_row ⟨n, hk⟩) fun x => ?_).trans ?_
      · fin_cases x
        · exact (Nat.zero_add _).symm
        · exact e
        · exact (Nat.zero_add _).symm
      · rw [pay20_apply, e]
        exact hv
    · refine (View.read_writes_cons_unit_of_not_mem _ _ _ _ _ _ (off_row ⟨n, hk⟩) 1 (.inl ?_)).trans (ih (by omega) (by omega))
      show t.val < n
      omega

end Scan

/-- The rates of decay and the drives, of the arguments. -/
def refA (x0 : Vec Ideal S8x2048x6144 .bf16) (x2 : Vec Ideal S48x128x128 .fp8e4m3) (x3 x4 : Vec Ideal S48x128 .f32) (x8 : Vec Ideal S6144 .f32) : FVec Ideal S8x2048x6144 .f32 :=
  k0_pay16 (F := Ideal) (k0_pay11 (k0_pay6 x0) (k0_pay8 x0) (k0_pay9 x2) x3 x4) (k0_pay12 x8) (FloatOps.ofBits FTy.f32 0#32) (k0_pay13 x8) (k0_pay14 x8)
def refU (x0 : Vec Ideal S8x2048x6144 .bf16) (x2 : Vec Ideal S48x128x128 .fp8e4m3) (x3 x4 : Vec Ideal S48x128 .f32) (x5 : Vec Ideal S48x128x128 .fp8e4m3) (x6 x7 : Vec Ideal S48x128 .f32) (x8 : Vec Ideal S6144 .f32) : FVec Ideal S8x2048x6144 .f32 :=
  k0_pay17 (F := Ideal) (k0_pay2 x0) (k0_pay10 (k0_pay5 x0) (k0_pay6 x0) x5 x6 x7) (k0_pay11 (k0_pay6 x0) (k0_pay8 x0) (k0_pay9 x2) x3 x4) (k0_pay12 x8) (FloatOps.ofBits FTy.f32 0#32) (k0_pay13 x8) (k0_pay14 x8)

/-- A row of an array stored whole. -/
theorem row_read (v : View sig .tc .vmem S8x2048x6144 .f32) (f : v.ty.Contents (Elt Ideal)) (w : Vec Ideal S8x2048x6144 .f32)
    (inb : ∀ a, (![0, 0, 0] : Fin 3 → ℕ) a + S8x2048x6144.size a ≤ S8x2048x6144.size a) (k : Fin k0_t1_loop.trips) (b : Fin 8) (d : Fin 6144) :
    View.readAt (Elt Ideal) v (rowRect k).toLoadRect (v.writes (Elt Ideal) f [⟨Rect.unit (s := S8x2048x6144) ![0, 0, 0] S8x2048x6144.size inb, w⟩]) (ix3 b 0 d) = w (ix3 b (k.cast trips_eq) d) := by
  rw [View.readAt_apply, View.read_writes_full]
  refine congrArg w (funext fun x => Fin.ext ?_)
  have h : ∀ x, k0_off1 k x = (![0, k.val, 0] : Fin 3 → ℕ) x := congrFun (off_row k)
  show k0_off1 k x + 1 * ((ix3 b (0 : Fin 1) d : S8x1x6144.Idx) x).val = _
  rw [h]
  fin_cases x
  · show 0 + 1 * b.val = b.val
    omega
  · show k.val + 1 * 0 = k.val
    omega
  · show 0 + 1 * d.val = d.val
    omega

theorem out_9 (c : Dev nD) (arg0 : Memref sig .tc .vmem S8x2048x6144 .bf16) (harg0 : arg0.IsWhole) (arg1 : Memref sig .tc .vmem S8x6144 .f32) (harg1 : arg1.IsWhole) (arg2 : Memref sig .tc .vmem S48x128x128 .fp8e4m3) (harg2 : arg2.IsWhole) (arg3 : Memref sig .tc .vmem S48x128 .f32) (harg3 : arg3.IsWhole) (arg4 : Memref sig .tc .vmem S48x128 .f32) (harg4 : arg4.IsWhole) (arg5 : Memref sig .tc .vmem S48x128x128 .fp8e4m3) (harg5 : arg5.IsWhole) (arg6 : Memref sig .tc .vmem S48x128 .f32) (harg6 : arg6.IsWhole) (arg7 : Memref sig .tc .vmem S48x128 .f32) (harg7 : arg7.IsWhole) (arg8 : Memref sig .tc .vmem S6144 .f32) (harg8 : arg8.IsWhole) (arg9 : Memref sig .tc .vmem S8x2048x6144 .bf16) (harg9 : arg9.IsWhole) (arg10 : Memref sig .tc .vmem S8x6144 .f32) (harg10 : arg10.IsWhole) (arg11 : Memref sig .tc .vmem S8x2048x6144 .fp8e4m3) (harg11 : arg11.IsWhole) (arg12 : Memref sig .tc .vmem S8x2048x48 .f32) (harg12 : arg12.IsWhole) (arg13 : Memref sig .tc .vmem S8x2048x6144 .f32) (harg13 : arg13.IsWhole) (arg14 : Memref sig .tc .vmem S8x2048x6144 .f32) (harg14 : arg14.IsWhole) (arg15 : Memref sig .tc .vmem S8x2048x6144 .f32) (harg15 : arg15.IsWhole)
    (x0 : Vec Ideal S8x2048x6144 .bf16) (x1 : Vec Ideal S8x6144 .f32) (x2 : Vec Ideal S48x128x128 .fp8e4m3) (x3 : Vec Ideal S48x128 .f32) (x4 : Vec Ideal S48x128 .f32) (x5 : Vec Ideal S48x128x128 .fp8e4m3) (x6 : Vec Ideal S48x128 .f32) (x7 : Vec Ideal S48x128 .f32) (x8 : Vec Ideal S6144 .f32) (b : Fin 8) (t : Fin 2048) (d : Fin 6144) :
    out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 b t d) = scan (refA x0 x2 x3 x4 x8) (refU x0 x2 x3 x4 x5 x6 x7 x8) x1 b d (t.val + 1) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  unfold kernelRun0_A
  dsimp only
  sl_unfold_words
  rw [View.canon_unit_zero hz3]
  simp only [View.readAt_eq_ld, harg0.read_unread, harg1.read_unread, harg2.read_unread, harg3.read_unread, harg4.read_unread, harg5.read_unread, harg6.read_unread, harg7.read_unread, harg8.read_unread, View.ld_unit_zero (S := S8x2048x6144) hz3, View.ld_unit_zero (S := S48x128x128) hz3, View.ld_unit_zero (S := S48x128) hz2, View.ld_unit_zero (S := S8x6144) hz2, View.ld_unit_zero (S := S6144) hz1]
  refine (congrFun (View.readAt_full arg15.view _ _) (ix3 b t d)).trans ?_
  refine st_rows _ _ _ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ ?_ ?_ _ _ 2048 le_rfl b t d t.isLt
  · exact fun k b d => row_read _ _ _ _ k b d
  · exact fun k b d => row_read _ _ _ _ k b d

theorem out_10 (c : Dev nD) (arg0 : Memref sig .tc .vmem S8x2048x6144 .bf16) (harg0 : arg0.IsWhole) (arg1 : Memref sig .tc .vmem S8x6144 .f32) (harg1 : arg1.IsWhole) (arg2 : Memref sig .tc .vmem S48x128x128 .fp8e4m3) (harg2 : arg2.IsWhole) (arg3 : Memref sig .tc .vmem S48x128 .f32) (harg3 : arg3.IsWhole) (arg4 : Memref sig .tc .vmem S48x128 .f32) (harg4 : arg4.IsWhole) (arg5 : Memref sig .tc .vmem S48x128x128 .fp8e4m3) (harg5 : arg5.IsWhole) (arg6 : Memref sig .tc .vmem S48x128 .f32) (harg6 : arg6.IsWhole) (arg7 : Memref sig .tc .vmem S48x128 .f32) (harg7 : arg7.IsWhole) (arg8 : Memref sig .tc .vmem S6144 .f32) (harg8 : arg8.IsWhole) (arg9 : Memref sig .tc .vmem S8x2048x6144 .bf16) (harg9 : arg9.IsWhole) (arg10 : Memref sig .tc .vmem S8x6144 .f32) (harg10 : arg10.IsWhole) (arg11 : Memref sig .tc .vmem S8x2048x6144 .fp8e4m3) (harg11 : arg11.IsWhole) (arg12 : Memref sig .tc .vmem S8x2048x48 .f32) (harg12 : arg12.IsWhole) (arg13 : Memref sig .tc .vmem S8x2048x6144 .f32) (harg13 : arg13.IsWhole) (arg14 : Memref sig .tc .vmem S8x2048x6144 .f32) (harg14 : arg14.IsWhole) (arg15 : Memref sig .tc .vmem S8x2048x6144 .f32) (harg15 : arg15.IsWhole)
    (x0 : Vec Ideal S8x2048x6144 .bf16) (x1 : Vec Ideal S8x6144 .f32) (x2 : Vec Ideal S48x128x128 .fp8e4m3) (x3 : Vec Ideal S48x128 .f32) (x4 : Vec Ideal S48x128 .f32) (x5 : Vec Ideal S48x128x128 .fp8e4m3) (x6 : Vec Ideal S48x128 .f32) (x7 : Vec Ideal S48x128 .f32) (x8 : Vec Ideal S6144 .f32) (b : Fin 8) (d : Fin 6144) :
    out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 b d) = scan (refA x0 x2 x3 x4 x8) (refU x0 x2 x3 x4 x5 x6 x7 x8) x1 b d 2048 := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  unfold kernelRun0_A
  dsimp only
  sl_unfold_words
  rw [View.canon_unit_zero hz2]
  simp only [View.readAt_eq_ld, harg0.read_unread, harg1.read_unread, harg2.read_unread, harg3.read_unread, harg4.read_unread, harg5.read_unread, harg6.read_unread, harg7.read_unread, harg8.read_unread, View.ld_unit_zero (S := S8x2048x6144) hz3, View.ld_unit_zero (S := S48x128x128) hz3, View.ld_unit_zero (S := S48x128) hz2, View.ld_unit_zero (S := S8x6144) hz2, View.ld_unit_zero (S := S6144) hz1]
  refine st_value _ _ _ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ ?_ ?_ 2048 le_rfl b d
  · exact fun k b d => row_read _ _ _ _ k b d
  · exact fun k b d => row_read _ _ _ _ k b d

end Cert.ReferenceIdeal.Own
-- ==== Proof.RefGates.lean ====
module

public import proofs.«01_k».proof.Proof.RefLoop

@[expose] public section
set_option maxRecDepth 16384
noncomputable section
namespace Cert.ReferenceIdeal.Own
open Idealize.ShloMosaic Idealize.ShloMosaic.TcCoe Idealize.SL.Sem
open Cert.ReferenceIdeal Cert.ReferenceIdeal.Gen

/-! ## The reference's gates, decay and drive at a coordinate -/

theorem dot_apply (w : S48x128x128.Idx → EReal) (q : S8x2048x48x128.Idx → EReal) (acc : S48x128x8x2048.Idx → EReal)
    (h : Fin 48) (l : Fin 128) (b : Fin 8) (s : Fin 2048) :
    Ideal.matmul dot_S48x128x128_S8x2048x48x128_S48x128x8x2048_1_3_2_01_0_2 w q acc (ix4 h l b s)
      = acc (ix4 h l b s) + ∑ r : Fin 128, w (ix3 h r l) * q (ix4 b s h r) := by
  refine Ideal.matmul_apply₁_of (K := 128) _ rfl rfl w q acc _ _ _ (fun k => ?_) (fun k => ?_)
  · funext a; fin_cases a <;> rfl
  · funext a; fin_cases a <;> rfl

theorem turn_apply (v : S48x128x8x2048.Idx → EReal) (hp : S48x128x8x2048.Transposes [2, 3, 0, 1] S8x2048x48x128) (h : Fin 48) (l : Fin 128) (b : Fin 8) (s : Fin 2048) :
    transpose S8x2048x48x128 [2, 3, 0, 1] v hp (ix4 b s h l) = v (ix4 h l b s) :=
  transpose_apply _ _ _ _ (ix4 h l b s) fun a => by fin_cases a <;> rfl

theorem lift_apply (v : S48x128.Idx → EReal) (hc : S48x128.ShapeCasts S1x1x48x128) (hb : S1x1x48x128.Broadcasts S8x2048x48x128) (h : Fin 48) (l : Fin 128) (b : Fin 8) (s : Fin 2048) :
    broadcastTo S8x2048x48x128 (shapeCast S1x1x48x128 v hc) hb (ix4 b s h l) = v (ix2 h l) := by
  refine (broadcastTo_apply _ hb _ (ix4 0 0 h l) fun a => ?_).trans ?_
  · fin_cases a <;> rfl
  · refine shapeCast_apply v hc _ _ ?_
    rw [rowMajor_val2 _ 128 rfl, rowMajor_val4 _ 6144 6144 128 rfl rfl rfl]
    show h.val * 128 + l.val = 0 * 6144 + 0 * 6144 + h.val * 128 + l.val
    omega

theorem long_apply (v : S6144.Idx → EReal) (hc : S6144.ShapeCasts S1x1x6144) (hb : S1x1x6144.Broadcasts S8x2048x6144) (b : Fin 8) (s : Fin 2048) (d : Fin 6144) :
    broadcastTo S8x2048x6144 (shapeCast S1x1x6144 v hc) hb (ix3 b s d) = v (ix1 d) := by
  refine (broadcastTo_apply _ hb _ (ix3 0 0 d) fun a => ?_).trans ?_
  · fin_cases a <;> rfl
  · refine shapeCast_apply v hc _ _ ?_
    rw [rowMajor_val1, rowMajor_val3 _ 6144 6144 rfl rfl]
    show d.val = 0 * 6144 + 0 * 6144 + d.val
    omega

/-- A gate's value before the logistic. -/
def refZ (q : S8x2048x48x128.Idx → EReal) (sc : S8x2048x48.Idx → EReal) (w : S48x128x128.Idx → EReal) (s b : S48x128.Idx → EReal)
    (i : Fin 8) (n : Fin 2048) (h : Fin 48) (l : Fin 128) : EReal :=
  (Ideal.ofBits .f32 0x00000000#32 + ∑ r : Fin 128, w (ix3 h r l) * q (ix4 i n h r)) * sc (ix3 i n h) * s (ix2 h l) + b (ix2 h l)

theorem pay10_apply (q : FVec Ideal S8x2048x48x128 .fp8e4m3) (sc : FVec Ideal S8x2048x48 .f32) (w : Vec Ideal S48x128x128 .fp8e4m3) (s b : Vec Ideal S48x128 .f32)
    (i : Fin 8) (n : Fin 2048) (d : Fin 6144) :
    k0_pay10 (F := Ideal) q sc w s b (ix3 i n d) = Ideal.logistic (refZ q sc w s b i n (headOf d) (laneOf d)) := by
  unfold k0_pay10
  rw [join_apply]
  show Ideal.logistic (transpose S8x2048x48x128 [2, 3, 0, 1] (Ideal.matmul dot_S48x128x128_S8x2048x48x128_S48x128x8x2048_1_3_2_01_0_2 _ _ _) _ _ * broadcastTo S8x2048x48x128 (shapeCast S8x2048x48x1 sc _) _ _ * broadcastTo S8x2048x48x128 (shapeCast S1x1x48x128 s _) _ _ + broadcastTo S8x2048x48x128 (shapeCast S1x1x48x128 b _) _ _) = _
  rw [turn_apply, dot_apply, spread_apply, unit_apply, lift_apply, lift_apply, shapeCast_self]
  rfl

theorem pay11_apply (q : FVec Ideal S8x2048x48x128 .f32) (sc : FVec Ideal S8x2048x48 .f32) (w : FVec Ideal S48x128x128 .f32) (s b : Vec Ideal S48x128 .f32)
    (i : Fin 8) (n : Fin 2048) (d : Fin 6144) :
    k0_pay11 (F := Ideal) sc q w s b (ix3 i n d) = Ideal.ofBits .f32 0xC1000000#32 * Ideal.logistic (refZ q sc w s b i n (headOf d) (laneOf d)) := by
  unfold k0_pay11
  show Ideal.ofBits .f32 0xC1000000#32 * shapeCast S8x2048x6144 _ _ _ = _
  rw [join_apply]
  show _ * Ideal.logistic (transpose S8x2048x48x128 [2, 3, 0, 1] (Ideal.matmul dot_S48x128x128_S8x2048x48x128_S48x128x8x2048_1_3_2_01_0_2 _ _ _) _ _ * broadcastTo S8x2048x48x128 (shapeCast S8x2048x48x1 sc _) _ _ * broadcastTo S8x2048x48x128 (shapeCast S1x1x48x128 s _) _ _ + broadcastTo S8x2048x48x128 (shapeCast S1x1x48x128 b _) _ _) = _
  rw [turn_apply, dot_apply, spread_apply, unit_apply, lift_apply, lift_apply]
  rfl

/-- The softplus as the reference writes it. -/
def refSp (x : EReal) : EReal := max (0 - x) 0 + Ideal.log1p (Ideal.exp (0 - max (0 - x - 0) (-(0 - x - 0))))

theorem soft_apply (x8 : Vec Ideal S6144 .f32) (d : Fin 6144) :
    select (cmpf (F := Ideal) .one (k0_pay14 x8) (k0_pay14 x8)) (addf (k0_pay12 x8) (broadcast S6144 (FloatOps.ofBits FTy.f32 0#32)))
      (addf (k0_pay13 x8) (log1p (exp (subf (broadcast S6144 (Scalar.ofBits .f32 0x00000000#32)) (absf (k0_pay14 x8)))))) (ix1 d) = refSp (x8 (ix1 d)) := by
  pointwise [k0_pay12, k0_pay13, k0_pay14]
  simp [refSp, Ideal.cmp]
  show max (-x8 (ix1 d)) 0 + Ideal.log1p (Ideal.exp (-max (-x8 (ix1 d)) (- -x8 (ix1 d)))) = _
  rw [neg_neg]

theorem pay15_apply (v72 : FVec Ideal S8x2048x6144 .f32) (x8 : Vec Ideal S6144 .f32) (i : Fin 8) (n : Fin 2048) (d : Fin 6144) :
    k0_pay15 (F := Ideal) v72 (k0_pay12 x8) (FloatOps.ofBits FTy.f32 0#32) (k0_pay13 x8) (k0_pay14 x8) (ix3 i n d) = v72 (ix3 i n d) * refSp (x8 (ix1 d)) := by
  unfold k0_pay15
  show v72 (ix3 i n d) * broadcastTo S8x2048x6144 (shapeCast S1x1x6144 _ _) _ _ = _
  rw [long_apply, soft_apply]

/-- The logarithm of the decay. -/
def refLa (x0 : Vec Ideal S8x2048x6144 .bf16) (x2 : Vec Ideal S48x128x128 .fp8e4m3) (x3 x4 : Vec Ideal S48x128 .f32) (x8 : Vec Ideal S6144 .f32)
    (i : Fin 8) (n : Fin 2048) (d : Fin 6144) : EReal :=
  Ideal.ofBits .f32 0xC1000000#32 * Ideal.logistic (refZ (k0_pay5 (F := Ideal) x0) (k0_pay6 (F := Ideal) x0) x2 x3 x4 i n (headOf d) (laneOf d)) * refSp (x8 (ix1 d))

theorem refA_apply (x0 : Vec Ideal S8x2048x6144 .bf16) (x2 : Vec Ideal S48x128x128 .fp8e4m3) (x3 x4 : Vec Ideal S48x128 .f32) (x8 : Vec Ideal S6144 .f32)
    (i : Fin 8) (n : Fin 2048) (d : Fin 6144) : refA x0 x2 x3 x4 x8 (ix3 i n d) = Ideal.exp (refLa x0 x2 x3 x4 x8 i n d) := by
  unfold refA k0_pay16
  rw [shapeCast_self]
  show Ideal.exp (k0_pay15 (F := Ideal) _ _ _ _ _ (ix3 i n d)) = _
  rw [pay15_apply, pay11_apply]
  unfold k0_pay9 k0_pay8
  rw [shapeCast_self]
  rfl

theorem refU_apply (x0 : Vec Ideal S8x2048x6144 .bf16) (x2 : Vec Ideal S48x128x128 .fp8e4m3) (x3 x4 : Vec Ideal S48x128 .f32) (x5 : Vec Ideal S48x128x128 .fp8e4m3) (x6 x7 : Vec Ideal S48x128 .f32) (x8 : Vec Ideal S6144 .f32)
    (i : Fin 8) (n : Fin 2048) (d : Fin 6144) : refU x0 x2 x3 x4 x5 x6 x7 x8 (ix3 i n d) =
      Ideal.sqrt (Ideal.ofBits .f32 0x00000000#32 - (Ideal.exp (Ideal.ofBits .f32 0x40000000#32 * refLa x0 x2 x3 x4 x8 i n d) - Ideal.ofBits .f32 0x3F800000#32))
        * Ideal.logistic (refZ (k0_pay5 (F := Ideal) x0) (k0_pay6 (F := Ideal) x0) x5 x6 x7 i n (headOf d) (laneOf d)) * x0 (ix3 i n d) := by
  unfold refU k0_pay17
  rw [shapeCast_self]
  show Ideal.sqrt (_ - (Ideal.exp (_ * k0_pay15 (F := Ideal) _ _ _ _ _ (ix3 i n d)) - _)) * k0_pay10 (F := Ideal) _ _ _ _ _ (ix3 i n d) * _ = _
  rw [pay15_apply, pay11_apply, pay10_apply]
  unfold k0_pay9 k0_pay8
  rw [shapeCast_self]
  rfl

end Cert.ReferenceIdeal.Own
-- ==== Proof.RefArrays.lean ====
module

public import proofs.«01_k».proof.Proof.RefGates
public import Idealize.ShloMosaic.Lib.Pipeline.ValueKit

@[expose] public section
set_option maxRecDepth 16384
noncomputable section
namespace Cert.ReferenceIdeal.Own
open Idealize.ShloMosaic Idealize.ShloMosaic.TcCoe Idealize.ShloMosaic.Tactic Idealize.SL.Sem
open Idealize.ShloMosaic.Pipeline (Dat RDat Cfg Window)
open Cert.ReferenceIdeal Cert.ReferenceIdeal.Gen

variable (m : (ℓ : Loc nD τ sig) → Buf (Elt Ideal) ℓ)

/-! ## The reference's result arrays, of its arguments -/

theorem V_main_v0 (c : Dev nD) : V m c main_v0 = m ((c.tc : Thread nD τ).loc main_arg2) := by
  simp (disch := decide) only [V, hostOps0, List.flatten_cons, List.flatten_nil, List.append_nil, StableHlo.after_cons, StableHlo.after_nil,
    StableHlo.reshape_result', StableHlo.unary_result', StableHlo.reshape_result_ne', StableHlo.unary_result_ne']
  rfl

theorem V_main_v1 (c : Dev nD) : V m c main_v1 = m ((c.tc : Thread nD τ).loc main_arg5) := by
  simp (disch := decide) only [V, hostOps0, List.flatten_cons, List.flatten_nil, List.append_nil, StableHlo.after_cons, StableHlo.after_nil,
    StableHlo.reshape_result', StableHlo.unary_result', StableHlo.reshape_result_ne', StableHlo.unary_result_ne']
  rfl

theorem idx_0 : ∀ t : Fin cfg0.N, win0_0.index t = ![0, 0, 0] := by decide +kernel
theorem blk_0 (c : Dev nD) (t : Fin cfg0.N) : iblk m c 0 t = m ((c.tc : Thread nD τ).loc main_arg0) := by
  refine Eq.trans ?_ (V_main_arg0 m c)
  funext y
  have e0 : (((cfg0.win 0).blk t).view.emb y 0 : ℕ) = (y 0).val := by blk_simp [idx_0]
  have e1 : (((cfg0.win 0).blk t).view.emb y 1 : ℕ) = (y 1).val := by blk_simp [idx_0]
  have e2 : (((cfg0.win 0).blk t).view.emb y 2 : ℕ) = (y 2).val := by blk_simp [idx_0]
  show V m c main_arg0 (((cfg0.win 0).blk t).view.emb y) = V m c main_arg0 y
  exact congrArg _ (funext fun a => by fin_cases a; exacts [Fin.ext e0, Fin.ext e1, Fin.ext e2])

theorem idx_1 : ∀ t : Fin cfg0.N, win0_1.index t = ![0, 0] := by decide +kernel
theorem blk_1 (c : Dev nD) (t : Fin cfg0.N) : iblk m c 1 t = m ((c.tc : Thread nD τ).loc main_arg1) := by
  refine Eq.trans ?_ (V_main_arg1 m c)
  funext y
  have e0 : (((cfg0.win 1).blk t).view.emb y 0 : ℕ) = (y 0).val := by blk_simp [idx_1]
  have e1 : (((cfg0.win 1).blk t).view.emb y 1 : ℕ) = (y 1).val := by blk_simp [idx_1]
  show V m c main_arg1 (((cfg0.win 1).blk t).view.emb y) = V m c main_arg1 y
  exact congrArg _ (funext fun a => by fin_cases a; exacts [Fin.ext e0, Fin.ext e1])

theorem idx_2 : ∀ t : Fin cfg0.N, win0_2.index t = ![0, 0, 0] := by decide +kernel
theorem blk_2 (c : Dev nD) (t : Fin cfg0.N) : iblk m c 2 t = m ((c.tc : Thread nD τ).loc main_arg2) := by
  refine Eq.trans ?_ (V_main_v0 m c)
  funext y
  have e0 : (((cfg0.win 2).blk t).view.emb y 0 : ℕ) = (y 0).val := by blk_simp [idx_2]
  have e1 : (((cfg0.win 2).blk t).view.emb y 1 : ℕ) = (y 1).val := by blk_simp [idx_2]
  have e2 : (((cfg0.win 2).blk t).view.emb y 2 : ℕ) = (y 2).val := by blk_simp [idx_2]
  show V m c main_v0 (((cfg0.win 2).blk t).view.emb y) = V m c main_v0 y
  exact congrArg _ (funext fun a => by fin_cases a; exacts [Fin.ext e0, Fin.ext e1, Fin.ext e2])

theorem idx_3 : ∀ t : Fin cfg0.N, win0_3.index t = ![0, 0] := by decide +kernel
theorem blk_3 (c : Dev nD) (t : Fin cfg0.N) : iblk m c 3 t = m ((c.tc : Thread nD τ).loc main_arg3) := by
  refine Eq.trans ?_ (V_main_arg3 m c)
  funext y
  have e0 : (((cfg0.win 3).blk t).view.emb y 0 : ℕ) = (y 0).val := by blk_simp [idx_3]
  have e1 : (((cfg0.win 3).blk t).view.emb y 1 : ℕ) = (y 1).val := by blk_simp [idx_3]
  show V m c main_arg3 (((cfg0.win 3).blk t).view.emb y) = V m c main_arg3 y
  exact congrArg _ (funext fun a => by fin_cases a; exacts [Fin.ext e0, Fin.ext e1])

theorem idx_4 : ∀ t : Fin cfg0.N, win0_4.index t = ![0, 0] := by decide +kernel
theorem blk_4 (c : Dev nD) (t : Fin cfg0.N) : iblk m c 4 t = m ((c.tc : Thread nD τ).loc main_arg4) := by
  refine Eq.trans ?_ (V_main_arg4 m c)
  funext y
  have e0 : (((cfg0.win 4).blk t).view.emb y 0 : ℕ) = (y 0).val := by blk_simp [idx_4]
  have e1 : (((cfg0.win 4).blk t).view.emb y 1 : ℕ) = (y 1).val := by blk_simp [idx_4]
  show V m c main_arg4 (((cfg0.win 4).blk t).view.emb y) = V m c main_arg4 y
  exact congrArg _ (funext fun a => by fin_cases a; exacts [Fin.ext e0, Fin.ext e1])

theorem idx_5 : ∀ t : Fin cfg0.N, win0_5.index t = ![0, 0, 0] := by decide +kernel
theorem blk_5 (c : Dev nD) (t : Fin cfg0.N) : iblk m c 5 t = m ((c.tc : Thread nD τ).loc main_arg5) := by
  refine Eq.trans ?_ (V_main_v1 m c)
  funext y
  have e0 : (((cfg0.win 5).blk t).view.emb y 0 : ℕ) = (y 0).val := by blk_simp [idx_5]
  have e1 : (((cfg0.win 5).blk t).view.emb y 1 : ℕ) = (y 1).val := by blk_simp [idx_5]
  have e2 : (((cfg0.win 5).blk t).view.emb y 2 : ℕ) = (y 2).val := by blk_simp [idx_5]
  show V m c main_v1 (((cfg0.win 5).blk t).view.emb y) = V m c main_v1 y
  exact congrArg _ (funext fun a => by fin_cases a; exacts [Fin.ext e0, Fin.ext e1, Fin.ext e2])

theorem idx_6 : ∀ t : Fin cfg0.N, win0_6.index t = ![0, 0] := by decide +kernel
theorem blk_6 (c : Dev nD) (t : Fin cfg0.N) : iblk m c 6 t = m ((c.tc : Thread nD τ).loc main_arg6) := by
  refine Eq.trans ?_ (V_main_arg6 m c)
  funext y
  have e0 : (((cfg0.win 6).blk t).view.emb y 0 : ℕ) = (y 0).val := by blk_simp [idx_6]
  have e1 : (((cfg0.win 6).blk t).view.emb y 1 : ℕ) = (y 1).val := by blk_simp [idx_6]
  show V m c main_arg6 (((cfg0.win 6).blk t).view.emb y) = V m c main_arg6 y
  exact congrArg _ (funext fun a => by fin_cases a; exacts [Fin.ext e0, Fin.ext e1])

theorem idx_7 : ∀ t : Fin cfg0.N, win0_7.index t = ![0, 0] := by decide +kernel
theorem blk_7 (c : Dev nD) (t : Fin cfg0.N) : iblk m c 7 t = m ((c.tc : Thread nD τ).loc main_arg7) := by
  refine Eq.trans ?_ (V_main_arg7 m c)
  funext y
  have e0 : (((cfg0.win 7).blk t).view.emb y 0 : ℕ) = (y 0).val := by blk_simp [idx_7]
  have e1 : (((cfg0.win 7).blk t).view.emb y 1 : ℕ) = (y 1).val := by blk_simp [idx_7]
  show V m c main_arg7 (((cfg0.win 7).blk t).view.emb y) = V m c main_arg7 y
  exact congrArg _ (funext fun a => by fin_cases a; exacts [Fin.ext e0, Fin.ext e1])

theorem idx_8 : ∀ t : Fin cfg0.N, win0_8.index t = ![0] := by decide +kernel
theorem blk_8 (c : Dev nD) (t : Fin cfg0.N) : iblk m c 8 t = m ((c.tc : Thread nD τ).loc main_arg8) := by
  refine Eq.trans ?_ (V_main_arg8 m c)
  funext y
  have e0 : (((cfg0.win 8).blk t).view.emb y 0 : ℕ) = (y 0).val := by blk_simp [idx_8]
  show V m c main_arg8 (((cfg0.win 8).blk t).view.emb y) = V m c main_arg8 y
  exact congrArg _ (funext fun a => by fin_cases a; exacts [Fin.ext e0])

/-- The results at a memory. -/
def ryG (c : Dev nD) : S8x2048x6144.Idx → EReal := fun x => scan (refA (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg8))) (refU (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (x 0) (x 2) ((x 1).val + 1)
def rhG (c : Dev nD) : S8x6144.Idx → EReal := fun x => scan (refA (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg8))) (refU (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (x 0) (x 1) 2048
def rcG (c : Dev nD) : S8x2048x6144.Idx → EReal := k0_pay7 (F := Ideal) (m ((c.tc : Thread nD τ).loc main_arg0))
def rsG (c : Dev nD) : S8x2048x48.Idx → EReal := k0_pay6 (F := Ideal) (m ((c.tc : Thread nD τ).loc main_arg0))

theorem outs_9 (c : Dev nD) (t : Fin cfg0.N) : (outsAt0 m c t).1 = ryG m c := by
  simp only [outsAt0, blk_0, blk_1, blk_2, blk_3, blk_4, blk_5, blk_6, blk_7, blk_8]
  funext x
  rw [eq_ix3 x]
  exact out_9 _ _ _ _ _ _ _ _ _ _ _ _ _ _ _ _ _ _ _ _ _ _ _ _ _ _ _ _ _ _ _ _ _ _ _ _ _ _ _ _ _ _ _ _ _

theorem outs_10 (c : Dev nD) (t : Fin cfg0.N) : (outsAt0 m c t).2.1 = rhG m c := by
  simp only [outsAt0, blk_0, blk_1, blk_2, blk_3, blk_4, blk_5, blk_6, blk_7, blk_8]
  funext x
  rw [eq_ix2 x]
  exact out_10 _ _ _ _ _ _ _ _ _ _ _ _ _ _ _ _ _ _ _ _ _ _ _ _ _ _ _ _ _ _ _ _ _ _ _ _ _ _ _ _ _ _ _ _

theorem outs_11 (c : Dev nD) (t : Fin cfg0.N) : (outsAt0 m c t).2.2.1 = rcG m c := by
  simp only [outsAt0, blk_0, blk_1, blk_2, blk_3, blk_4, blk_5, blk_6, blk_7, blk_8]
  exact out_11 _ _ _ _ _ _ _ _ _ _ _ _ _ _ _ _ _ _ _ _ _ _ _ _ _ _ _ _ _ _ _ _ _ _ _ _ _ _ _ _ _ _

theorem outs_12 (c : Dev nD) (t : Fin cfg0.N) : (outsAt0 m c t).2.2.2 = rsG m c := by
  simp only [outsAt0, blk_0, blk_1, blk_2, blk_3, blk_4, blk_5, blk_6, blk_7, blk_8]
  exact out_12 _ _ _ _ _ _ _ _ _ _ _ _ _ _ _ _ _ _ _ _ _ _ _ _ _ _ _ _ _ _ _ _ _ _ _ _ _ _ _ _ _ _

theorem arr_9_of (c : Dev nD) (G : S8x2048x6144.Idx → EReal) (h : (outsAt0 m c ⟨0, by decide⟩).1 = G) : (dats m 0 c).arrAt 9 cfg0.N = G := by
  refine (dats m 0 c).arrAt_eq_of_after_last 9 ⟨0, by decide⟩ (by decide +kernel) G fun j => ?_
  have e := congrFun ((after0_9 m c ⟨0, by decide⟩).trans h)
  exact e _

theorem arr_9 (c : Dev nD) : (dats m 0 c).arrAt 9 cfg0.N = ryG m c := arr_9_of m c _ (outs_9 m c _)

theorem arr_10_of (c : Dev nD) (G : S8x6144.Idx → EReal) (h : (outsAt0 m c ⟨0, by decide⟩).2.1 = G) : (dats m 0 c).arrAt 10 cfg0.N = G := by
  refine (dats m 0 c).arrAt_eq_of_after_last 10 ⟨0, by decide⟩ (by decide +kernel) G fun j => ?_
  have e := congrFun ((after0_10 m c ⟨0, by decide⟩).trans h)
  exact e _

theorem arr_10 (c : Dev nD) : (dats m 0 c).arrAt 10 cfg0.N = rhG m c := arr_10_of m c _ (outs_10 m c _)

theorem arr_11_of (c : Dev nD) (G : S8x2048x6144.Idx → EReal) (h : (outsAt0 m c ⟨0, by decide⟩).2.2.1 = G) : (dats m 0 c).arrAt 11 cfg0.N = G := by
  refine (dats m 0 c).arrAt_eq_of_after_last 11 ⟨0, by decide⟩ (by decide +kernel) G fun j => ?_
  have e := congrFun ((after0_11 m c ⟨0, by decide⟩).trans h)
  exact e _

theorem arr_11 (c : Dev nD) : (dats m 0 c).arrAt 11 cfg0.N = rcG m c := arr_11_of m c _ (outs_11 m c _)

theorem arr_12_of (c : Dev nD) (G : S8x2048x48.Idx → EReal) (h : (outsAt0 m c ⟨0, by decide⟩).2.2.2 = G) : (dats m 0 c).arrAt 12 cfg0.N = G := by
  refine (dats m 0 c).arrAt_eq_of_after_last 12 ⟨0, by decide⟩ (by decide +kernel) G fun j => ?_
  have e := congrFun ((after0_12 m c ⟨0, by decide⟩).trans h)
  exact e _

theorem arr_12 (c : Dev nD) : (dats m 0 c).arrAt 12 cfg0.N = rsG m c := arr_12_of m c _ (outs_12 m c _)

end Cert.ReferenceIdeal.Own
-- ==== Proof.Ideal.Places.lean ====
module

public import proofs.«01_k».proof.Proof.Ideal.Triple
public import Idealize.ShloMosaic.Lib.Pointwise
public import Idealize.ShloMosaic.Lib.ValueIdx

@[expose] public section
set_option maxRecDepth 1000000
noncomputable section
namespace Cert.KernelIdeal.Own
open Idealize.ShloMosaic Idealize.ShloMosaic.TcCoe Idealize.SL.Sem
open Cert Cert.KernelIdeal.Facts₀ Cert.KernelIdeal.Facts

/-! Where the body's rectangles lie, and what a store through one of them leaves. -/

theorem put_at {s : Shape} {e : EltTy} (r : Rect s) (w : r.shape.Idx → Elt Ideal e) (T : s.Idx → Elt Ideal e) (y : s.Idx) (p : Prop)
    [Decidable p] (x : r.shape.Idx) (hin : p → r.emb x = y) (hout : ∀ x, r.emb x = y → p) :
    put r w T y = if p then w x else T y := by
  split
  · next h => rw [← hin h]; exact put_in r w T x
  · next h => exact put_out r w T y fun x hx => h (hout x hx)

theorem head_no : ∀ (g : Fin 12) (j : Fin 4),
    (Scalar.indexCast (Scalar.addi (Scalar.muli (BitVec.ofNat 32 g.val) 4#32) (BitVec.ofNat 32 j.val))).toNat = 4 * g.val + j.val := by
  decide +kernel

theorem off4_eq (i : grid0.Coords) (j : Fin 4) : k0_off4 i (BitVec.ofNat 32 j.val) = ![4 * (i 1).val + j.val, 0, 0] := by
  funext a; unfold k0_off4; fin_cases a
  · exact head_no (i 1) j
  · rfl
  · rfl
theorem off5_eq (i : grid0.Coords) (j : Fin 4) : k0_off5 i (BitVec.ofNat 32 j.val) = ![4 * (i 1).val + j.val, 0, 0] := by
  funext a; unfold k0_off5; fin_cases a
  · exact head_no (i 1) j
  · rfl
  · rfl
theorem off6_eq (i : grid0.Coords) (j : Fin 4) : k0_off6 i (BitVec.ofNat 32 j.val) = ![4 * (i 1).val + j.val, 0, 0] := by
  funext a; unfold k0_off6; fin_cases a
  · exact head_no (i 1) j
  · rfl
  · rfl

/-- The head the step's `j`-th place works on. -/
abbrev headAt (i : grid0.Coords) (j : Fin 4) : Fin 48 := ⟨4 * (i 1).val + j.val, by have h : (i 1).val < 12 := (i 1).isLt; have := j.isLt; omega⟩
/-- Column `l` of the block's `j`-th head. -/
abbrev colJ (j : Fin 4) (l : Fin 128) : Fin 512 := ⟨128 * j.val + l.val, by have := j.isLt; have := l.isLt; omega⟩
/-- The row of time `s` and batch `b` in the two operands of the recurrence. -/
abbrev rowSB (s : Fin 64) (b : Fin 8) : Fin 576 := ⟨9 * s.val + b.val, by have := s.isLt; have := b.isLt; omega⟩

theorem rK_at (i : grid0.Coords) (j : Fin 4) (y z : Fin 1) (l : Fin 128) :
    (rK i j).toLoadRect.idx (ix3 y z l) = (ix3 (headAt i j) 0 l : S48x1x128.Idx) := by
  funext a; apply Fin.ext
  show (k0_off4 i (BitVec.ofNat 32 j.val)) a + 1 * (ix3 (n0 := 1) (n1 := 1) (n2 := 128) y z l a).val = _
  rw [off4_eq]
  have := y.isLt; have := z.isLt
  fin_cases a
  · show 4 * (i 1).val + j.val + 1 * y.val = 4 * (i 1).val + j.val; omega
  · show 0 + 1 * z.val = 0; omega
  · show 0 + 1 * l.val = l.val; omega

theorem rW_at (i : grid0.Coords) (j : Fin 4) (y : Fin 1) (r : Fin 512) (l : Fin 256) :
    (rW i j).toLoadRect.idx (ix3 y r l) = (ix3 (headAt i j) r l : S48x512x256.Idx) := by
  funext a; apply Fin.ext
  show (k0_off5 i (BitVec.ofNat 32 j.val)) a + 1 * (ix3 (n0 := 1) (n1 := 512) (n2 := 256) y r l a).val = _
  rw [off5_eq]
  have := y.isLt
  fin_cases a
  · show 4 * (i 1).val + j.val + 1 * y.val = 4 * (i 1).val + j.val; omega
  · show 0 + 1 * r.val = r.val; omega
  · show 0 + 1 * l.val = l.val; omega

theorem rH_at (i : grid0.Coords) (j : Fin 4) (y : Fin 1) (b : Fin 8) (l : Fin 128) :
    (rH i j).toLoadRect.idx (ix3 y b l) = (ix3 (headAt i j) b l : S48x8x128.Idx) := by
  funext a; apply Fin.ext
  show (k0_off6 i (BitVec.ofNat 32 j.val)) a + 1 * (ix3 (n0 := 1) (n1 := 8) (n2 := 128) y b l a).val = _
  rw [off6_eq]
  have := y.isLt
  fin_cases a
  · show 4 * (i 1).val + j.val + 1 * y.val = 4 * (i 1).val + j.val; omega
  · show 0 + 1 * b.val = b.val; omega
  · show 0 + 1 * l.val = l.val; omega

theorem rX_at (j : Fin 4) (b : Fin 8) (z : Fin 1) (s : Fin 64) (l : Fin 128) :
    (rX j b).toLoadRect.idx (ix3 z s l) = (ix3 b s (colJ j l) : S8x64x512.Idx) := by
  funext a; apply Fin.ext
  have := z.isLt
  fin_cases a
  · show b.val + 1 * z.val = b.val; omega
  · show 0 + 1 * s.val = s.val; omega
  · show 128 * j.val + 1 * l.val = 128 * j.val + l.val; omega

theorem rS_at (b : Fin 8) (z : Fin 1) (s : Fin 64) (l : Fin 128) :
    (rS b).toLoadRect.idx (ix3 z s l) = (ix3 b s l : S8x64x128.Idx) := by
  funext a; apply Fin.ext
  have := z.isLt
  fin_cases a
  · show b.val + 1 * z.val = b.val; omega
  · show 0 + 1 * s.val = s.val; omega
  · show 0 + 1 * l.val = l.val; omega

theorem lT_at (j : Fin 4) (b : Fin 8) (z : Fin 1) (s : Fin 64) (l : Fin 128) :
    (lT j b).idx (ix3 z s l) = (ix3 j (rowSB s b) l : S4x576x128.Idx) := by
  funext a; apply Fin.ext
  have := z.isLt
  fin_cases a
  · show j.val + 1 * z.val = j.val; omega
  · show b.val + 9 * s.val = 9 * s.val + b.val; omega
  · show 0 + 1 * l.val = l.val; omega

theorem rR_at (j : Fin 4) (s : Fin 64) (z : Fin 1) (b : Fin 8) (l : Fin 128) :
    (rR j s).toLoadRect.idx (ix3 z b l) = (ix3 j (rowSB s b) l : S4x576x128.Idx) := by
  funext a; apply Fin.ext
  have := z.isLt
  fin_cases a
  · show j.val + 1 * z.val = j.val; omega
  · show 9 * s.val + 1 * b.val = 9 * s.val + b.val; omega
  · show 0 + 1 * l.val = l.val; omega

theorem put_rX {e : EltTy} (j : Fin 4) (b : Fin 8) (w : S1x64x128.Idx → Elt Ideal e) (T : S8x64x512.Idx → Elt Ideal e)
    (b' : Fin 8) (s : Fin 64) (j' : Fin 4) (l : Fin 128) {v : Elt Ideal e} (hv : w (ix3 0 s l) = v) :
    put (rX j b) w T (ix3 b' s (colJ j' l)) = if b' = b ∧ j' = j then v else T (ix3 b' s (colJ j' l)) := by
  subst hv
  refine put_at (rX j b) w T _ _ (ix3 0 s l) (fun h => ?_) fun x hx => ?_
  · obtain ⟨rfl, rfl⟩ := h; exact rX_at _ _ 0 s l
  · have h0 : b.val + 1 * (x 0).val = b'.val := congrArg (fun y : S8x64x512.Idx => (y 0).val) hx
    have h2 : 128 * j.val + 1 * (x 2).val = 128 * j'.val + l.val := congrArg (fun y : S8x64x512.Idx => (y 2).val) hx
    have a0 : (x 0).val < 1 := (x 0).isLt
    have a2 : (x 2).val < 128 := (x 2).isLt
    have := l.isLt
    exact ⟨Fin.ext (by omega), Fin.ext (by omega)⟩

theorem put_rS {e : EltTy} (b : Fin 8) (w : S1x64x128.Idx → Elt Ideal e) (T : S8x64x128.Idx → Elt Ideal e)
    (b' : Fin 8) (s : Fin 64) (l : Fin 128) {v : Elt Ideal e} (hv : w (ix3 0 s l) = v) :
    put (rS b) w T (ix3 b' s l) = if b' = b then v else T (ix3 b' s l) := by
  subst hv
  refine put_at (rS b) w T _ _ (ix3 0 s l) (fun h => ?_) fun x hx => ?_
  · obtain rfl := h; exact rS_at _ 0 s l
  · have h0 : b.val + 1 * (x 0).val = b'.val := congrArg (fun y : S8x64x128.Idx => (y 0).val) hx
    have a0 : (x 0).val < 1 := (x 0).isLt
    exact Fin.ext (by omega)

theorem put_rT {e : EltTy} (j : Fin 4) (b : Fin 8) (w : S1x64x128.Idx → Elt Ideal e) (T : S4x576x128.Idx → Elt Ideal e)
    (s : Fin 64) (b' : Fin 8) (l : Fin 128) {v : Elt Ideal e} (hv : w (ix3 0 s l) = v) :
    put (rT j b) w T (ix3 j (rowSB s b') l) = if b' = b then v else T (ix3 j (rowSB s b') l) := by
  subst hv
  refine put_at (rT j b) w T _ _ (ix3 0 s l) (fun h => ?_) fun x hx => ?_
  · obtain rfl := h; exact lT_at _ _ 0 s l
  · have h1 : b.val + 9 * (x 1).val = 9 * s.val + b'.val := congrArg (fun y : S4x576x128.Idx => (y 1).val) hx
    have := b.isLt; have := b'.isLt
    exact Fin.ext (by omega)

theorem put_rR {e : EltTy} (j : Fin 4) (s : Fin 64) (w : S1x8x128.Idx → Elt Ideal e) (T : S4x576x128.Idx → Elt Ideal e)
    (s' : Fin 64) (b : Fin 8) (l : Fin 128) {v : Elt Ideal e} (hv : w (ix3 0 b l) = v) :
    put (rR j s) w T (ix3 j (rowSB s' b) l) = if s' = s then v else T (ix3 j (rowSB s' b) l) := by
  subst hv
  refine put_at (rR j s) w T _ _ (ix3 0 b l) (fun h => ?_) fun x hx => ?_
  · obtain rfl := h; exact rR_at _ _ 0 b l
  · have h1 : 9 * s.val + 1 * (x 1).val = 9 * s'.val + b.val := congrArg (fun y : S4x576x128.Idx => (y 1).val) hx
    have a1 : (x 1).val < 8 := (x 1).isLt
    have := b.isLt
    exact Fin.ext (by omega)

theorem put_rH {e : EltTy} (i : grid0.Coords) (j : Fin 4) (w : S1x8x128.Idx → Elt Ideal e) (T : S48x8x128.Idx → Elt Ideal e)
    (hd : Fin 48) (b : Fin 8) (l : Fin 128) {v : Elt Ideal e} (hv : w (ix3 0 b l) = v) :
    put (rH i j) w T (ix3 hd b l) = if hd = headAt i j then v else T (ix3 hd b l) := by
  subst hv
  refine put_at (rH i j) w T _ _ (ix3 0 b l) (fun h => ?_) fun x hx => ?_
  · obtain rfl := h; exact rH_at _ _ 0 b l
  · have h0 : (k0_off6 i (BitVec.ofNat 32 j.val)) 0 + 1 * (x 0).val = hd.val := congrArg (fun y : S48x8x128.Idx => (y 0).val) hx
    rw [off6_eq] at h0
    have h0' : 4 * (i 1).val + j.val + 1 * (x 0).val = hd.val := h0
    have a0 : (x 0).val < 1 := (x 0).isLt
    exact Fin.ext (show hd.val = 4 * (i 1).val + j.val by omega)

/-- A fold by steps keeps what each step carries on. -/
theorem fold_ind {N : ℕ} {σ : Type} (g : Fin N → σ → σ) (Q : ℕ → σ → Prop) (s : σ) (h0 : Q 0 s)
    (hs : ∀ (n : Fin N) s, Q n.val s → Q (n.val + 1) (g n s)) : ∀ (n : ℕ) (h : n ≤ N), Q n (fold g n h s)
  | 0, _ => h0
  | n + 1, h => hs ⟨n, h⟩ _ (fold_ind g Q s h0 hs n (Nat.le_of_succ_le h))

end Cert.KernelIdeal.Own
-- ==== Proof.Ideal.Values.lean ====
module

public import proofs.«01_k».proof.Proof.Ideal.Body
public import proofs.«01_k».proof.Proof.Spec
public import Idealize.ShloMosaic.Lib.Pointwise
public import Idealize.ShloMosaic.Lib.ValueIdx

@[expose] public section
set_option maxRecDepth 16384
noncomputable section
namespace Cert.KernelIdeal.Own
open Idealize.ShloMosaic Idealize.ShloMosaic.TcCoe Idealize.SL.Sem
open Cert Cert.KernelIdeal.Facts₀ Cert.KernelIdeal.Facts

/-! What the body's values are at a position, in exact arithmetic. -/

theorem rowMax_apply (x : FVec Ideal S64x128 .f32) (s : Fin 64) (l : Fin 128) :
    rowMax x (ix2 s l) = Spec.peak (fun k => x (ix2 s k)) * Ideal.ofBits .f32 0x3B124925#32 := by
  pointwise [rowMax]
  rfl

theorem bit_apply (c : BitVec 32) (p : FVec Ideal S64x128 .f32) (e : IVec S64x128 32) (s : Fin 64) (l : Fin 128) :
    bit c p e (ix2 s l) = Spec.stepBit c (p (ix2 s l)) (e (ix2 s l)) := by
  pointwise [bit]
  rfl

theorem field_apply (p : FVec Ideal S64x128 .f32) (s : Fin 64) (l : Fin 128) :
    field p (ix2 s l) = Spec.fieldOf (p (ix2 s l)) := by
  unfold field Spec.fieldOf
  rw [bit_apply, bit_apply, bit_apply, bit_apply, bit_apply, bit_apply, bit_apply, bit_apply]
  rfl

theorem scaleOf_apply (e : IVec S64x128 32) (s : Fin 64) (l : Fin 128) :
    scaleOf (F := Ideal) e (ix2 s l) = Spec.scaleBits (e (ix2 s l)) := by
  pointwise [scaleOf]
  rfl

theorem invOf_apply (e : IVec S64x128 32) (s : Fin 64) (l : Fin 128) :
    invOf (F := Ideal) e (ix2 s l) = Spec.invBits (e (ix2 s l)) := by
  pointwise [invOf]
  rfl

/-- The code of a number under a reciprocal scale. -/
def clip (x inv : EReal) : EReal := min (Ideal.ofBits .f32 0x43E00000#32) (max (Ideal.ofBits .f32 0xC3E00000#32) (x * inv))

theorem codesOf_apply (x y : FVec Ideal S64x128 .f32) (s : Fin 64) (l : Fin 128) :
    codesOf (F := Ideal) x y (ix2 s l) = clip (x (ix2 s l)) (y (ix2 s l)) := by
  pointwise [codesOf]
  rfl

/-- The two named constants of the text. -/
def kFloor : EReal := (Named.named (F := Ideal) (φ := .f32) κ "floor" 0x02081CEA#32)
def kDecay : EReal := (Named.named (F := Ideal) (φ := .f32) κ "decay" 0xC138AA3B#32)

theorem bone32 : Ideal.ofBits .f32 0x3F800000#32 = 1 := by
  simp [Ideal.ofBits, Ideal.ieee]; rw [← EReal.coe_mul]; norm_num

def decayEl (z k : EReal) : EReal := Ideal.exp2 (Ideal.logistic z * k)
def roomEl (a : EReal) : EReal := max (1 - a * a) kFloor
def driveEl (z a x : EReal) : EReal := roomEl a * Ideal.rsqrt (roomEl a) * (Ideal.logistic z * x)

theorem decay_apply (g : FVec Ideal S64x256 .f32) (k : FVec Ideal S1x128 .f32) (s : Fin 64) (l : Fin 128) :
    decay (F := Ideal) g k (ix2 s l) = decayEl (g (ix2 s ⟨l.val, by omega⟩)) (k (ix2 0 l)) := by
  pointwise [decay]
  rfl

theorem drive_apply (g : FVec Ideal S64x256 .f32) (a x : FVec Ideal S64x128 .f32) (s : Fin 64) (l : Fin 128) :
    drive (F := Ideal) g a x (ix2 s l) = driveEl (g (ix2 s ⟨128 + l.val, by omega⟩)) (a (ix2 s l)) (x (ix2 s l)) := by
  pointwise [drive, room]
  rfl

/-- One entry of a gate's argument: a row of 512 against a column. -/
def gateEl (q : Fin 128 → EReal) (w : Fin 512 → EReal) : EReal :=
  ∑ x : Fin 512, (if h : x.val < 128 then q ⟨x.val, h⟩ else if h2 : x.val - 128 < 128 then q ⟨x.val - 128, h2⟩
    else if h3 : x.val - 128 - 128 < 128 then q ⟨x.val - 128 - 128, h3⟩ else 1) * w x

theorem bone : Ideal.ofBits .bf16 0x3F80#16 = 1 := by
  simp [Ideal.ofBits, Ideal.ieee]; rw [← EReal.coe_mul]; norm_num

theorem gates_apply (c : FVec Ideal S64x128 .fp8e4m3) (sc : FVec Ideal S64x128 .f32) (w : FVec Ideal S512x256 .bf16) (s : Fin 64) (l : Fin 256) :
    gates (F := Ideal) c sc ones w (ix2 s l) = gateEl (fun k => c (ix2 s k) * sc (ix2 s k)) (fun r => w (ix2 r l)) := by
  pointwise [gates]
  unfold gateEl
  refine Finset.sum_congr rfl fun x _ => ?_
  congr 1
  have : ∀ i, ones (F := Ideal) i = 1 := fun i => bone
  simp only [this]

theorem advance_apply (a u : Vec Ideal S1x8x128 .f32) (h : FVec Ideal S8x128 .f32) (b : Fin 8) (l : Fin 128) :
    advance a h u (ix2 b l) = (a (ix3 0 b l) * h (ix2 b l) + u (ix3 0 b l) : EReal) := by
  pointwise [advance]

/-- A rate from its entry of `lam`. -/
def rateEl (x : EReal) : EReal := (max (0 - x) 0 + Ideal.log1p (Ideal.exp (0 - max x (-x)))) * kDecay

theorem bzero : Ideal.ofBits .f32 0#32 = 0 := by simp [Ideal.ofBits, Ideal.ieee]

theorem rates_apply (x : Vec Ideal S48x1x128 .f32) (h : Fin 48) (l : Fin 128) :
    rates (F := Ideal) x (ix3 h 0 l) = rateEl (x (ix3 h 0 l)) := by
  pointwise [rates]
  rfl

/-- Two columns' numbers side by side. -/
def pairEl (a x : Fin 128 → EReal) (c : Fin 256) : EReal := if h : c.val < 128 then a ⟨c.val, h⟩ else x ⟨c.val - 128, by omega⟩

theorem wide_apply (wa wx : Vec Ideal S1x128x128 .fp8e4m3) (sa sx : Vec Ideal S1x1x128 .f32) (r : Fin 128) (c : Fin 256) :
    wide (F := Ideal) wa wx sa sx (ix2 r c) = pairEl (fun l => wa (ix3 0 r l) * sa (ix3 0 0 l)) (fun l => wx (ix3 0 r l) * sx (ix3 0 0 l)) c := by
  pointwise [wide]
  rfl

theorem biases_apply (ba bx : Vec Ideal S1x1x128 .f32) (c : Fin 256) :
    biases (F := Ideal) ba bx (ix2 0 c) = pairEl (fun l => ba (ix3 0 0 l)) (fun l => bx (ix3 0 0 l)) c := by
  pointwise [biases]
  rfl

theorem left_apply (w : FVec Ideal S128x256 .f32) (r : Fin 128) (c : Fin 256) : left (F := Ideal) w (ix2 r c) = (w (ix2 r c) - w (ix2 r c) : EReal) := by
  pointwise [left]
theorem leftRow_apply (w : FVec Ideal S1x256 .f32) (c : Fin 256) : leftRow (F := Ideal) w (ix2 0 c) = (w (ix2 0 c) - w (ix2 0 c) : EReal) := by
  pointwise [leftRow]

theorem rowInto_apply (n : BitVec 32) (b : FVec Ideal S1x256 .f32) (z : FVec Ideal S128x256 .f32) (r : Fin 128) (c : Fin 256) :
    rowInto (F := Ideal) n b z (ix2 r c) = if BitVec.ofNat 32 r.val = n then b (ix2 0 c) else z (ix2 r c) := by
  pointwise [rowInto]
  by_cases h : BitVec.ofNat 32 r.val = n
  · rw [if_pos h]; simp [Scalar.select, IntOp.cmpi, h]
  · have hb : (BitVec.ofNat 32 r.val == n) = false := beq_eq_false_iff_ne.2 h
    rw [if_neg h]; simp [Scalar.select, IntOp.cmpi, hb]

theorem stack_apply (a b c d : FVec Ideal S128x256 .f32) (r : Fin 512) (l : Fin 256) :
    (shapeCast S1x512x256 (concatenate S512x256 0 [⟨S128x256, truncf .bf16 a bitsLt_bf16_f32⟩,
    ⟨S128x256, truncf .bf16 b bitsLt_bf16_f32⟩, ⟨S128x256, truncf .bf16 c bitsLt_bf16_f32⟩, ⟨S128x256, truncf .bf16 d bitsLt_bf16_f32⟩]
    concatenates_S128x256_S128x256_S128x256_S128x256_S512x256_d0) shapeCasts_S512x256_S1x512x256 : FVec Ideal S1x512x256 .bf16) (ix3 0 r l)
    = if h : r.val < 128 then a (ix2 ⟨r.val, h⟩ l) else if h2 : r.val - 128 < 128 then b (ix2 ⟨r.val - 128, h2⟩ l)
      else if h3 : r.val - 128 - 128 < 128 then c (ix2 ⟨r.val - 128 - 128, h3⟩ l) else d (ix2 ⟨r.val - 128 - 128 - 128, by omega⟩ l) := by
  pointwise []

/-- A number of finite size. -/
def Fine (x : EReal) : Prop := ∃ r : ℝ, x = r

theorem Fine.self_sub {x : EReal} (h : Fine x) : x - x = 0 := by
  obtain ⟨r, rfl⟩ := h
  rw [← EReal.coe_sub, sub_self, EReal.coe_zero]

theorem Fine.mul {x y : EReal} (h : Fine x) (k : Fine y) : Fine (x * y) := by
  obtain ⟨r, rfl⟩ := h
  obtain ⟨q, rfl⟩ := k
  exact ⟨r * q, (EReal.coe_mul r q).symm⟩

theorem Fine.zero : Fine 0 := ⟨0, EReal.coe_zero.symm⟩

theorem Fine.pair {a x : Fin 128 → EReal} (ha : ∀ l, Fine (a l)) (hx : ∀ l, Fine (x l)) (c : Fin 256) : Fine (pairEl a x c) := by
  unfold pairEl
  split
  · exact ha _
  · exact hx _

/-- A column of the prepared weights: the weights times their scales, then the bias and nothing else. -/
def prepEl (v : Fin 128 → EReal) (b : EReal) (r : Fin 512) : EReal :=
  if h : r.val < 128 then v ⟨r.val, h⟩ else if r.val = 384 then b else 0

theorem ofNat_eq : ∀ (r : Fin 128) (n : Fin 3), BitVec.ofNat 32 r.val = BitVec.ofNat 32 n.val ↔ r.val = n.val := by decide +kernel

theorem prepared_apply (wa wx : Vec Ideal S1x128x128 .fp8e4m3) (sa sx ba bx : Vec Ideal S1x1x128 .f32)
    (hwa : ∀ r l, Fine (wa (ix3 0 r l))) (hwx : ∀ r l, Fine (wx (ix3 0 r l)))
    (hsa : ∀ l, Fine (sa (ix3 0 0 l))) (hsx : ∀ l, Fine (sx (ix3 0 0 l)))
    (hba : ∀ l, Fine (ba (ix3 0 0 l))) (hbx : ∀ l, Fine (bx (ix3 0 0 l))) (r : Fin 512) (c : Fin 256) :
    prepared (F := Ideal) wa wx sa sx ba bx (ix3 0 r c)
      = prepEl (fun r => pairEl (fun l => wa (ix3 0 r l) * sa (ix3 0 0 l)) (fun l => wx (ix3 0 r l) * sx (ix3 0 0 l)) c)
          (pairEl (fun l => ba (ix3 0 0 l)) (fun l => bx (ix3 0 0 l)) c) r := by
  refine (stack_apply _ _ _ _ r c).trans ?_
  unfold prepEl
  have hv : ∀ r : Fin 128, Fine (pairEl (fun l => wa (ix3 0 r l) * sa (ix3 0 0 l)) (fun l => wx (ix3 0 r l) * sx (ix3 0 0 l)) c) :=
    fun r => Fine.pair (fun l => (hwa r l).mul (hsa l)) (fun l => (hwx r l).mul (hsx l)) c
  have hb : Fine (pairEl (fun l => ba (ix3 0 0 l)) (fun l => bx (ix3 0 0 l)) c) := Fine.pair hba hbx c
  split
  · rw [wide_apply]
  split
  · next h => rw [if_neg (by omega), left_apply, wide_apply, (hv _).self_sub]
  split
  · next h => rw [if_neg (by omega), left_apply, left_apply, wide_apply, (hv _).self_sub, Fine.zero.self_sub]
  · rw [rowInto_apply, rowInto_apply, rowInto_apply, leftRow_apply, leftRow_apply, biases_apply, hb.self_sub, Fine.zero.self_sub]
    have e0 : BitVec.ofNat 32 (r.val - 128 - 128 - 128) = 0#32 ↔ r.val - 128 - 128 - 128 = 0 := ofNat_eq ⟨r.val - 128 - 128 - 128, by omega⟩ 0
    have e1 : BitVec.ofNat 32 (r.val - 128 - 128 - 128) = 1#32 ↔ r.val - 128 - 128 - 128 = 1 := ofNat_eq ⟨r.val - 128 - 128 - 128, by omega⟩ 1
    have e2 : BitVec.ofNat 32 (r.val - 128 - 128 - 128) = 2#32 ↔ r.val - 128 - 128 - 128 = 2 := ofNat_eq ⟨r.val - 128 - 128 - 128, by omega⟩ 2
    have z : (broadcast S128x256 (Scalar.ofBits (F := Ideal) .f32 0x00000000#32)) (ix2 (⟨r.val - 128 - 128 - 128, by omega⟩ : Fin 128) c) = (0 : EReal) := bzero
    dsimp only
    by_cases h2 : r.val - 128 - 128 - 128 = 2
    · rw [if_pos (e2.2 h2), if_neg (by omega)]
    rw [if_neg (fun h => h2 (e2.1 h))]
    by_cases h1 : r.val - 128 - 128 - 128 = 1
    · rw [if_pos (e1.2 h1), if_neg (by omega)]
    rw [if_neg (fun h => h1 (e1.1 h))]
    by_cases h0 : r.val - 128 - 128 - 128 = 0
    · rw [if_pos (e0.2 h0), if_pos (by omega)]
    rw [if_neg (fun h => h0 (e0.1 h)), if_neg (by omega)]
    exact z

/-- The gate's argument as one sum. -/
theorem gateEl_prep (q v : Fin 128 → EReal) (b : EReal) : gateEl q (prepEl v b) = (∑ r : Fin 128, q r * v r) + b := by
  unfold gateEl
  refine (@Fin.sum_univ_add EReal _ 128 384 _).trans ?_
  refine congrArg₂ (fun x y : EReal => x + y) ?_ ?_
  · refine Finset.sum_congr rfl fun r _ => ?_
    have hr : (Fin.castAdd 384 r).val < 128 := r.isLt
    rw [dif_pos hr, prepEl, dif_pos hr]
    rfl
  · refine (Finset.sum_eq_single (256 : Fin 384) (fun x _ hx => ?_) (fun h => absurd (Finset.mem_univ _) h)).trans ?_
    · have hn : ¬(Fin.natAdd 128 x).val < 128 := by show ¬(128 + x.val < 128); omega
      have hm : ¬(Fin.natAdd 128 x).val = 384 := fun h => hx (Fin.ext (by have : 128 + x.val = 384 := h; show x.val = 256; omega))
      rw [prepEl, dif_neg hn, dif_neg hn, if_neg hm, mul_zero]
    · rw [prepEl]
      rw [dif_neg (by decide), dif_neg (by decide), dif_neg (by decide), dif_neg (by decide), if_pos (by decide), one_mul]

/-! One row of one head: its scale, its codes, its decay and its drive, from the row and the head's weights. -/

def fldR (x : Fin 128 → EReal) : BitVec 32 := Spec.fieldOf (Spec.peak x * Ideal.ofBits .f32 0x3B124925#32)
def codeR (x : Fin 128 → EReal) (l : Fin 128) : EReal := clip (x l) (Spec.invBits (fldR x))
def sclR (x : Fin 128 → EReal) : EReal := Spec.scaleBits (fldR x)
def gateR (x : Fin 128 → EReal) (w : Fin 512 → EReal) : EReal := gateEl (fun k => codeR x k * sclR x) w
def decR (x : Fin 128 → EReal) (w : Fin 512 → Fin 256 → EReal) (k : Fin 128 → EReal) (l : Fin 128) : EReal :=
  decayEl (gateR x fun r => w r ⟨l.val, by omega⟩) (k l)
def drvR (x : Fin 128 → EReal) (w : Fin 512 → Fin 256 → EReal) (k : Fin 128 → EReal) (l : Fin 128) : EReal :=
  driveEl (gateR x fun r => w r ⟨128 + l.val, by omega⟩) (decR x w k l) (x l)
/-- The state of one lane after `n` steps. -/
def stateR (x : ℕ → Fin 128 → EReal) (w : Fin 512 → Fin 256 → EReal) (k : Fin 128 → EReal) (l : Fin 128) (h : EReal) : ℕ → EReal
  | 0 => h
  | n + 1 => decR (x n) w k l * stateR x w k l h n + drvR (x n) w k l

end Cert.KernelIdeal.Own
-- ==== Proof.Ideal.Steps.lean ====
module

public import proofs.«01_k».proof.Proof.Ideal.Places
public import proofs.«01_k».proof.Proof.Ideal.Values

@[expose] public section
set_option maxRecDepth 1000000
noncomputable section
namespace Cert.KernelIdeal.Own
open Idealize.ShloMosaic Idealize.ShloMosaic.TcCoe Idealize.SL.Sem
open Cert Cert.KernelIdeal.Facts₀ Cert.KernelIdeal.Facts

attribute [local irreducible] put

/-! What the units, the scan and the output of one head leave in the state. -/

/-- The row the step reads at batch `b` and time `s` of its `j`-th head. -/
abbrev rowI (I : In Ideal) (j : Fin 4) (b : Fin 8) (s : Fin 64) : Fin 128 → EReal := fun l => I.x (ix3 b s (colJ j l))

theorem cast64 {e : EltTy} (v : S64x128.Idx → Elt Ideal e) (z : Fin 1) (s : Fin 64) (l : Fin 128) :
    shapeCast S1x64x128 v shapeCasts_S64x128_S1x64x128 (ix3 z s l) = v (ix2 s l) := by pointwise []
theorem cast8 {e : EltTy} (v : S8x128.Idx → Elt Ideal e) (z : Fin 1) (s : Fin 8) (l : Fin 128) :
    shapeCast S1x8x128 v shapeCasts_S8x128_S1x8x128 (ix3 z s l) = v (ix2 s l) := by pointwise []
theorem uncast64 {e : EltTy} (v : S1x64x128.Idx → Elt Ideal e) (s : Fin 64) (l : Fin 128) :
    shapeCast S64x128 v shapeCasts_S1x64x128_S64x128 (ix2 s l) = v (ix3 0 s l) := by pointwise []
theorem uncast8 {e : EltTy} (v : S1x8x128.Idx → Elt Ideal e) (s : Fin 8) (l : Fin 128) :
    shapeCast S8x128 v shapeCasts_S1x8x128_S8x128 (ix2 s l) = v (ix3 0 s l) := by pointwise []
theorem uncast1 {e : EltTy} (v : S1x1x128.Idx → Elt Ideal e) (s : Fin 1) (l : Fin 128) :
    shapeCast S1x128 v shapeCasts_S1x1x128_S1x128 (ix2 s l) = v (ix3 0 0 l) := by pointwise []
theorem uncastW {e : EltTy} (v : S1x512x256.Idx → Elt Ideal e) (s : Fin 512) (l : Fin 256) :
    shapeCast S512x256 v shapeCasts_S1x512x256_S512x256 (ix2 s l) = v (ix3 0 s l) := by pointwise []

theorem xAt_apply (I : In Ideal) (j : Fin 4) (b : Fin 8) (s : Fin 64) (l : Fin 128) : xAt I j b (ix2 s l) = rowI I j b s l := by
  exact (uncast64 (e := .bf16) (fun x => I.x ((rX j b).toLoadRect.idx x)) s l).trans (congrArg I.x (rX_at j b 0 s l))

theorem fieldAt_apply (I : In Ideal) (j : Fin 4) (b : Fin 8) (s : Fin 64) (l : Fin 128) : fieldAt I j b (ix2 s l) = fldR (rowI I j b s) := by
  rw [fieldAt, field_apply, rowMax_apply]
  simp only [xAt_apply]
  rfl

theorem codesAt_apply (I : In Ideal) (j : Fin 4) (b : Fin 8) (s : Fin 64) (l : Fin 128) : codesAt I j b (ix2 s l) = codeR (rowI I j b s) l := by
  rw [codesAt, codesOf_apply, invOf_apply, fieldAt_apply, xAt_apply]
  rfl

theorem scaleAt_apply (I : In Ideal) (j : Fin 4) (b : Fin 8) (s : Fin 64) (l : Fin 128) : scaleAt I j b (ix2 s l) = sclR (rowI I j b s) := by
  rw [scaleAt, scaleOf_apply, fieldAt_apply]
  rfl

theorem gatesAt_apply (I : In Ideal) (v17 : FVec Ideal S512x256 .bf16) (j : Fin 4) (b : Fin 8) (s : Fin 64) (l : Fin 256) :
    gatesAt I ones v17 j b (ix2 s l) = gateR (rowI I j b s) fun r => v17 (ix2 r l) := by
  rw [gatesAt, gates_apply]
  simp only [codesAt_apply, scaleAt_apply]
  rfl

theorem decayAt_apply (I : In Ideal) (v14 : FVec Ideal S1x128 .f32) (v17 : FVec Ideal S512x256 .bf16) (j : Fin 4) (b : Fin 8) (s : Fin 64) (l : Fin 128) :
    decayAt I ones v14 v17 j b (ix2 s l) = decR (rowI I j b s) (fun r c => v17 (ix2 r c)) (fun l => v14 (ix2 0 l)) l := by
  rw [decayAt, decay_apply, gatesAt_apply]
  rfl

theorem driveAt_apply (I : In Ideal) (v14 : FVec Ideal S1x128 .f32) (v17 : FVec Ideal S512x256 .bf16) (j : Fin 4) (b : Fin 8) (s : Fin 64) (l : Fin 128) :
    driveAt I ones v14 v17 j b (ix2 s l) = drvR (rowI I j b s) (fun r c => v17 (ix2 r c)) (fun l => v14 (ix2 0 l)) l := by
  rw [driveAt, drive_apply, gatesAt_apply, decayAt_apply, xAt_apply]
  rfl

theorem lane_eq : ∀ (g : Fin 12) (j : Fin 4) (l : Fin 128),
    (BitVec.ofNat 32 l.val = Scalar.addi (Scalar.muli (BitVec.ofNat 32 g.val) 4#32) (BitVec.ofNat 32 j.val)) ↔ l.val = 4 * g.val + j.val := by
  decide +kernel

theorem pick_apply (n : BitVec 32) (x y : FVec Ideal S64x128 .f32) (s : Fin 64) (l : Fin 128) :
    select (cmpi .eq lanes (broadcast S64x128 n)) x y (ix2 s l) = if BitVec.ofNat 32 l.val = n then x (ix2 s l) else y (ix2 s l) := by
  pointwise [lanes]
  by_cases h : BitVec.ofNat 32 l.val = n
  · rw [if_pos h]; simp [Scalar.select, IntOp.cmpi, h]
  · have hb : (BitVec.ofNat 32 l.val == n) = false := beq_eq_false_iff_ne.2 h
    rw [if_neg h]; simp [Scalar.select, IntOp.cmpi, hb]

/-- The head's rates and weights, as the state holds them. -/
abbrev kOf (S : St Ideal) (hd : Fin 48) : Fin 128 → EReal := fun l => S.k (ix3 hd 0 l)
abbrev wOf (S : St Ideal) (hd : Fin 48) : Fin 512 → Fin 256 → EReal := fun r c => S.w (ix3 hd r c)

/-- What `n` units of a head have made of the state `S`. -/
structure UnitsQ (i : grid0.Coords) (I : In Ideal) (j : Fin 4) (S : St Ideal) (n : ℕ) (U : St Ideal) : Prop where
  xc : ∀ b s j' l, U.xc (ix3 b s (colJ j' l)) = if b.val < n ∧ j' = j then codeR (rowI I j b s) l else S.xc (ix3 b s (colJ j' l))
  sc : ∀ b s l, U.sc (ix3 b s l) = if b.val < n ∧ l.val = (headAt i j).val then sclR (rowI I j b s) else S.sc (ix3 b s l)
  a : ∀ s b l, b.val < n → U.a (ix3 j (rowSB s b) l) = decR (rowI I j b s) (wOf S (headAt i j)) (kOf S (headAt i j)) l
  u : ∀ s b l, b.val < n → U.u (ix3 j (rowSB s b) l) = drvR (rowI I j b s) (wOf S (headAt i j)) (kOf S (headAt i j)) l
  y : U.y = S.y
  hf : U.hf = S.hf
  xs : U.xs = S.xs
  w : U.w = S.w
  k : U.k = S.k
  h : U.h = S.h

theorem units_facts (i : grid0.Coords) (I : In Ideal) (j : Fin 4) (S : St Ideal) : UnitsQ i I j S 8 (unitsS i I j S) := by
  refine fold_ind _ (UnitsQ i I j S) S ?_ ?_ 8 le_rfl
  · refine ⟨fun b s j' l => ?_, fun b s l => ?_, fun s b l h => absurd h (by omega), fun s b l h => absurd h (by omega), rfl, rfl, rfl, rfl, rfl, rfl⟩
    · rw [if_neg (by omega)]
    · rw [if_neg (by omega)]
  · intro m U q
    have hw : (fun r c => (shapeCast S512x256 (fun x => S.w ((rW i j).toLoadRect.idx x)) shapeCasts_S1x512x256_S512x256 : FVec Ideal S512x256 .bf16) (ix2 r c)) = wOf S (headAt i j) := by
      funext r c
      exact (uncastW (e := .bf16) (fun x => S.w ((rW i j).toLoadRect.idx x)) r c).trans (congrArg S.w (rW_at i j 0 r c))
    have hk : (fun l => (shapeCast S1x128 (fun x => S.k ((rK i j).toLoadRect.idx x)) shapeCasts_S1x1x128_S1x128 : FVec Ideal S1x128 .f32) (ix2 0 l)) = kOf S (headAt i j) := by
      funext l
      exact (uncast1 (e := .f32) (fun x => S.k ((rK i j).toLoadRect.idx x)) 0 l).trans (congrArg S.k (rK_at i j 0 0 l))
    refine ⟨fun b s j' l => ?_, fun b s l => ?_, fun s b l h => ?_, fun s b l h => ?_, q.y, q.hf, q.xs, q.w, q.k, q.h⟩
    · refine (put_rX j m _ U.xc b s j' l ((cast64 (e := .fp8e4m3) (codesAt I j m) 0 s l).trans (codesAt_apply I j m s l))).trans ?_
      rw [q.xc]
      by_cases hb : b = m
      · subst hb
        by_cases hj : j' = j
        · rw [if_pos ⟨rfl, hj⟩, if_pos ⟨by omega, hj⟩]
        · rw [if_neg (by tauto), if_neg (by tauto), if_neg (by tauto)]
      · rw [if_neg (by tauto)]
        have : b.val < m.val + 1 ↔ b.val < m.val := ⟨fun h => by have : b.val ≠ m.val := fun h => hb (Fin.ext h); omega, fun h => by omega⟩
        simp only [this]
    · refine (put_rS m _ U.sc b s l ((cast64 (e := .f32) _ 0 s l).trans ((pick_apply _ _ _ s l).trans
        (congrArg₂ (fun x y => if BitVec.ofNat 32 l.val = headNo i j then x else y) (scaleAt_apply I j m s l)
          ((uncast64 (e := .f32) _ s l).trans (congrArg U.sc (rS_at m 0 s l))))))).trans ?_
      rw [q.sc]
      have hl := lane_eq (i 1) j l
      by_cases hb : b = m
      · subst hb
        rw [if_pos rfl]
        by_cases hj : l.val = (headAt i j).val
        · rw [if_pos (hl.2 hj), if_pos ⟨by omega, hj⟩]
        · rw [if_neg (fun h => hj (hl.1 h)), if_neg (by tauto), if_neg (by tauto)]
      · rw [if_neg hb]
        have : b.val < m.val + 1 ↔ b.val < m.val := ⟨fun h => by have : b.val ≠ m.val := fun h => hb (Fin.ext h); omega, fun h => by omega⟩
        simp only [this]
        exact q.sc b s l
    · refine (put_rT j m _ U.a s b l ((cast64 (e := .f32) _ 0 s l).trans (decayAt_apply I _ _ j m s l))).trans ?_
      rw [hw, hk]
      by_cases hb : b = m
      · subst hb; rw [if_pos rfl]
      · rw [if_neg hb]; exact q.a s b l (by have : b.val ≠ m.val := fun h => hb (Fin.ext h); omega)
    · refine (put_rT j m _ U.u s b l ((cast64 (e := .f32) _ 0 s l).trans (driveAt_apply I _ _ j m s l))).trans ?_
      rw [hw, hk]
      by_cases hb : b = m
      · subst hb; rw [if_pos rfl]
      · rw [if_neg hb]; exact q.u s b l (by have : b.val ≠ m.val := fun h => hb (Fin.ext h); omega)

/-- What `n` time steps of a head have made of the state `S` and of the head's lanes. -/
structure ScanQ (i : grid0.Coords) (j : Fin 4) (S : St Ideal) (H : ℕ → Fin 8 → Fin 128 → EReal) (n : ℕ) (p : St Ideal × FVec Ideal S8x128 .f32) : Prop where
  lane : ∀ b l, p.2 (ix2 b l) = H n b l
  u : ∀ s b l, p.1.u (ix3 j (rowSB s b) l) = if s.val < n then H (s.val + 1) b l else S.u (ix3 j (rowSB s b) l)
  a : p.1.a = S.a
  y : p.1.y = S.y
  hf : p.1.hf = S.hf
  xc : p.1.xc = S.xc
  xs : p.1.xs = S.xs
  w : p.1.w = S.w
  k : p.1.k = S.k
  h : p.1.h = S.h
  sc : p.1.sc = S.sc

theorem scan_facts (i : grid0.Coords) (j : Fin 4) (S : St Ideal) (H : ℕ → Fin 8 → Fin 128 → EReal)
    (h0 : ∀ b l, S.h (ix3 (headAt i j) b l) = H 0 b l)
    (hs : ∀ (s : Fin 64) b l, H (s.val + 1) b l = (S.a (ix3 j (rowSB s b) l) * H s.val b l + S.u (ix3 j (rowSB s b) l) : EReal)) :
    ScanQ i j S H 64 (scanS i j S) := by
  refine fold_ind _ (ScanQ i j S H) _ ?_ ?_ 64 le_rfl
  · refine ⟨fun b l => ?_, fun s b l => ?_, rfl, rfl, rfl, rfl, rfl, rfl, rfl, rfl, rfl⟩
    · exact ((uncast8 (e := .f32) (fun x => S.h ((rH i j).toLoadRect.idx x)) b l).trans (congrArg S.h (rH_at i j 0 b l))).trans (h0 b l)
    · rw [if_neg (by omega)]
  · intro m p q
    have hn : ∀ b l, nextH j m p (ix2 b l) = H (m.val + 1) b l := fun b l => by
      rw [nextH, advance_apply, rR_at, q.lane, q.u, if_neg (by omega), q.a, hs]
    refine ⟨hn, fun s b l => ?_, q.a, q.y, q.hf, q.xc, q.xs, q.w, q.k, q.h, q.sc⟩
    · refine (put_rR j m _ p.1.u s b l ((cast8 (e := .f32) _ 0 b l).trans (hn b l))).trans ?_
      rw [q.u]
      by_cases hb : s = m
      · subst hb; rw [if_pos rfl, if_pos (by omega)]
      · rw [if_neg hb]
        have : s.val < m.val + 1 ↔ s.val < m.val := ⟨fun h => by have : s.val ≠ m.val := fun h => hb (Fin.ext h); omega, fun h => by omega⟩
        simp only [this]

/-- What `n` stores of a head's outputs have made of the state. -/
structure OutQ (j : Fin 4) (S : St Ideal) (n : ℕ) (U : St Ideal) : Prop where
  y : ∀ b s j' l, U.y (ix3 b s (colJ j' l)) = if b.val < n ∧ j' = j then S.u (ix3 j (rowSB s b) l) else S.y (ix3 b s (colJ j' l))
  u : U.u = S.u
  hf : U.hf = S.hf
  xc : U.xc = S.xc
  xs : U.xs = S.xs
  w : U.w = S.w
  k : U.k = S.k
  h : U.h = S.h
  sc : U.sc = S.sc

theorem out_facts (j : Fin 4) (S : St Ideal) : OutQ j S 8 (fold (outS j) 8 le_rfl S) := by
  refine fold_ind _ (OutQ j S) S ?_ ?_ 8 le_rfl
  · refine ⟨fun b s j' l => ?_, rfl, rfl, rfl, rfl, rfl, rfl, rfl, rfl⟩
    rw [if_neg (by omega)]
  · intro m U q
    refine ⟨fun b s j' l => ?_, q.u, q.hf, q.xc, q.xs, q.w, q.k, q.h, q.sc⟩
    · have he : (truncf .bf16 (shapeCast S64x128 (fun x => U.u ((lT j m).idx x)) shapeCasts_S1x64x128_S64x128) bitsLt_bf16_f32 : FVec Ideal S64x128 .bf16) (ix2 s l) = U.u (ix3 j (rowSB s m) l) :=
        (uncast64 (e := .f32) (fun x => U.u ((lT j m).idx x)) s l).trans (congrArg U.u (lT_at j m 0 s l))
      refine (put_rX j m _ U.y b s j' l ((cast64 (e := .bf16) _ 0 s l).trans he)).trans ?_
      rw [q.u, q.y]
      by_cases hb : b = m
      · subst hb
        by_cases hj : j' = j
        · rw [if_pos ⟨rfl, hj⟩, if_pos ⟨by omega, hj⟩]
        · rw [if_neg (by tauto), if_neg (by tauto), if_neg (by tauto)]
      · rw [if_neg (by tauto)]
        have : b.val < m.val + 1 ↔ b.val < m.val := ⟨fun h => by have : b.val ≠ m.val := fun h => hb (Fin.ext h); omega, fun h => by omega⟩
        simp only [this]

end Cert.KernelIdeal.Own
-- ==== Proof.Ideal.Grid.lean ====
module

public import proofs.«01_k».proof.Proof.Ideal.Steps

@[expose] public section
set_option maxRecDepth 1000000
noncomputable section
namespace Cert.KernelIdeal.Own
open Idealize.ShloMosaic Idealize.ShloMosaic.TcCoe Idealize.SL.Sem
open Cert Cert.KernelIdeal.Facts₀ Cert.KernelIdeal.Facts

attribute [local irreducible] put

/-! What one point of the grid leaves in the state, given what it found there. -/

/-- What the kernel is given: the rows by batch, time and head; each head's weights, rates and first state. -/
structure Given where
  X : Fin 8 → ℕ → Fin 48 → Fin 128 → EReal
  W : Fin 48 → Fin 512 → Fin 256 → EReal
  K : Fin 48 → Fin 128 → EReal
  H0 : Fin 48 → Fin 8 → Fin 128 → EReal

/-- The state of lane `l` of batch `b` and head `hd` after `n` steps. -/
def Given.H (D : Given) (hd : Fin 48) (b : Fin 8) (l : Fin 128) (n : ℕ) : EReal :=
  stateR (fun n => D.X b n hd) (D.W hd) (D.K hd) l (D.H0 hd b l) n

theorem Given.H_succ (D : Given) (hd : Fin 48) (b : Fin 8) (l : Fin 128) (n : ℕ) :
    D.H hd b l (n + 1) = decR (D.X b n hd) (D.W hd) (D.K hd) l * D.H hd b l n + drvR (D.X b n hd) (D.W hd) (D.K hd) l := rfl

attribute [local irreducible] Given.H decR drvR codeR sclR unitsS scanS

variable (D : Given)

/-- The scratch when the first `m` heads have their weights and the first `d` heads have done tile `t`. -/
structure Inv (m t d : ℕ) (S : St Ideal) : Prop where
  k : ∀ hd l, S.k (ix3 hd 0 l) = D.K hd l
  w : ∀ (hd : Fin 48) r c, hd.val < m → S.w (ix3 hd r c) = D.W hd r c
  h : ∀ hd b l, S.h (ix3 hd b l) = D.H hd b l (64 * (if hd.val < d then t + 1 else t))
  sc : ∀ b s (l : Fin 128) (hl : l.val < 48), l.val < d → S.sc (ix3 b s l) = sclR (D.X b (64 * t + s.val) ⟨l.val, hl⟩)

/-- The two blocks of outputs when the first `n` heads of the step are done. -/
structure Outs (i : grid0.Coords) (n : ℕ) (S : St Ideal) : Prop where
  y : ∀ b s (j : Fin 4) l, j.val < n → S.y (ix3 b s (colJ j l)) = D.H (headAt i j) b l (64 * (i 0).val + s.val + 1)
  xc : ∀ b s (j : Fin 4) l, j.val < n → S.xc (ix3 b s (colJ j l)) = codeR (D.X b (64 * (i 0).val + s.val) (headAt i j)) l

/-- The step's block of rows is the one the grid's coordinates say. -/
def Rows (i : grid0.Coords) (I : In Ideal) : Prop :=
  ∀ b s (j : Fin 4), rowI I j b s = D.X b (64 * (i 0).val + s.val) (headAt i j)

theorem keep_rest (i : grid0.Coords) (j : Fin 4) (p : St Ideal × FVec Ideal S8x128 .f32) :
    (keepS i j p).k = p.1.k ∧ (keepS i j p).w = p.1.w ∧ (keepS i j p).sc = p.1.sc ∧ (keepS i j p).xc = p.1.xc ∧ (keepS i j p).u = p.1.u
      ∧ (keepS i j p).y = p.1.y ∧ (keepS i j p).xs = p.1.xs ∧ (keepS i j p).hf = p.1.hf := ⟨rfl, rfl, rfl, rfl, rfl, rfl, rfl, rfl⟩

theorem head_facts (i : grid0.Coords) (I : In Ideal) (hI : Rows D i I) (j : Fin 4) (m : ℕ) (hm : (headAt i j).val < m) (S : St Ideal)
    (q : Inv D m (i 0).val (headAt i j).val S) (o : Outs D i j.val S) :
    Inv D m (i 0).val ((headAt i j).val + 1) (headS i I j S) ∧ Outs D i (j.val + 1) (headS i I j S)
      ∧ (headS i I j S).xs = S.xs ∧ (headS i I j S).hf = S.hf := by
  have u := units_facts i I j S
  have hK : kOf S (headAt i j) = D.K (headAt i j) := funext fun l => q.k _ l
  have hW : wOf S (headAt i j) = D.W (headAt i j) := funext fun r => funext fun c => q.w _ r c hm
  have c := scan_facts i j (unitsS i I j S) (fun n b l => D.H (headAt i j) b l (64 * (i 0).val + n))
    (fun b l => by rw [u.h, q.h, if_neg (by omega), Nat.add_zero])
    (fun s b l => by rw [u.a s b l b.isLt, u.u s b l b.isLt, hK, hW, hI]; exact D.H_succ _ b l (64 * (i 0).val + s.val))
  have hl : ∀ b l, (keepS i j (scanS i j (unitsS i I j S))).h (ix3 (headAt i j) b l) = D.H (headAt i j) b l (64 * (i 0).val + 64) := fun b l => by
    refine (put_rH i j _ _ (headAt i j) b l ((cast8 (e := .f32) _ 0 b l).trans (c.lane b l))).trans ?_
    rw [if_pos rfl]
  have ho : ∀ hd b l, hd ≠ headAt i j → (keepS i j (scanS i j (unitsS i I j S))).h (ix3 hd b l) = S.h (ix3 hd b l) := fun hd b l hn => by
    refine (put_rH i j _ _ hd b l rfl).trans ?_
    rw [if_neg hn, c.h, u.h]
  have p := out_facts j (keepS i j (scanS i j (unitsS i I j S)))
  have hU : headS i I j S = fold (outS j) 8 le_rfl (keepS i j (scanS i j (unitsS i I j S))) := by unfold headS; rfl
  rw [← hU] at p
  obtain ⟨kk, kw, ks, kc, ku, ky, kx, kf⟩ := keep_rest i j (scanS i j (unitsS i I j S))
  generalize headS i I j S = U at p ⊢
  generalize keepS i j (scanS i j (unitsS i I j S)) = P at p kk kw ks kc ku ky kx kf hl ho
  have ek : U.k = S.k := p.k.trans (kk.trans (c.k.trans u.k))
  have ew : U.w = S.w := p.w.trans (kw.trans (c.w.trans u.w))
  have es : U.sc = (unitsS i I j S).sc := p.sc.trans (ks.trans c.sc)
  have ec : U.xc = (unitsS i I j S).xc := p.xc.trans (kc.trans c.xc)
  have eh : U.h = P.h := p.h
  have ey : P.y = S.y := ky.trans (c.y.trans u.y)
  refine ⟨⟨?_, ?_, ?_, ?_⟩, ⟨?_, ?_⟩, p.xs.trans (kx.trans (c.xs.trans u.xs)), p.hf.trans (kf.trans (c.hf.trans u.hf))⟩
  · intro hd l; rw [ek]; exact q.k hd l
  · intro hd r c' hh; rw [ew]; exact q.w hd r c' hh
  · intro hd b l
    rw [eh]
    by_cases hn : hd = headAt i j
    · subst hn
      rw [hl, if_pos (Nat.lt_succ_self _)]
      rw [Nat.mul_add]
    · rw [ho hd b l hn, q.h]
      have hv : hd.val ≠ (headAt i j).val := fun h => hn (Fin.ext h)
      by_cases hd' : hd.val < (headAt i j).val
      · rw [if_pos hd', if_pos (by omega)]
      · rw [if_neg hd', if_neg (by omega)]
  · intro b s l hl48 hd
    rw [es, u.sc]
    by_cases hv : l.val = (headAt i j).val
    · rw [if_pos ⟨b.isLt, hv⟩, hI]
      rw [show (⟨l.val, hl48⟩ : Fin 48) = headAt i j from Fin.ext hv]
    · rw [if_neg (fun h => hv h.2)]
      exact q.sc b s l hl48 (by omega)
  · intro b s j' l hj
    refine (p.y b s j' l).trans ?_
    by_cases hv : j' = j
    · subst hv
      rw [if_pos ⟨b.isLt, rfl⟩, ku, c.u, if_pos s.isLt, Nat.add_assoc]
    · rw [if_neg (fun h => hv h.2), ey]
      exact o.y b s j' l (by have : j'.val ≠ j.val := fun h => hv (Fin.ext h); omega)
  · intro b s j' l hj
    rw [ec, u.xc]
    by_cases hv : j' = j
    · subst hv
      rw [if_pos ⟨b.isLt, rfl⟩, hI]
    · rw [if_neg (fun h => hv h.2)]
      exact o.xc b s j' l (by have : j'.val ≠ j.val := fun h => hv (Fin.ext h); omega)

theorem heads_facts (i : grid0.Coords) (I : In Ideal) (hI : Rows D i I) (m : ℕ) (hm : 4 * (i 1).val + 4 ≤ m) (S : St Ideal)
    (q : Inv D m (i 0).val (4 * (i 1).val) S) :
    Inv D m (i 0).val (4 * (i 1).val + 4) (fold (headS i I) 4 le_rfl S) ∧ Outs D i 4 (fold (headS i I) 4 le_rfl S)
      ∧ (fold (headS i I) 4 le_rfl S).xs = S.xs ∧ (fold (headS i I) 4 le_rfl S).hf = S.hf := by
  refine fold_ind (headS i I) (fun n U => Inv D m (i 0).val (4 * (i 1).val + n) U ∧ Outs D i n U ∧ U.xs = S.xs ∧ U.hf = S.hf) S
    ⟨q, ⟨fun b s j l h => absurd h (by omega), fun b s j l h => absurd h (by omega)⟩, rfl, rfl⟩ ?_ 4 le_rfl
  rintro n U ⟨q, o, hx, hf⟩
  obtain ⟨q', o', hx', hf'⟩ := head_facts D i I hI n m (by show 4 * (i 1).val + n.val < m; have := n.isLt; omega) U q o
  exact ⟨q', o', hx'.trans hx, hf'.trans hf⟩

end Cert.KernelIdeal.Own
-- ==== Proof.Ideal.Late.lean ====
module

public import proofs.«01_k».proof.Proof.Ideal.Grid

@[expose] public section
set_option maxRecDepth 1000000
noncomputable section
namespace Cert.KernelIdeal.Own
open Idealize.ShloMosaic Idealize.ShloMosaic.TcCoe Idealize.SL.Sem
open Cert Cert.KernelIdeal.Facts₀ Cert.KernelIdeal.Facts

attribute [local irreducible] put
variable (D : Given)

/-! ## The start, the weights and the two late outputs -/

theorem unit_at {s : Shape} (off : Fin s.rank → Nat) (h : ∀ a, off a + s.size a ≤ s.size a) (hz : ∀ a, off a = 0) (x : s.Idx) :
    (Rect.unit (s := s) off s.size h).toLoadRect.idx x = x := by
  funext a; apply Fin.ext
  show off a + 1 * (x a).val = (x a).val
  rw [hz a]; omega

theorem put_unit {s : Shape} {e : EltTy} (off : Fin s.rank → Nat) (h : ∀ a, off a + s.size a ≤ s.size a) (hz : ∀ a, off a = 0)
    (w : s.Idx → Elt Ideal e) (T : s.Idx → Elt Ideal e) (x : s.Idx) : put (Rect.unit (s := s) off s.size h) w T x = w x := by
  refine (congrArg (put (Rect.unit (s := s) off s.size h) w T) (unit_at off h hz x).symm).trans ?_
  exact put_in (Rect.unit (s := s) off s.size h) w T x

theorem cast_self {s : Shape} {α : Type} (v : s.Idx → α) (h : s.ShapeCasts s) (x : s.Idx) : shapeCast s v h x = v x :=
  congrArg v (Shape.reshapeEquiv_self _ x)

theorem zeros3 : ∀ a : Fin 3, (![0, 0, 0] : Fin 3 → Nat) a = 0 := by decide

/-- The input blocks hold what is given. -/
structure Fits (i : grid0.Coords) (I : In Ideal) : Prop where
  x : Rows D i I
  h0 : ∀ hd b l, I.h0 (ix3 hd b l) = D.H0 hd b l
  lam : ∀ hd l, rateEl (I.lam (ix3 hd 0 l)) = D.K hd l
  wa : ∀ hd r l, Fine (I.wa (ix3 hd r l))
  wx : ∀ hd r l, Fine (I.wx (ix3 hd r l))
  sa : ∀ hd l, Fine (I.sa (ix3 hd 0 l))
  sx : ∀ hd l, Fine (I.sx (ix3 hd 0 l))
  ba : ∀ hd l, Fine (I.ba (ix3 hd 0 l))
  bx : ∀ hd l, Fine (I.bx (ix3 hd 0 l))
  w : ∀ hd r c, prepEl (fun r => pairEl (fun l => I.wa (ix3 hd r l) * I.sa (ix3 hd 0 l)) (fun l => I.wx (ix3 hd r l) * I.sx (ix3 hd 0 l)) c)
          (pairEl (fun l => I.ba (ix3 hd 0 l)) (fun l => I.bx (ix3 hd 0 l)) c) r = D.W hd r c

theorem start_facts (i : grid0.Coords) (I : In Ideal) (f : Fits D i I) (hc : cond1 i = 1#1) (S : St Ideal) : Inv D 0 0 0 (startS i I S) := by
  unfold startS
  rw [if_pos hc]
  refine ⟨?_, fun _ _ _ h => absurd h (by omega), ?_, fun _ _ _ _ h => absurd h (by omega)⟩
  · intro hd l
    refine (put_unit (s := S48x1x128) (e := .f32) _ _ zeros3 _ S.k (ix3 hd 0 l)).trans ((rates_apply _ hd l).trans ?_)
    rw [← f.lam]
    exact congrArg (fun z => rateEl (I.lam z)) (unit_at (s := S48x1x128) _ _ zeros3 (ix3 hd 0 l))
  · intro hd b l
    refine (put_unit (s := S48x8x128) (e := .f32) _ _ zeros3 _ S.h (ix3 hd b l)).trans ?_
    rw [if_neg (by omega)]
    refine Eq.trans ?_ (f.h0 hd b l)
    refine (cast_self _ _ _).trans ((cast_self _ _ _).trans ?_)
    exact congrArg I.h0 (unit_at (s := S48x8x128) _ _ zeros3 (ix3 hd b l))

theorem loop_no : ∀ (g : Fin 12) (t : Fin k0_t1_loop.trips),
    (Scalar.indexCast (Scalar.addi (Scalar.muli (BitVec.ofNat 32 g.val) 4#32) (Scf.iv 0#32 1#32 t))).toNat = 4 * g.val + t.val := by
  decide +kernel

theorem off1_eq (i : grid0.Coords) (t : Fin k0_t1_loop.trips) : k0_off1 i t = ![4 * (i 1).val + t.val, 0, 0] := by
  funext a; unfold k0_off1; fin_cases a
  · exact loop_no (i 1) t
  · rfl
  · rfl
theorem off2_eq (i : grid0.Coords) (t : Fin k0_t1_loop.trips) : k0_off2 i t = ![4 * (i 1).val + t.val, 0, 0] := by
  funext a; unfold k0_off2; fin_cases a
  · exact loop_no (i 1) t
  · rfl
  · rfl
theorem off3_eq (i : grid0.Coords) (t : Fin k0_t1_loop.trips) : k0_off3 i t = ![4 * (i 1).val + t.val, 0, 0] := by
  funext a; unfold k0_off3; fin_cases a
  · exact loop_no (i 1) t
  · rfl
  · rfl

theorem trips_eq : k0_t1_loop.trips = 4 := by decide

/-- The head the `t`-th round of the preparation works on. -/
abbrev headT (i : grid0.Coords) (t : Fin k0_t1_loop.trips) : Fin 48 :=
  ⟨4 * (i 1).val + t.val, by have h : (i 1).val < 12 := (i 1).isLt; have h4 : t.val < 4 := lt_of_lt_of_eq t.isLt trips_eq; omega⟩

theorem rP1_at (i : grid0.Coords) (t : Fin k0_t1_loop.trips) (h2) (y : Fin 1) (r l : Fin 128) :
    (rP1 i t h2).toLoadRect.idx (ix3 y r l) = (ix3 (headT i t) r l : S48x128x128.Idx) := by
  funext a; apply Fin.ext
  show (k0_off1 i t) a + 1 * (ix3 (n0 := 1) (n1 := 128) (n2 := 128) y r l a).val = _
  rw [off1_eq]
  have := y.isLt
  fin_cases a
  · show 4 * (i 1).val + t.val + 1 * y.val = 4 * (i 1).val + t.val; omega
  · show 0 + 1 * r.val = r.val; omega
  · show 0 + 1 * l.val = l.val; omega

theorem rP2_at (i : grid0.Coords) (t : Fin k0_t1_loop.trips) (h2) (y z : Fin 1) (l : Fin 128) :
    (rP2 i t h2).toLoadRect.idx (ix3 y z l) = (ix3 (headT i t) 0 l : S48x1x128.Idx) := by
  funext a; apply Fin.ext
  show (k0_off2 i t) a + 1 * (ix3 (n0 := 1) (n1 := 1) (n2 := 128) y z l a).val = _
  rw [off2_eq]
  have := y.isLt; have := z.isLt
  fin_cases a
  · show 4 * (i 1).val + t.val + 1 * y.val = 4 * (i 1).val + t.val; omega
  · show 0 + 1 * z.val = 0; omega
  · show 0 + 1 * l.val = l.val; omega

theorem rP3_at (i : grid0.Coords) (t : Fin k0_t1_loop.trips) (h2) (y : Fin 1) (r : Fin 512) (l : Fin 256) :
    (rP3 i t h2).toLoadRect.idx (ix3 y r l) = (ix3 (headT i t) r l : S48x512x256.Idx) := by
  funext a; apply Fin.ext
  show (k0_off3 i t) a + 1 * (ix3 (n0 := 1) (n1 := 512) (n2 := 256) y r l a).val = _
  rw [off3_eq]
  have := y.isLt
  fin_cases a
  · show 4 * (i 1).val + t.val + 1 * y.val = 4 * (i 1).val + t.val; omega
  · show 0 + 1 * r.val = r.val; omega
  · show 0 + 1 * l.val = l.val; omega

theorem put_rP3 {e : EltTy} (i : grid0.Coords) (t : Fin k0_t1_loop.trips) (h2) (w : S1x512x256.Idx → Elt Ideal e) (T : S48x512x256.Idx → Elt Ideal e)
    (hd : Fin 48) (r : Fin 512) (c : Fin 256) {v : Elt Ideal e} (hv : w (ix3 0 r c) = v) :
    put (rP3 i t h2) w T (ix3 hd r c) = if hd = headT i t then v else T (ix3 hd r c) := by
  subst hv
  refine put_at (rP3 i t h2) w T _ _ (ix3 0 r c) (fun h => ?_) fun x hx => ?_
  · obtain rfl := h; exact rP3_at _ _ _ 0 r c
  · have h0 : (k0_off3 i t) 0 + 1 * (x 0).val = hd.val := congrArg (fun y : S48x512x256.Idx => (y 0).val) hx
    rw [off3_eq] at h0
    have h0' : 4 * (i 1).val + t.val + 1 * (x 0).val = hd.val := h0
    have a0 : (x 0).val < 1 := (x 0).isLt
    exact Fin.ext (show hd.val = 4 * (i 1).val + t.val by omega)

theorem weights_facts (i : grid0.Coords) (I : In Ideal) (f : Fits D i I) (h2 : k0_cond2 i = 1#1) (t d : ℕ) (S : St Ideal)
    (q : Inv D (4 * (i 1).val) t d S) : Inv D (4 * (i 1).val + 4) t d (weightsS i I S)
      ∧ (weightsS i I S).xs = S.xs ∧ (weightsS i I S).hf = S.hf := by
  unfold weightsS
  rw [dif_pos h2]
  suffices key : Inv D (4 * (i 1).val + k0_t1_loop.trips) t d (fold (prepS i I h2) k0_t1_loop.trips le_rfl S)
      ∧ (fold (prepS i I h2) k0_t1_loop.trips le_rfl S).xs = S.xs ∧ (fold (prepS i I h2) k0_t1_loop.trips le_rfl S).hf = S.hf from
    ⟨(congrArg (fun n => Inv D (4 * (i 1).val + n) t d (fold (prepS i I h2) k0_t1_loop.trips le_rfl S)) trips_eq).mp key.1, key.2⟩
  refine fold_ind (prepS i I h2) (fun n U => Inv D (4 * (i 1).val + n) t d U ∧ U.xs = S.xs ∧ U.hf = S.hf) S
    ⟨q, rfl, rfl⟩ ?_ k0_t1_loop.trips le_rfl
  rintro n U ⟨q, hx, hf⟩
  refine ⟨⟨q.k, fun hd r c hh => ?_, q.h, q.sc⟩, hx, hf⟩
  refine (put_rP3 (e := .bf16) i n h2 _ U.w hd r c (prepared_apply _ _ _ _ _ _ ?_ ?_ ?_ ?_ ?_ ?_ r c)).trans ?_
  · intro r l; rw [rP1_at]; exact f.wa _ r l
  · intro r l; rw [rP1_at]; exact f.wx _ r l
  · intro l; rw [rP2_at]; exact f.sa _ l
  · intro l; rw [rP2_at]; exact f.sx _ l
  · intro l; rw [rP2_at]; exact f.ba _ l
  · intro l; rw [rP2_at]; exact f.bx _ l
  by_cases hn : hd = headT i n
  · subst hn
    rw [if_pos rfl, ← f.w]
    simp only [rP1_at, rP2_at]
  · rw [if_neg hn]
    have hv : hd.val ≠ 4 * (i 1).val + n.val := fun h => hn (Fin.ext h)
    exact q.w hd r c (by omega)

theorem scales_facts (i : grid0.Coords) (S : St Ideal) (b : Fin 8) (s : Fin 64) (l : Fin 48) (h : k0_cond3 i = 1#1) :
    (scalesS i S).xs (ix3 b s l) = S.sc (ix3 b s ⟨l.val, by omega⟩) := by
  unfold scalesS
  rw [if_pos h]
  refine (put_unit (s := S8x64x48) (e := .f32) _ _ zeros3 _ S.xs (ix3 b s l)).trans ?_
  refine congrArg S.sc ?_
  funext a; apply Fin.ext
  fin_cases a
  · show 0 + 1 * b.val = b.val; omega
  · show 0 + 1 * s.val = s.val; omega
  · show 0 + 1 * l.val = l.val; omega

theorem final_facts (i : grid0.Coords) (S : St Ideal) (hd : Fin 48) (b : Fin 8) (l : Fin 128) (h : k0_cond4 i = 1#1) :
    (finalS i S).hf (ix3 hd b l) = S.h (ix3 hd b l) := by
  unfold finalS
  rw [if_pos h]
  refine (put_unit (s := S48x8x128) (e := .f32) _ _ zeros3 _ S.hf (ix3 hd b l)).trans ?_
  exact congrArg S.h (unit_at (s := S48x8x128) _ _ zeros3 (ix3 hd b l))

/-! ## One point -/

theorem cond1_iff (i : grid0.Coords) : cond1 i = 1#1 ↔ (i 0).val = 0 ∧ (i 1).val = 0 := by
  have h : ∀ (t : Fin 32) (g : Fin 12), Scalar.cmpi .ne (Scalar.extui (Scalar.andi (Scalar.cmpi .eq (BitVec.ofNat 32 t.val) 0#32)
    (Scalar.cmpi .eq (BitVec.ofNat 32 g.val) 0#32)) : BitVec 32) 0#32 = 1#1 ↔ t.val = 0 ∧ g.val = 0 := by decide +kernel
  exact h (i 0) (i 1)
theorem cond2_iff (i : grid0.Coords) : k0_cond2 i = 1#1 ↔ (i 0).val = 0 := by
  have h : ∀ (t : Fin 32), Scalar.cmpi .ne (Scalar.extui (Scalar.cmpi .eq (BitVec.ofNat 32 t.val) 0#32) : BitVec 32) 0#32 = 1#1 ↔ t.val = 0 := by decide +kernel
  exact h (i 0)
theorem cond3_iff (i : grid0.Coords) : k0_cond3 i = 1#1 ↔ (i 1).val = 11 := by
  have h : ∀ (t : Fin 12), Scalar.cmpi .ne (Scalar.extui (Scalar.cmpi .eq (BitVec.ofNat 32 t.val) 11#32) : BitVec 32) 0#32 = 1#1 ↔ t.val = 11 := by decide +kernel
  exact h (i 1)
theorem cond4_iff (i : grid0.Coords) : k0_cond4 i = 1#1 ↔ (i 0).val = 31 ∧ (i 1).val = 11 := by
  have h : ∀ (t : Fin 32) (g : Fin 12), Scalar.cmpi .ne (Scalar.extui (Scalar.andi (Scalar.cmpi .eq (BitVec.ofNat 32 t.val) 31#32)
    (Scalar.cmpi .eq (BitVec.ofNat 32 g.val) 11#32)) : BitVec 32) 0#32 = 1#1 ↔ t.val = 31 ∧ g.val = 11 := by decide +kernel
  exact h (i 0) (i 1)

theorem start_rest (i : grid0.Coords) (I : In Ideal) (S : St Ideal) : (startS i I S).xs = S.xs ∧ (startS i I S).hf = S.hf := by
  unfold startS
  split
  · exact ⟨rfl, rfl⟩
  · exact ⟨rfl, rfl⟩

theorem scales_rest (i : grid0.Coords) (S : St Ideal) : (scalesS i S).k = S.k ∧ (scalesS i S).w = S.w ∧ (scalesS i S).h = S.h ∧ (scalesS i S).sc = S.sc
    ∧ (scalesS i S).y = S.y ∧ (scalesS i S).xc = S.xc ∧ (scalesS i S).hf = S.hf ∧ (¬k0_cond3 i = 1#1 → (scalesS i S).xs = S.xs) := by
  unfold scalesS
  split
  · next h => exact ⟨rfl, rfl, rfl, rfl, rfl, rfl, rfl, fun hn => absurd h hn⟩
  · exact ⟨rfl, rfl, rfl, rfl, rfl, rfl, rfl, fun _ => rfl⟩

theorem final_rest (i : grid0.Coords) (S : St Ideal) : (finalS i S).k = S.k ∧ (finalS i S).w = S.w ∧ (finalS i S).h = S.h ∧ (finalS i S).sc = S.sc
    ∧ (finalS i S).y = S.y ∧ (finalS i S).xc = S.xc ∧ (finalS i S).xs = S.xs ∧ (¬k0_cond4 i = 1#1 → (finalS i S).hf = S.hf) := by
  unfold finalS
  split
  · next h => exact ⟨rfl, rfl, rfl, rfl, rfl, rfl, rfl, fun hn => absurd h hn⟩
  · exact ⟨rfl, rfl, rfl, rfl, rfl, rfl, rfl, fun _ => rfl⟩

theorem Inv.of_eq {D : Given} {m t d : ℕ} {S U : St Ideal} (q : Inv D m t d S) (hk : U.k = S.k) (hw : U.w = S.w) (hh : U.h = S.h) (hs : U.sc = S.sc) :
    Inv D m t d U :=
  ⟨fun hd l => by rw [hk]; exact q.k hd l, fun hd r c h => by rw [hw]; exact q.w hd r c h, fun hd b l => by rw [hh]; exact q.h hd b l,
    fun b s l hl h => by rw [hs]; exact q.sc b s l hl h⟩

/-- The heads whose weights are in place before a point, and after it. -/
abbrev wBefore (i : grid0.Coords) : ℕ := if (i 0).val = 0 then 4 * (i 1).val else 48
abbrev wAfter (i : grid0.Coords) : ℕ := if (i 0).val = 0 then 4 * (i 1).val + 4 else 48

/-- What a point leaves. -/
structure After (i : grid0.Coords) (S U : St Ideal) : Prop where
  inv : Inv D (wAfter i) (i 0).val (4 * (i 1).val + 4) U
  outs : Outs D i 4 U
  xs : (i 1).val = 11 → ∀ b s (l : Fin 48), U.xs (ix3 b s l) = sclR (D.X b (64 * (i 0).val + s.val) l)
  hf : (i 0).val = 31 → (i 1).val = 11 → ∀ hd b l, U.hf (ix3 hd b l) = D.H hd b l 2048
  xs_idle : (i 1).val ≠ 11 → U.xs = S.xs
  hf_idle : ¬((i 0).val = 31 ∧ (i 1).val = 11) → U.hf = S.hf

theorem body_facts (i : grid0.Coords) (I : In Ideal) (f : Fits D i I) (S : St Ideal)
    (hq : ((i 0).val = 0 ∧ (i 1).val = 0) ∨ Inv D (wBefore i) (i 0).val (4 * (i 1).val) S) : After D i S (bodyS i I S) := by
  have h12 : (i 1).val < 12 := (i 1).isLt
  obtain ⟨sx, sf⟩ := start_rest i I S
  have q1 : Inv D (wBefore i) (i 0).val (4 * (i 1).val) (startS i I S) := by
    by_cases h1 : cond1 i = 1#1
    · have e := (cond1_iff i).1 h1
      have := start_facts D i I f h1 S
      rw [wBefore, if_pos e.1, e.1, e.2]; exact this
    · have hS : startS i I S = S := by unfold startS; rw [if_neg h1]
      rw [hS]
      exact hq.resolve_left fun e => h1 ((cond1_iff i).2 e)
  unfold bodyS
  generalize startS i I S = S1 at q1 sx sf ⊢
  have q2 : Inv D (wAfter i) (i 0).val (4 * (i 1).val) (weightsS i I S1) ∧ (weightsS i I S1).xs = S1.xs ∧ (weightsS i I S1).hf = S1.hf := by
    by_cases h2 : k0_cond2 i = 1#1
    · have e := (cond2_iff i).1 h2
      rw [wBefore, if_pos e] at q1
      rw [wAfter, if_pos e]
      exact weights_facts D i I f h2 _ _ S1 q1
    · have hS : weightsS i I S1 = S1 := by unfold weightsS; rw [dif_neg h2]
      have e : ¬(i 0).val = 0 := fun e => h2 ((cond2_iff i).2 e)
      rw [wBefore, if_neg e] at q1
      rw [hS, wAfter, if_neg e]
      exact ⟨q1, rfl, rfl⟩
  obtain ⟨q2, wx, wf⟩ := q2
  generalize weightsS i I S1 = S2 at q2 wx wf ⊢
  obtain ⟨q3, o, hx, hf⟩ := heads_facts D i I f.x (wAfter i) (by unfold wAfter; split <;> omega) S2 q2
  generalize fold (headS i I) 4 le_rfl S2 = S3 at q3 o hx hf ⊢
  obtain ⟨ck, cw, ch, cs, cy, cc, cf, cx⟩ := scales_rest i S3
  have xsv := scales_facts i S3
  generalize scalesS i S3 = S4 at ck cw ch cs cy cc cf cx xsv ⊢
  obtain ⟨fk, fw, fh, fs, fy, fc, fx, ff⟩ := final_rest i S4
  have hfv := final_facts i S4
  generalize finalS i S4 = S5 at fk fw fh fs fy fc fx ff hfv ⊢
  refine ⟨q3.of_eq (fk.trans ck) (fw.trans cw) (fh.trans ch) (fs.trans cs), ⟨?_, ?_⟩, ?_, ?_, ?_, ?_⟩
  · intro b s j l hj; rw [fy, cy]; exact o.y b s j l hj
  · intro b s j l hj; rw [fc, cc]; exact o.xc b s j l hj
  · intro e b s l
    rw [fx, xsv b s l ((cond3_iff i).2 e)]
    exact q3.sc b s ⟨l.val, by omega⟩ l.isLt (by show l.val < _; omega)
  · intro e0 e1 hd b l
    rw [hfv hd b l ((cond4_iff i).2 ⟨e0, e1⟩), ch, q3.h, if_pos (by omega), e0]
  · intro e
    rw [fx, cx (fun h => e ((cond3_iff i).1 h)), hx, wx, sx]
  · intro e
    rw [ff (fun h => e ((cond4_iff i).1 h)), cf, hf, wf, sf]

/-- The scratch before the `n`-th point. -/
def Ready (n : ℕ) (S : St Ideal) : Prop :=
  n = 0 ∨ Inv D (if n / 12 = 0 then 4 * (n % 12) else 48) (n / 12) (4 * (n % 12)) S

theorem ready_next (i : grid0.Coords) (n : ℕ) (h0 : (i 0).val = n / 12) (h1 : (i 1).val = n % 12) (S U : St Ideal) (q : After D i S U) : Ready D (n + 1) U := by
  refine .inr ?_
  have h12 : n % 12 < 12 := Nat.mod_lt _ (by norm_num)
  have q := q.inv
  rw [wAfter, h0, h1] at q
  by_cases hg : n % 12 = 11
  · have e0 : (n + 1) / 12 = n / 12 + 1 := by omega
    have e1 : (n + 1) % 12 = 0 := by omega
    rw [e0, e1, if_neg (by omega)]
    have em : (if n / 12 = 0 then 4 * (n % 12) + 4 else 48) = 48 := by split <;> omega
    rw [em, hg] at q
    refine ⟨q.k, q.w, fun hd b l => ?_, fun _ _ _ _ h => absurd h (by omega)⟩
    rw [if_neg (by omega), q.h, if_pos (by omega)]
  · have e0 : (n + 1) / 12 = n / 12 := by omega
    have e1 : (n + 1) % 12 = n % 12 + 1 := by omega
    rw [e0, e1]
    exact q

end Cert.KernelIdeal.Own
-- ==== Proof.Ideal.Run.lean ====
module

public import proofs.«01_k».proof.Proof.Ideal.Ends
public import proofs.«01_k».proof.Proof.Ideal.Late
public import proofs.«01_k».proof.Proof.Gen.KernelIdeal.Points

@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Gen

local notation "𝕄" => MT nD τ sig Unit (Elt Ideal) ℕ (UR sig nD τ) ℕ
variable (m : (ℓ : Loc nD τ sig) → Buf (Elt Ideal) ℓ) (ρ : Dev nD → PrngReg)

/-! ## The run, with its outputs -/

theorem coords_at : ∀ t : Fin cfg0.N, (grid0.coords t 0).val = t.val / 12 ∧ (grid0.coords t 1).val = t.val % 12 := by decide +kernel

variable (D : Dev nD → Given)

/-- The column's place among the step's four heads, and its lane. -/
abbrev placeOf (c : Fin 512) : Fin 4 := ⟨c.val / 128, by omega⟩
abbrev laneOf (c : Fin 512) : Fin 128 := ⟨c.val % 128, Nat.mod_lt _ (by norm_num)⟩

theorem col_parts (c : Fin 512) : colJ (placeOf c) (laneOf c) = c := Fin.ext (by show 128 * (c.val / 128) + c.val % 128 = c.val; omega)

/-- The blocks a point leaves of the four outputs. -/
def yB (D : Given) (i : grid0.Coords) : S8x64x512.Idx → Elt Ideal .bf16 := fun x =>
  D.H (headAt i (placeOf (x 2))) (x 0) (laneOf (x 2)) (64 * (i 0).val + (x 1).val + 1)
def xcB (D : Given) (i : grid0.Coords) : S8x64x512.Idx → Elt Ideal .fp8e4m3 := fun x =>
  codeR (D.X (x 0) (64 * (i 0).val + (x 1).val) (headAt i (placeOf (x 2)))) (laneOf (x 2))
def xsB (D : Given) (i : grid0.Coords) : S8x64x48.Idx → Elt Ideal .f32 := fun x => sclR (D.X (x 0) (64 * (i 0).val + (x 1).val) (x 2))
def hfB (D : Given) : S48x8x128.Idx → Elt Ideal .f32 := fun x => D.H (x 0) (x 1) (x 2) 2048

theorem After.y_eq {D : Given} {i : grid0.Coords} {S U : St Ideal} (q : After D i S U) : U.y = yB D i := by
  funext x
  have e : x = ix3 (x 0) (x 1) (colJ (placeOf (x 2)) (laneOf (x 2))) := (eq_ix3 x).trans (congrArg (ix3 (x 0) (x 1)) (col_parts (x 2)).symm)
  exact (congrArg U.y e).trans (q.outs.y (x 0) (x 1) (placeOf (x 2)) (laneOf (x 2)) (placeOf (x 2)).isLt)

theorem After.xc_eq {D : Given} {i : grid0.Coords} {S U : St Ideal} (q : After D i S U) : U.xc = xcB D i := by
  funext x
  have e : x = ix3 (x 0) (x 1) (colJ (placeOf (x 2)) (laneOf (x 2))) := (eq_ix3 x).trans (congrArg (ix3 (x 0) (x 1)) (col_parts (x 2)).symm)
  exact (congrArg U.xc e).trans (q.outs.xc (x 0) (x 1) (placeOf (x 2)) (laneOf (x 2)) (placeOf (x 2)).isLt)

theorem After.xs_eq {D : Given} {i : grid0.Coords} {S U : St Ideal} (q : After D i S U) (h : (i 1).val = 11) : U.xs = xsB D i := by
  funext x
  exact (congrArg U.xs (eq_ix3 x)).trans (q.xs h (x 0) (x 1) (x 2))

theorem After.hf_eq {D : Given} {i : grid0.Coords} {S U : St Ideal} (q : After D i S U) (h : (i 0).val = 31 ∧ (i 1).val = 11) : U.hf = hfB D := by
  funext x
  exact (congrArg U.hf (eq_ix3 x)).trans (q.hf h.1 h.2 (x 0) (x 1) (x 2))

/-- The inputs' buffers at their blocks, the outputs' at what is computed, the scratch ready for the next point. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yB (D c) (grid0.coords t)
    | ⟨10, _⟩ => hfB (D c)
    | ⟨11, _⟩ => xcB (D c) (grid0.coords t)
    | ⟨12, _⟩ => xsB (D c) (grid0.coords t)
  Φ t := iprop((∃ S : St Ideal, ⌜Ready (D c) t.val S⌝ ∗ held c S) ∗ (∃ r, prngReg c r))
  q _ := fullShare
  owed _ := 0

theorem datV_A (c : Dev nD) (w : Fin cfg0.W) : (datV m D 0 c).A w = V m c (Pipeline.arrRef spec0 w) := by
  dsimp only [datV]

theorem foundV_0 (c : Dev nD) (t : Fin cfg0.N) (d) : (datV m D 0 c).before 0 t d = iblk m c 0 t :=
  before0_0_of m (datV m D 0 c) (datV_A m D c 0) (fun t => by dsimp only [datV]) t d
theorem foundV_1 (c : Dev nD) (t : Fin cfg0.N) (d) : (datV m D 0 c).before 1 t d = iblk m c 1 t :=
  before0_1_of m (datV m D 0 c) (datV_A m D c 1) (fun t => by dsimp only [datV]) t d
theorem foundV_2 (c : Dev nD) (t : Fin cfg0.N) (d) : (datV m D 0 c).before 2 t d = iblk m c 2 t :=
  before0_2_of m (datV m D 0 c) (datV_A m D c 2) (fun t => by dsimp only [datV]) t d
theorem foundV_3 (c : Dev nD) (t : Fin cfg0.N) (d) : (datV m D 0 c).before 3 t d = iblk m c 3 t :=
  before0_3_of m (datV m D 0 c) (datV_A m D c 3) (fun t => by dsimp only [datV]) t d
theorem foundV_4 (c : Dev nD) (t : Fin cfg0.N) (d) : (datV m D 0 c).before 4 t d = iblk m c 4 t :=
  before0_4_of m (datV m D 0 c) (datV_A m D c 4) (fun t => by dsimp only [datV]) t d
theorem foundV_5 (c : Dev nD) (t : Fin cfg0.N) (d) : (datV m D 0 c).before 5 t d = iblk m c 5 t :=
  before0_5_of m (datV m D 0 c) (datV_A m D c 5) (fun t => by dsimp only [datV]) t d
theorem foundV_6 (c : Dev nD) (t : Fin cfg0.N) (d) : (datV m D 0 c).before 6 t d = iblk m c 6 t :=
  before0_6_of m (datV m D 0 c) (datV_A m D c 6) (fun t => by dsimp only [datV]) t d
theorem foundV_7 (c : Dev nD) (t : Fin cfg0.N) (d) : (datV m D 0 c).before 7 t d = iblk m c 7 t :=
  before0_7_of m (datV m D 0 c) (datV_A m D c 7) (fun t => by dsimp only [datV]) t d
theorem foundV_8 (c : Dev nD) (t : Fin cfg0.N) (d) : (datV m D 0 c).before 8 t d = iblk m c 8 t :=
  before0_8_of m (datV m D 0 c) (datV_A m D c 8) (fun t => by dsimp only [datV]) t d

/-- What a window left idle holds, or what the point wrote into it. -/
def idled (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((datV m D 0 c).before w t d))
    | true => owns (c : Thread nD τ) ((cfg0.win w).stage (cfg0.slots t w)) fullShare ((datV m D 0 c).after w t)
  | false => owns (c : Thread nD τ) ((cfg0.win w).stage (cfg0.slots t w)) fullShare ((datV m D 0 c).after w t)

theorem idle_10 : ∀ t : Fin cfg0.N, cfg0.idle 10 (cfg0.grid.coords t) = !decide (t.val = 383) := by decide +kernel
theorem idle_12 : ∀ t : Fin cfg0.N, cfg0.idle 12 (cfg0.grid.coords t) = !decide (t.val % 12 = 11) := by decide +kernel

theorem idled_10 (c : Dev nD) (t : Fin cfg0.N) (d) (X : S48x8x128.Idx → Elt Ideal .f32)
    (h1 : t.val = 383 → X = hfB (D c)) (h2 : ¬t.val = 383 → X = (datV m D 0 c).before 10 t d) :
    owns (c : Thread nD τ) (st0_10 t) fullShare X ⊢ idled m D c t 10 := by
  unfold idled
  by_cases h : t.val = 383
  · have e : cfg0.idle 10 (cfg0.grid.coords t) = false := by rw [idle_10]; simp [h]
    rw [e, h1 h]; exact .rfl
  · have e : cfg0.idle 10 (cfg0.grid.coords t) = true := by rw [idle_10]; simp [h]
    have f : (cfg0.win 10).flush t = false := by
      have := (flush0_10 t).not.2 (by have : t.val < 384 := t.isLt; omega)
      simpa using this
    rw [e, f, h2 h]
    dsimp only
    iintro H; iexists _; iexact H

theorem idled_12 (c : Dev nD) (t : Fin cfg0.N) (d) (X : S8x64x48.Idx → Elt Ideal .f32)
    (h1 : t.val % 12 = 11 → X = xsB (D c) (grid0.coords t)) (h2 : ¬t.val % 12 = 11 → X = (datV m D 0 c).before 12 t d) :
    owns (c : Thread nD τ) (st0_12 t) fullShare X ⊢ idled m D c t 12 := by
  unfold idled
  by_cases h : t.val % 12 = 11
  · have e : cfg0.idle 12 (cfg0.grid.coords t) = false := by rw [idle_12]; simp [h]
    rw [e, h1 h]; exact .rfl
  · have e : cfg0.idle 12 (cfg0.grid.coords t) = true := by rw [idle_12]; simp [h]
    have f : (cfg0.win 12).flush t = false := by
      have := (flush0_12 t).not.2 h
      simpa using this
    rw [e, f, h2 h]
    dsimp only
    iintro H; iexists _; iexact H

def preV (c : Dev nD) (t : Fin cfg0.N) : sProp 𝕄 :=
  iprop(((∃ S : St Ideal, ⌜Ready (D c) t.val S⌝ ∗ held c S) ∗ (∃ r, prngReg c r)) ∗ (datV m D 0 c).owesAt () t.castSucc
    ∗ (∃ d, owns (c : Thread nD τ) (st0_0 t) fullShare ((datV m D 0 c).before 0 t d))
    ∗ (∃ d, owns (c : Thread nD τ) (st0_1 t) fullShare ((datV m D 0 c).before 1 t d))
    ∗ (∃ d, owns (c : Thread nD τ) (st0_2 t) fullShare ((datV m D 0 c).before 2 t d))
    ∗ (∃ d, owns (c : Thread nD τ) (st0_3 t) fullShare ((datV m D 0 c).before 3 t d))
    ∗ (∃ d, owns (c : Thread nD τ) (st0_4 t) fullShare ((datV m D 0 c).before 4 t d))
    ∗ (∃ d, owns (c : Thread nD τ) (st0_5 t) fullShare ((datV m D 0 c).before 5 t d))
    ∗ (∃ d, owns (c : Thread nD τ) (st0_6 t) fullShare ((datV m D 0 c).before 6 t d))
    ∗ (∃ d, owns (c : Thread nD τ) (st0_7 t) fullShare ((datV m D 0 c).before 7 t d))
    ∗ (∃ d, owns (c : Thread nD τ) (st0_8 t) fullShare ((datV m D 0 c).before 8 t d))
    ∗ (∃ d, owns (c : Thread nD τ) (st0_9 t) fullShare ((datV m D 0 c).before 9 t d))
    ∗ (∃ d, owns (c : Thread nD τ) (st0_10 t) fullShare ((datV m D 0 c).before 10 t d))
    ∗ (∃ d, owns (c : Thread nD τ) (st0_11 t) fullShare ((datV m D 0 c).before 11 t d))
    ∗ (∃ d, owns (c : Thread nD τ) (st0_12 t) fullShare ((datV m D 0 c).before 12 t d)))

def postV (c : Dev nD) (t : Fin cfg0.N) : sProp 𝕄 :=
  iprop(((∃ S : St Ideal, ⌜Ready (D c) (t.val + 1) S⌝ ∗ held c S) ∗ (∃ r, prngReg c r)) ∗ (datV m D 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (yB (D c) (grid0.coords t))
    ∗ idled m D c t 10
    ∗ owns (c : Thread nD τ) (st0_11 t) fullShare (xcB (D c) (grid0.coords t))
    ∗ idled m D c t 12)

theorem bodyV (hfit : ∀ c t, Fits (D c) (grid0.coords t) (inAt m c t)) (c : Dev nD) (t : Fin cfg0.N) :
    preV m D c t ⊢ wp Idealize.ShloMosaic.frame (wpE (defs₀ (F := Ideal)) Variants.none c none) Set.univ (bodyAt0 t) (fun _ => postV m D c t) := by
  unfold preV postV
  simp only [foundV_0, foundV_1, foundV_2, foundV_3, foundV_4, foundV_5, foundV_6, foundV_7, foundV_8]
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨e0, e1⟩ := coords_at t
  have hlt : t.val < 384 := t.isLt
  have hA : After (D c) (grid0.coords t) { S with y := (datV m D 0 c).before 9 t d9, hf := (datV m D 0 c).before 10 t d10, xc := (datV m D 0 c).before 11 t d11, xs := (datV m D 0 c).before 12 t d12 }
      (bodyS (grid0.coords t) (inAt m c t) { S with y := (datV m D 0 c).before 9 t d9, hf := (datV m D 0 c).before 10 t d10, xc := (datV m D 0 c).before 11 t d11, xs := (datV m D 0 c).before 12 t d12 }) := by
    refine body_facts (D c) _ _ (hfit c t) _ ?_
    rcases hS with h | q
    · exact .inl ⟨by rw [e0, h], by rw [e1, h]⟩
    · refine .inr (Inv.of_eq (S := S) ?_ rfl rfl rfl rfl)
      rw [wBefore, e0, e1]; exact q
  have hR := ready_next (D c) _ t.val e0 e1 _ _ hA
  have hY := hA.y_eq
  have hC := hA.xc_eq
  have h10a : t.val = 383 → (bodyS (grid0.coords t) (inAt m c t) { S with y := (datV m D 0 c).before 9 t d9, hf := (datV m D 0 c).before 10 t d10, xc := (datV m D 0 c).before 11 t d11, xs := (datV m D 0 c).before 12 t d12 }).hf = hfB (D c) :=
    fun h => hA.hf_eq ⟨by rw [e0]; omega, by rw [e1]; omega⟩
  have h10b := fun h : ¬t.val = 383 => hA.hf_idle (by rw [e0, e1]; omega)
  have h12a : t.val % 12 = 11 → (bodyS (grid0.coords t) (inAt m c t) { S with y := (datV m D 0 c).before 9 t d9, hf := (datV m D 0 c).before 10 t d10, xc := (datV m D 0 c).before 11 t d11, xs := (datV m D 0 c).before 12 t d12 }).xs = xsB (D c) (grid0.coords t) :=
    fun h => hA.xs_eq (by rw [e1]; exact h)
  have h12b := fun h : ¬t.val % 12 = 11 => hA.xs_idle (by rw [e1]; exact h)
  clear hA hS
  iapply (point_step m Variants.none c t { S with y := (datV m D 0 c).before 9 t d9, hf := (datV m D 0 c).before 10 t d10, xc := (datV m D 0 c).before 11 t d11, xs := (datV m D 0 c).before 12 t d12 } _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexists _
      isplitr
      · ipureintro; exact hR
      · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [← hY]; iexact H9
  isplitl [H10]
  · iapply (idled_10 m D c t d10 _ h10a h10b); iexact H10
  isplitl [H11]
  · rw [← hC]; iexact H11
  iapply (idled_12 m D c t d12 _ h12a h12b); iexact H12

theorem obligationV (hfit : ∀ c t, Fits (D c) (grid0.coords t) (inAt m c t)) (c : Dev nD) :
    BodyObligation (datV m D 0 c) (defs₀ (F := Ideal)) Variants.none () Set.univ := fun t => by
  rw [bigSep_W0, bigSep_W0, row]
  exact triple_restated (bodyV m D hfit c t) rfl .rfl fun _ => .rfl

end Cert.KernelIdeal.Own
-- ==== Proof.Ideal.Inputs.lean ====
module

public import proofs.«01_k».proof.Proof.Ideal.Run
public import Idealize.ShloMosaic.Lib.Pipeline.ValueKit

@[expose] public section
set_option maxRecDepth 16384
noncomputable section
namespace Cert.KernelIdeal.Own
open Idealize.ShloMosaic Idealize.ShloMosaic.TcCoe Idealize.ShloMosaic.Tactic
open Idealize.ShloMosaic.Pipeline (Dat RDat Cfg Window)
open Cert.KernelIdeal.Gen

variable (m : (ℓ : Loc nD τ sig) → Buf (Elt Ideal) ℓ)

/-! ## The rows, the weights and the states of a memory -/

/-- The column of a head's lane. -/
abbrev colC (h : Fin 48) (l : Fin 128) : Fin 6144 := ⟨128 * h.val + l.val, by omega⟩

/-- What the arguments give. -/
def givenOf (a0 : S8x2048x6144.Idx → EReal) (a1 : S8x6144.Idx → EReal) (a2 : S48x128x128.Idx → EReal) (a3 a4 : S48x128.Idx → EReal)
    (a5 : S48x128x128.Idx → EReal) (a6 a7 : S48x128.Idx → EReal) (a8 : S6144.Idx → EReal) : Given where
  X b n hd := fun l => if h : n < 2048 then a0 (ix3 b ⟨n, h⟩ (colC hd l)) else 0
  W hd r c := prepEl (fun r => pairEl (fun l => a2 (ix3 hd r l) * a3 (ix2 hd l)) (fun l => a5 (ix3 hd r l) * a6 (ix2 hd l)) c)
    (pairEl (fun l => a4 (ix2 hd l)) (fun l => a7 (ix2 hd l)) c) r
  K hd l := rateEl (a8 (ix1 (colC hd l)))
  H0 hd b l := a1 (ix2 b (colC hd l))

/-- What a memory gives. -/
def givenAt (c : Dev nD) : Given := givenOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8))

/-! ## What the region finds -/

theorem V_v0 (c : Dev nD) : V m c main_v0 = m ((c.tc : Thread nD τ).loc main_arg2) := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

theorem V_v3 (c : Dev nD) : V m c main_v3 = transpose S48x8x128 [1, 0, 2] (shapeCast S8x48x128 (m ((c.tc : Thread nD τ).loc main_arg1)) shapeCasts_S8x6144_S8x48x128) transposes_S8x48x128_S48x8x128_1_0_2 := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

theorem V_v4 (c : Dev nD) : V m c main_v4 = shapeCast S48x1x128 (m ((c.tc : Thread nD τ).loc main_arg3)) shapeCasts_S48x128_S48x1x128 := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

theorem V_v5 (c : Dev nD) : V m c main_v5 = shapeCast S48x1x128 (m ((c.tc : Thread nD τ).loc main_arg4)) shapeCasts_S48x128_S48x1x128 := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

theorem V_v6 (c : Dev nD) : V m c main_v6 = shapeCast S48x1x128 (m ((c.tc : Thread nD τ).loc main_arg6)) shapeCasts_S48x128_S48x1x128 := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

theorem V_v7 (c : Dev nD) : V m c main_v7 = shapeCast S48x1x128 (m ((c.tc : Thread nD τ).loc main_arg7)) shapeCasts_S48x128_S48x1x128 := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

theorem V_v8 (c : Dev nD) : V m c main_v8 = shapeCast S48x1x128 (m ((c.tc : Thread nD τ).loc main_arg8)) shapeCasts_S6144_S48x1x128 := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

theorem V_v1 (c : Dev nD) : V m c main_v1 = m ((c.tc : Thread nD τ).loc main_arg5) := by
  simp (disch := decide) only [V, V0, hostOps0, List.flatten_cons, List.flatten_nil, List.append_nil, StableHlo.after_cons, StableHlo.after_nil,
    StableHlo.reshape_result', StableHlo.unary_result', StableHlo.reshape_result_ne', StableHlo.unary_result_ne']
  rfl

/-- A vector per head, laid out with a unit axis. -/
theorem vec_apply (v : S48x128.Idx → EReal) (hd : Fin 48) (l : Fin 128) : shapeCast S48x1x128 v shapeCasts_S48x128_S48x1x128 (ix3 hd 0 l) = v (ix2 hd l) := by
  refine shapeCast_apply v _ _ _ ?_
  rw [rowMajor_val3 _ 128 128 rfl rfl, rowMajor_val2 _ 128 rfl]
  show hd.val * 128 + l.val = hd.val * 128 + 0 * 128 + l.val
  omega

/-- The rates, laid out by head. -/
theorem lam_apply (v : S6144.Idx → EReal) (hd : Fin 48) (l : Fin 128) : shapeCast S48x1x128 v shapeCasts_S6144_S48x1x128 (ix3 hd 0 l) = v (ix1 (colC hd l)) := by
  refine shapeCast_apply v _ _ _ ?_
  rw [rowMajor_val3 _ 128 128 rfl rfl, rowMajor_val1]
  show 128 * hd.val + l.val = hd.val * 128 + 0 * 128 + l.val
  omega

/-- The first state, laid out by head. -/
theorem first_apply (v : S8x6144.Idx → EReal) (hd : Fin 48) (b : Fin 8) (l : Fin 128) :
    transpose S48x8x128 [1, 0, 2] (shapeCast S8x48x128 v shapeCasts_S8x6144_S8x48x128) transposes_S8x48x128_S48x8x128_1_0_2 (ix3 hd b l) = v (ix2 b (colC hd l)) := by
  refine (transpose_apply _ _ _ _ (ix3 b hd l) fun a => ?_).trans ?_
  · fin_cases a <;> rfl
  refine shapeCast_apply v _ _ _ ?_
  rw [rowMajor_val3 _ 6144 128 rfl rfl, rowMajor_val2 _ 6144 rfl]
  show b.val * 6144 + (128 * hd.val + l.val) = b.val * 6144 + hd.val * 128 + l.val
  omega

theorem idx_0 : ∀ t : Fin cfg0.N, win0_0.index t = ![0, (grid0.coords t 0).val, (grid0.coords t 1).val] := by decide +kernel
theorem idx_1 : ∀ t : Fin cfg0.N, win0_1.index t = ![0, 0, 0] := by decide +kernel
theorem blk_1 (c : Dev nD) (t : Fin cfg0.N) : iblk m c 1 t = V m c main_v3 := by
  funext y
  have e0 : (((cfg0.win 1).blk t).view.emb y 0 : ℕ) = (y 0).val := by blk_simp [idx_1]
  have e1 : (((cfg0.win 1).blk t).view.emb y 1 : ℕ) = (y 1).val := by blk_simp [idx_1]
  have e2 : (((cfg0.win 1).blk t).view.emb y 2 : ℕ) = (y 2).val := by blk_simp [idx_1]
  show V m c main_v3 (((cfg0.win 1).blk t).view.emb y) = V m c main_v3 y
  exact congrArg _ (funext fun a => by fin_cases a; exacts [Fin.ext e0, Fin.ext e1, Fin.ext e2])

theorem idx_2 : ∀ t : Fin cfg0.N, win0_2.index t = ![0, 0, 0] := by decide +kernel
theorem blk_2 (c : Dev nD) (t : Fin cfg0.N) : iblk m c 2 t = V m c main_v0 := by
  funext y
  have e0 : (((cfg0.win 2).blk t).view.emb y 0 : ℕ) = (y 0).val := by blk_simp [idx_2]
  have e1 : (((cfg0.win 2).blk t).view.emb y 1 : ℕ) = (y 1).val := by blk_simp [idx_2]
  have e2 : (((cfg0.win 2).blk t).view.emb y 2 : ℕ) = (y 2).val := by blk_simp [idx_2]
  show V m c main_v0 (((cfg0.win 2).blk t).view.emb y) = V m c main_v0 y
  exact congrArg _ (funext fun a => by fin_cases a; exacts [Fin.ext e0, Fin.ext e1, Fin.ext e2])

theorem idx_3 : ∀ t : Fin cfg0.N, win0_3.index t = ![0, 0, 0] := by decide +kernel
theorem blk_3 (c : Dev nD) (t : Fin cfg0.N) : iblk m c 3 t = V m c main_v4 := by
  funext y
  have e0 : (((cfg0.win 3).blk t).view.emb y 0 : ℕ) = (y 0).val := by blk_simp [idx_3]
  have e1 : (((cfg0.win 3).blk t).view.emb y 1 : ℕ) = (y 1).val := by blk_simp [idx_3]
  have e2 : (((cfg0.win 3).blk t).view.emb y 2 : ℕ) = (y 2).val := by blk_simp [idx_3]
  show V m c main_v4 (((cfg0.win 3).blk t).view.emb y) = V m c main_v4 y
  exact congrArg _ (funext fun a => by fin_cases a; exacts [Fin.ext e0, Fin.ext e1, Fin.ext e2])

theorem idx_4 : ∀ t : Fin cfg0.N, win0_4.index t = ![0, 0, 0] := by decide +kernel
theorem blk_4 (c : Dev nD) (t : Fin cfg0.N) : iblk m c 4 t = V m c main_v5 := by
  funext y
  have e0 : (((cfg0.win 4).blk t).view.emb y 0 : ℕ) = (y 0).val := by blk_simp [idx_4]
  have e1 : (((cfg0.win 4).blk t).view.emb y 1 : ℕ) = (y 1).val := by blk_simp [idx_4]
  have e2 : (((cfg0.win 4).blk t).view.emb y 2 : ℕ) = (y 2).val := by blk_simp [idx_4]
  show V m c main_v5 (((cfg0.win 4).blk t).view.emb y) = V m c main_v5 y
  exact congrArg _ (funext fun a => by fin_cases a; exacts [Fin.ext e0, Fin.ext e1, Fin.ext e2])

theorem idx_5 : ∀ t : Fin cfg0.N, win0_5.index t = ![0, 0, 0] := by decide +kernel
theorem blk_5 (c : Dev nD) (t : Fin cfg0.N) : iblk m c 5 t = V m c main_v1 := by
  funext y
  have e0 : (((cfg0.win 5).blk t).view.emb y 0 : ℕ) = (y 0).val := by blk_simp [idx_5]
  have e1 : (((cfg0.win 5).blk t).view.emb y 1 : ℕ) = (y 1).val := by blk_simp [idx_5]
  have e2 : (((cfg0.win 5).blk t).view.emb y 2 : ℕ) = (y 2).val := by blk_simp [idx_5]
  show V m c main_v1 (((cfg0.win 5).blk t).view.emb y) = V m c main_v1 y
  exact congrArg _ (funext fun a => by fin_cases a; exacts [Fin.ext e0, Fin.ext e1, Fin.ext e2])

theorem idx_6 : ∀ t : Fin cfg0.N, win0_6.index t = ![0, 0, 0] := by decide +kernel
theorem blk_6 (c : Dev nD) (t : Fin cfg0.N) : iblk m c 6 t = V m c main_v6 := by
  funext y
  have e0 : (((cfg0.win 6).blk t).view.emb y 0 : ℕ) = (y 0).val := by blk_simp [idx_6]
  have e1 : (((cfg0.win 6).blk t).view.emb y 1 : ℕ) = (y 1).val := by blk_simp [idx_6]
  have e2 : (((cfg0.win 6).blk t).view.emb y 2 : ℕ) = (y 2).val := by blk_simp [idx_6]
  show V m c main_v6 (((cfg0.win 6).blk t).view.emb y) = V m c main_v6 y
  exact congrArg _ (funext fun a => by fin_cases a; exacts [Fin.ext e0, Fin.ext e1, Fin.ext e2])

theorem idx_7 : ∀ t : Fin cfg0.N, win0_7.index t = ![0, 0, 0] := by decide +kernel
theorem blk_7 (c : Dev nD) (t : Fin cfg0.N) : iblk m c 7 t = V m c main_v7 := by
  funext y
  have e0 : (((cfg0.win 7).blk t).view.emb y 0 : ℕ) = (y 0).val := by blk_simp [idx_7]
  have e1 : (((cfg0.win 7).blk t).view.emb y 1 : ℕ) = (y 1).val := by blk_simp [idx_7]
  have e2 : (((cfg0.win 7).blk t).view.emb y 2 : ℕ) = (y 2).val := by blk_simp [idx_7]
  show V m c main_v7 (((cfg0.win 7).blk t).view.emb y) = V m c main_v7 y
  exact congrArg _ (funext fun a => by fin_cases a; exacts [Fin.ext e0, Fin.ext e1, Fin.ext e2])

theorem idx_8 : ∀ t : Fin cfg0.N, win0_8.index t = ![0, 0, 0] := by decide +kernel
theorem blk_8 (c : Dev nD) (t : Fin cfg0.N) : iblk m c 8 t = V m c main_v8 := by
  funext y
  have e0 : (((cfg0.win 8).blk t).view.emb y 0 : ℕ) = (y 0).val := by blk_simp [idx_8]
  have e1 : (((cfg0.win 8).blk t).view.emb y 1 : ℕ) = (y 1).val := by blk_simp [idx_8]
  have e2 : (((cfg0.win 8).blk t).view.emb y 2 : ℕ) = (y 2).val := by blk_simp [idx_8]
  show V m c main_v8 (((cfg0.win 8).blk t).view.emb y) = V m c main_v8 y
  exact congrArg _ (funext fun a => by fin_cases a; exacts [Fin.ext e0, Fin.ext e1, Fin.ext e2])

theorem blk_0 (c : Dev nD) (t : Fin cfg0.N) (b : Fin 8) (s : Fin 64) (k : Fin 512) (n : Fin 2048) (d : Fin 6144)
    (hn : n.val = 64 * (grid0.coords t 0).val + s.val) (hd : d.val = 512 * (grid0.coords t 1).val + k.val) :
    iblk m c 0 t (ix3 b s k) = m ((c.tc : Thread nD τ).loc main_arg0) (ix3 b n d) := by
  have e0 : (((cfg0.win 0).blk t).view.emb (ix3 b s k) 0 : ℕ) = b.val := by blk_simp [idx_0]
  have e1 : (((cfg0.win 0).blk t).view.emb (ix3 b s k) 1 : ℕ) = n.val := by blk_simp [idx_0]; simp; omega
  have e2 : (((cfg0.win 0).blk t).view.emb (ix3 b s k) 2 : ℕ) = d.val := by blk_simp [idx_0]; simp; omega
  show V m c main_arg0 (((cfg0.win 0).blk t).view.emb (ix3 b s k)) = _
  rw [V_main_arg0]
  exact congrArg _ (funext fun a => by fin_cases a; exacts [Fin.ext e0, Fin.ext e1, Fin.ext e2])

/-- The weights, scales and biases are finite. -/
structure FineIn (c : Dev nD) : Prop where
  wa : ∀ hd r l, Fine (m ((c.tc : Thread nD τ).loc main_arg2) (ix3 hd r l))
  sa : ∀ hd l, Fine (m ((c.tc : Thread nD τ).loc main_arg3) (ix2 hd l))
  ba : ∀ hd l, Fine (m ((c.tc : Thread nD τ).loc main_arg4) (ix2 hd l))
  wx : ∀ hd r l, Fine (m ((c.tc : Thread nD τ).loc main_arg5) (ix3 hd r l))
  sx : ∀ hd l, Fine (m ((c.tc : Thread nD τ).loc main_arg6) (ix2 hd l))
  bx : ∀ hd l, Fine (m ((c.tc : Thread nD τ).loc main_arg7) (ix2 hd l))

/-- Each point's inputs are what the memory gives. -/
theorem fits_at (c : Dev nD) (q : FineIn m c) (t : Fin cfg0.N) : Fits (givenAt m c) (grid0.coords t) (inAt m c t) := by
  have h3 := fun hd l => (congrFun ((blk_3 m c t).trans (V_v4 m c)) (ix3 hd 0 l)).trans (vec_apply _ hd l)
  have h4 := fun hd l => (congrFun ((blk_4 m c t).trans (V_v5 m c)) (ix3 hd 0 l)).trans (vec_apply _ hd l)
  have h6 := fun hd l => (congrFun ((blk_6 m c t).trans (V_v6 m c)) (ix3 hd 0 l)).trans (vec_apply _ hd l)
  have h7 := fun hd l => (congrFun ((blk_7 m c t).trans (V_v7 m c)) (ix3 hd 0 l)).trans (vec_apply _ hd l)
  have h8 := fun hd l => (congrFun ((blk_8 m c t).trans (V_v8 m c)) (ix3 hd 0 l)).trans (lam_apply _ hd l)
  have h1 := fun hd b l => (congrFun ((blk_1 m c t).trans (V_v3 m c)) (ix3 hd b l)).trans (first_apply _ hd b l)
  have h2 := fun hd r l => congrFun ((blk_2 m c t).trans (V_v0 m c)) (ix3 hd r l)
  have h5 := fun hd r l => congrFun ((blk_5 m c t).trans (V_v1 m c)) (ix3 hd r l)
  refine { x := ?_, h0 := h1, lam := fun hd l => congrArg rateEl (h8 hd l), wa := fun hd r l => ?_, wx := fun hd r l => ?_, sa := fun hd l => ?_, sx := fun hd l => ?_, ba := fun hd l => ?_, bx := fun hd l => ?_, w := fun hd r k => ?_ }
  · intro b s j
    funext l
    have h0 : (grid0.coords t 0).val < 32 := (grid0.coords t 0).isLt
    have hn : 64 * (grid0.coords t 0).val + s.val < 2048 := by omega
    refine (blk_0 m c t b s (colJ j l) ⟨_, hn⟩ (colC (headAt (grid0.coords t) j) l) rfl ?_).trans ?_
    · show 128 * (4 * (grid0.coords t 1).val + j.val) + l.val = 512 * (grid0.coords t 1).val + (128 * j.val + l.val)
      omega
    · unfold givenAt givenOf
      dsimp only
      rw [dif_pos hn]
  · exact (congrArg Fine (h2 hd r l)).mpr (q.wa hd r l)
  · exact (congrArg Fine (h5 hd r l)).mpr (q.wx hd r l)
  · exact (congrArg Fine (h3 hd l)).mpr (q.sa hd l)
  · exact (congrArg Fine (h6 hd l)).mpr (q.sx hd l)
  · exact (congrArg Fine (h4 hd l)).mpr (q.ba hd l)
  · exact (congrArg Fine (h7 hd l)).mpr (q.bx hd l)
  · unfold givenAt givenOf
    dsimp only
    refine congrArg₂ (fun v b => prepEl v b r) (funext fun r => congrArg₂ (fun p q => pairEl p q k) (funext fun l => ?_) (funext fun l => ?_))
      (congrArg₂ (fun p q => pairEl p q k) (funext fun l => h4 hd l) (funext fun l => h7 hd l))
    · exact congrArg₂ (fun x y : EReal => x * y) (h2 hd r l) (h3 hd l)
    · exact congrArg₂ (fun x y : EReal => x * y) (h5 hd r l) (h6 hd l)

end Cert.KernelIdeal.Own
-- ==== Proof.Equal.lean ====
module

public import proofs.«01_k».proof.Proof.RefArrays
public import proofs.«01_k».proof.Proof.Ideal.Inputs

@[expose] public section
set_option maxRecDepth 16384
noncomputable section
namespace Cert.Equal
open Idealize.ShloMosaic
open Cert.KernelIdeal.Own (codeR sclR gateR decR drvR stateR clip decayEl roomEl driveEl rateEl prepEl pairEl gateEl gateEl_prep kDecay kFloor Fine Given givenOf colC)
open Cert.ReferenceIdeal.Own (refSp)
open Cert.Spec (Mag peak)

/-! ## The two ways of writing the recurrence agree over the extended reals -/

theorem b0 : Ideal.ofBits .f32 0x00000000#32 = 0 := by simp [Ideal.ofBits, Ideal.ieee]
theorem b1 : Ideal.ofBits .f32 0x3F800000#32 = ((1 : ℝ) : EReal) := by
  simp [Ideal.ofBits, Ideal.ieee]; rw [← EReal.coe_mul]; norm_num
theorem b2 : Ideal.ofBits .f32 0x40000000#32 = ((2 : ℝ) : EReal) := Cert.Spec.ctwo
theorem bm8 : Ideal.ofBits .f32 0xC1000000#32 = ((-8 : ℝ) : EReal) := by
  simp [Ideal.ofBits, Ideal.ieee]; norm_num [← EReal.coe_mul, ← EReal.coe_neg]
theorem bhi : Ideal.ofBits .f32 0x43E00000#32 = ((448 : ℝ) : EReal) := by
  simp [Ideal.ofBits, Ideal.ieee]; norm_num [← EReal.coe_mul, ← EReal.coe_neg]
theorem blo : Ideal.ofBits .f32 0xC3E00000#32 = ((-448 : ℝ) : EReal) := by
  simp [Ideal.ofBits, Ideal.ieee]; norm_num [← EReal.coe_mul, ← EReal.coe_neg]
theorem kDecay_eq : kDecay = (((-8) * (Real.log 2)⁻¹ : ℝ) : EReal) := by rfl
theorem kFloor_eq : kFloor = ⊥ := by rfl

/-- A clipped number is a real. -/
theorem clip_fine (x y : EReal) : Fine (clip x y) := by
  unfold clip
  rw [bhi, blo]
  have h1 : min ((448 : ℝ) : EReal) (max ((-448 : ℝ) : EReal) (x * y)) ≠ ⊤ := ne_top_of_le_ne_top (EReal.coe_ne_top 448) (min_le_left _ _)
  have h2 : min ((448 : ℝ) : EReal) (max ((-448 : ℝ) : EReal) (x * y)) ≠ ⊥ := by
    refine ne_bot_of_le_ne_bot (EReal.coe_ne_bot (-448)) (le_min ?_ (le_max_left _ _))
    exact EReal.coe_le_coe_iff.2 (by norm_num)
  exact ⟨_, (EReal.coe_toReal h1 h2).symm⟩

theorem sum_coe {n : ℕ} (f : Fin n → ℝ) : (∑ r, ((f r : ℝ) : EReal)) = ((∑ r, f r : ℝ) : EReal) := by
  induction n with
  | zero => simp
  | succ n ih => rw [Fin.sum_univ_succ, Fin.sum_univ_succ, EReal.coe_add, ih]

/-- The gate before the logistic: scaling each product, or the sum. -/
theorem gate_eq (q w : Fin 128 → EReal) (k s b : EReal) (hq : ∀ r, Fine (q r)) (hw : ∀ r, Fine (w r)) (hk : Fine k) (hs : Fine s) (hb : Fine b) :
    Fine ((∑ r, q r * k * (w r * s)) + b) ∧
    (∑ r, q r * k * (w r * s)) + b = (Ideal.ofBits .f32 0x00000000#32 + ∑ r, w r * q r) * k * s + b := by
  choose q' hq' using hq
  choose w' hw' using hw
  obtain ⟨k, rfl⟩ := hk
  obtain ⟨s, rfl⟩ := hs
  obtain ⟨b, rfl⟩ := hb
  simp only [hq', hw', b0, ← EReal.coe_mul, sum_coe, ← EReal.coe_add, zero_add]
  refine ⟨⟨_, rfl⟩, congrArg _ (congrArg (· + b) ?_)⟩
  rw [Finset.sum_mul, Finset.sum_mul]
  exact Finset.sum_congr rfl fun r _ => by ring

/-- The softplus, at least none. -/
theorem sp_nonneg (x : EReal) : 0 ≤ refSp x := by
  unfold refSp
  refine add_nonneg (le_max_right _ _) ?_
  generalize (0 - max (0 - x - 0) (-(0 - x - 0))) = e
  unfold Ideal.log1p
  induction e using EReal.rec with
  | bot => rw [Ideal.exp_bot, add_zero, ← EReal.coe_one, Ideal.log_coe, if_neg (by norm_num), Real.log_one, EReal.coe_zero]
  | top => rw [Ideal.exp_top, EReal.add_top_of_ne_bot (show (1 : EReal) ≠ ⊥ from EReal.coe_ne_bot 1)]; simp
  | coe r =>
    rw [Ideal.exp_coe, ← EReal.coe_one, ← EReal.coe_add, Ideal.log_coe, if_neg (by have := Real.exp_pos r; linarith)]
    exact EReal.coe_nonneg.2 (Real.log_nonneg (by have := Real.exp_pos r; linarith))

theorem rate_eq (x : EReal) : rateEl x = refSp x * kDecay := by
  unfold rateEl refSp
  have h : max (0 - x - 0) (-(0 - x - 0)) = max x (-x) := by
    rw [sub_zero, zero_sub, neg_neg, max_comm]
  rw [h]

/-- The decay, and the drive of it: both programs' forms, for a real gate and a softplus at least none. -/
theorem decay_drive (z y x sp : EReal) (hz : Fine z) (hy : Fine y) (hx : Fine x) (hsp : 0 ≤ sp) :
    decayEl z (sp * kDecay) = Ideal.exp (Ideal.ofBits .f32 0xC1000000#32 * Ideal.logistic z * sp) ∧
    driveEl y (decayEl z (sp * kDecay)) x =
      Ideal.sqrt (Ideal.ofBits .f32 0x00000000#32 - (Ideal.exp (Ideal.ofBits .f32 0x40000000#32 * (Ideal.ofBits .f32 0xC1000000#32 * Ideal.logistic z * sp)) - Ideal.ofBits .f32 0x3F800000#32))
        * Ideal.logistic y * x := by
  obtain ⟨z, rfl⟩ := hz
  obtain ⟨y, rfl⟩ := hy
  obtain ⟨x, rfl⟩ := hx
  have hr : (0 : ℝ) < (1 + Real.exp (-z))⁻¹ := by have := Real.exp_pos (-z); positivity
  have hl : 0 < Real.log 2 := Real.log_pos (by norm_num)
  unfold driveEl decayEl roomEl
  rw [kFloor_eq, max_eq_left bot_le, kDecay_eq, Ideal.logistic_coe, Ideal.logistic_coe, b0, b1, b2, bm8]
  generalize (1 + Real.exp (-z))⁻¹ = r at hr
  generalize (1 + Real.exp (-y))⁻¹ = g
  induction sp using EReal.rec with
  | bot => exact absurd hsp (by simp)
  | top =>
    have e1 : (⊤ : EReal) * (((-8) * (Real.log 2)⁻¹ : ℝ) : EReal) = ⊥ := EReal.top_mul_coe_of_neg (by have := inv_pos.2 hl; linarith)
    have e2 : ((-8 : ℝ) : EReal) * (r : EReal) * ⊤ = ⊥ := by
      rw [← EReal.coe_mul]; exact EReal.coe_mul_top_of_neg (by linarith)
    rw [e1, e2, EReal.coe_mul_bot_of_pos hr, EReal.coe_mul_bot_of_pos (by norm_num), Ideal.exp2_bot, Ideal.exp_bot]
    refine ⟨rfl, ?_⟩
    rw [mul_zero, sub_zero, zero_sub, zero_sub, neg_neg, ← EReal.coe_one, Ideal.rsqrt_coe, Ideal.sqrt_coe, if_neg (by norm_num), if_neg (by norm_num), if_neg (by norm_num)]
    simp only [← EReal.coe_mul]
    refine congrArg _ ?_
    rw [Real.sqrt_one]; ring
  | coe sp =>
    have hs : 0 ≤ sp := EReal.coe_nonneg.1 hsp
    have ea : Real.rpow 2 (r * (sp * ((-8) * (Real.log 2)⁻¹))) = Real.exp (-8 * r * sp) := by
      show (2 : ℝ) ^ (r * (sp * ((-8) * (Real.log 2)⁻¹))) = _
      rw [Real.rpow_def_of_pos (by norm_num)]
      refine congrArg _ ?_
      field_simp
    have eb : Real.exp (2 * (-8 * r * sp)) = Real.exp (-8 * r * sp) * Real.exp (-8 * r * sp) := by
      rw [← Real.exp_add]; refine congrArg _ ?_; ring
    have h1 : Real.exp (-8 * r * sp) ≤ 1 := Real.exp_le_one_iff.2 (by have := mul_nonneg hr.le hs; linarith)
    have h0 := Real.exp_pos (-8 * r * sp)
    simp only [← EReal.coe_mul, Ideal.exp2_coe, Ideal.exp_coe, ea, eb]
    refine ⟨trivial, ?_⟩
    generalize Real.exp (-8 * r * sp) = a at h0 h1
    have hm : 0 ≤ 1 - a * a := by nlinarith
    have em : 0 - (a * a - 1) = 1 - a * a := by ring
    rw [← EReal.coe_one, ← EReal.coe_zero, ← EReal.coe_sub, ← EReal.coe_sub, ← EReal.coe_sub, em]
    generalize 1 - a * a = M at hm
    rw [Ideal.rsqrt_coe, Ideal.sqrt_coe, if_neg (not_lt.2 hm), if_neg (not_lt.2 hm)]
    by_cases h : M = 0
    · rw [if_pos h, h]; simp
    · rw [if_neg h]
      simp only [← EReal.coe_mul]
      refine congrArg _ ?_
      have hq : M * (Real.sqrt M)⁻¹ = Real.sqrt M := by
        rw [← div_eq_mul_inv, Real.div_sqrt]
      rw [hq]; ring

/-! ## Rows of the arguments -/

theorem mag_fine (x : EReal) (h : Mag (max x (-x))) : Fine x := by
  induction x using EReal.rec with
  | coe r => exact ⟨r, rfl⟩
  | bot => obtain h | ⟨r, h, _⟩ := h <;> simp at h
  | top => obtain h | ⟨r, h, _⟩ := h <;> simp at h

section Rows
open Cert.KernelIdeal (S8x2048x6144 S8x6144 S48x128x128 S48x128 S6144)
open Cert.ReferenceIdeal.Own (refZ refLa refA refU headOf laneOf colOf)
open Cert.ReferenceIdeal.Gen (k0_pay4 k0_pay5 k0_pay6 k0_pay7)

variable (a0 : S8x2048x6144.Idx → EReal) (a1 : S8x6144.Idx → EReal) (a2 : S48x128x128.Idx → EReal) (a3 a4 : S48x128.Idx → EReal)
    (a5 : S48x128x128.Idx → EReal) (a6 a7 : S48x128.Idx → EReal) (a8 : S6144.Idx → EReal)

/-- One row of one head. -/
abbrev rowOf (b : Fin 8) (n : Fin 2048) (h : Fin 48) : Fin 128 → EReal := fun l => a0 (ix3 b n (colC h l))

theorem X_eq (b : Fin 8) (n : Fin 2048) (h : Fin 48) : (givenOf a0 a1 a2 a3 a4 a5 a6 a7 a8).X b n.val h = rowOf a0 b n h := by
  funext l
  exact dif_pos n.isLt

/-- Every number of `x` is none, or of a magnitude the exponent field has room for. -/
def MagIn : Prop := ∀ i, Mag (max (a0 i) (-(a0 i)))

theorem pay4_row (b : Fin 8) (n : Fin 2048) (h : Fin 48) : k0_pay4 (F := Ideal) a0 (ix3 b n h) = Cert.Spec.expo (peak (rowOf a0 b n h)) :=
  Cert.ReferenceIdeal.Own.pay4_apply a0 b n h

variable (hx : MagIn a0)
include hx

theorem row_scale (b : Fin 8) (n : Fin 2048) (h : Fin 48) :
    Fine (sclR (rowOf a0 b n h)) ∧ sclR (rowOf a0 b n h) = k0_pay6 (F := Ideal) a0 (ix3 b n h) := by
  obtain ⟨k, h1, h2, h3, h4⟩ := Cert.Spec.quant (peak (rowOf a0 b n h)) (Cert.Spec.peak_mag _ fun l => hx _)
  refine ⟨⟨_, h1⟩, ?_⟩
  rw [Cert.ReferenceIdeal.Own.pay6_apply, pay4_row, h3]
  exact h1

theorem row_code (b : Fin 8) (n : Fin 2048) (h : Fin 48) (l : Fin 128) :
    codeR (rowOf a0 b n h) l = k0_pay5 (F := Ideal) a0 (ix4 b n h l) := by
  obtain ⟨k, h1, h2, h3, h4⟩ := Cert.Spec.quant (peak (rowOf a0 b n h)) (Cert.Spec.peak_mag _ fun l => hx _)
  rw [Cert.ReferenceIdeal.Own.pay5_apply, pay4_row, h4]
  exact congrArg (clip (a0 (ix3 b n (colC h l)))) h2

/-- A gate of a row: both programs' value before the logistic. -/
theorem row_gate (w : S48x128x128.Idx → EReal) (s t : S48x128.Idx → EReal) (hw : ∀ i, Fine (w i)) (hs : ∀ i, Fine (s i)) (ht : ∀ i, Fine (t i))
    (b : Fin 8) (n : Fin 2048) (h : Fin 48) (l : Fin 128) :
    Fine (gateR (rowOf a0 b n h) (prepEl (fun r => w (ix3 h r l) * s (ix2 h l)) (t (ix2 h l)))) ∧
    gateR (rowOf a0 b n h) (prepEl (fun r => w (ix3 h r l) * s (ix2 h l)) (t (ix2 h l))) = refZ (k0_pay5 (F := Ideal) a0) (k0_pay6 (F := Ideal) a0) w s t b n h l := by
  unfold gateR
  rw [gateEl_prep]
  have e := gate_eq (fun r => codeR (rowOf a0 b n h) r) (fun r => w (ix3 h r l)) (sclR (rowOf a0 b n h)) (s (ix2 h l)) (t (ix2 h l))
    (fun r => clip_fine _ _) (fun r => hw _) (row_scale a0 hx b n h).1 (hs _) (ht _)
  refine ⟨e.1, e.2.trans ?_⟩
  unfold refZ
  rw [(row_scale a0 hx b n h).2]
  simp only [row_code a0 hx b n h]

theorem W_lo (h : Fin 48) (l : Fin 128) : (fun r => (givenOf a0 a1 a2 a3 a4 a5 a6 a7 a8).W h r ⟨l.val, by omega⟩) = prepEl (fun r => a2 (ix3 h r l) * a3 (ix2 h l)) (a4 (ix2 h l)) := by
  funext r
  simp only [givenOf, pairEl, dif_pos l.isLt]

theorem W_hi (h : Fin 48) (l : Fin 128) : (fun r => (givenOf a0 a1 a2 a3 a4 a5 a6 a7 a8).W h r ⟨128 + l.val, by omega⟩) = prepEl (fun r => a5 (ix3 h r l) * a6 (ix2 h l)) (a7 (ix2 h l)) := by
  funext r
  have hn : ¬ 128 + l.val < 128 := by omega
  have hl : (⟨128 + l.val - 128, by omega⟩ : Fin 128) = l := Fin.ext (by show 128 + l.val - 128 = l.val; omega)
  simp only [givenOf, pairEl, dif_neg hn, hl]

variable (h2 : ∀ i, Fine (a2 i)) (h3 : ∀ i, Fine (a3 i)) (h4 : ∀ i, Fine (a4 i)) (h5 : ∀ i, Fine (a5 i)) (h6 : ∀ i, Fine (a6 i)) (h7 : ∀ i, Fine (a7 i))
include h2 h3 h4 h5 h6 h7

theorem row_step (b : Fin 8) (n : Fin 2048) (h : Fin 48) (l : Fin 128) (d : Fin 6144) (hd : d = colC h l) :
    decR (rowOf a0 b n h) ((givenOf a0 a1 a2 a3 a4 a5 a6 a7 a8).W h) ((givenOf a0 a1 a2 a3 a4 a5 a6 a7 a8).K h) l = refA a0 a2 a3 a4 a8 (ix3 b n d) ∧
    drvR (rowOf a0 b n h) ((givenOf a0 a1 a2 a3 a4 a5 a6 a7 a8).W h) ((givenOf a0 a1 a2 a3 a4 a5 a6 a7 a8).K h) l = refU a0 a2 a3 a4 a5 a6 a7 a8 (ix3 b n d) := by
  have eh : headOf d = h := by subst hd; exact Fin.ext (by show (128 * h.val + l.val) / 128 = h.val; omega)
  have el : laneOf d = l := by subst hd; exact Fin.ext (by show (128 * h.val + l.val) % 128 = l.val; omega)
  have g1 := row_gate a0 hx a2 a3 a4 h2 h3 h4 b n h l
  have g2 := row_gate a0 hx a5 a6 a7 h5 h6 h7 b n h l
  have ek : (givenOf a0 a1 a2 a3 a4 a5 a6 a7 a8).K h l = refSp (a8 (ix1 d)) * kDecay := by
    rw [hd, ← rate_eq]; rfl
  have key := decay_drive _ _ (a0 (ix3 b n d)) _ g1.1 g2.1 (mag_fine _ (hx _)) (sp_nonneg (a8 (ix1 d)))
  unfold drvR decR
  rw [W_lo a0 a1 a2 a3 a4 a5 a6 a7 a8 hx, W_hi a0 a1 a2 a3 a4 a5 a6 a7 a8 hx, ek]
  rw [Cert.ReferenceIdeal.Own.refA_apply, Cert.ReferenceIdeal.Own.refU_apply]
  unfold refLa
  rw [eh, el, ← g1.2, ← g2.2]
  refine ⟨key.1, ?_⟩
  rw [show rowOf a0 b n h l = a0 (ix3 b n d) from by rw [hd]]
  exact key.2

/-- The states of the two programs, step by step. -/
theorem states (b : Fin 8) (h : Fin 48) (l : Fin 128) (d : Fin 6144) (hd : d = colC h l) : ∀ n : ℕ, n ≤ 2048 →
    (givenOf a0 a1 a2 a3 a4 a5 a6 a7 a8).H h b l n = Cert.ReferenceIdeal.Own.scan (refA a0 a2 a3 a4 a8) (refU a0 a2 a3 a4 a5 a6 a7 a8) a1 b d n := by
  intro n
  induction n with
  | zero => intro _; rw [hd]; rfl
  | succ n ih =>
    intro hn
    have s := row_step a0 a1 a2 a3 a4 a5 a6 a7 a8 hx h2 h3 h4 h5 h6 h7 b ⟨n, hn⟩ h l d hd
    have ex := X_eq a0 a1 a2 a3 a4 a5 a6 a7 a8 b ⟨n, hn⟩ h
    rw [Cert.KernelIdeal.Own.Given.H_succ, show (givenOf a0 a1 a2 a3 a4 a5 a6 a7 a8).X b n h = _ from ex, s.1, s.2, ih (by omega)]
    rw [Cert.ReferenceIdeal.Own.scan, dif_pos (show n < 2048 from hn)]

end Rows

end Cert.Equal
-- ==== Proof.Ordinary.lean ====
module

public import proofs.«01_k».proof.Proof.Equal
public import proofs.«01_k».proof.Pre_ordinary_inputs

@[expose] public section
set_option maxRecDepth 16384
noncomputable section
namespace Cert.Equal
open Idealize.ShloMosaic
open Cert.KernelIdeal.Own (Fine)
open Cert.Spec (Mag)

/-! ## What the precondition says of the arguments -/

theorem le_of_cmp (a b : EReal) (h : Ideal.cmp .ole a b = 1#1) : a ≤ b := by
  by_contra hc
  simp [Ideal.cmp, hc] at h

theorem ge_of_cmp (a b : EReal) (h : Ideal.cmp .oge a b = 1#1) : b ≤ a := by
  by_contra hc
  simp [Ideal.cmp, hc] at h

theorem eq_of_cmp (a b : EReal) (h : Ideal.cmp .oeq a b = 1#1) : a = b := by
  by_contra hc
  simp [Ideal.cmp, hc] at h

theorem bits_or : ∀ a b c : BitVec 1, IntOp.andi (IntOp.ori a b) c = 1#1 → (a = 1#1 ∨ b = 1#1) ∧ c = 1#1 := by decide

theorem cbig : Ideal.ofBits .f32 0x7F7F0000#32 = ((255 * (2 : ℝ) ^ (120 : ℤ) : ℝ) : EReal) := by
  simp [Ideal.ofBits, Ideal.ieee, -EReal.coe_mul]; norm_num
theorem csmall : Ideal.ofBits .f32 0x04E00000#32 = ((7 * (2 : ℝ) ^ (-120 : ℤ) : ℝ) : EReal) := by
  simp [Ideal.ofBits, Ideal.ieee, -EReal.coe_mul]; norm_num
theorem clast : ∃ r : ℝ, Ideal.ofBits .f32 0x7F7FFFFF#32 = r := by
  simp [Ideal.ofBits, Ideal.ieee, -EReal.coe_mul]

theorem mag_of (x : EReal)
    (h : IntOp.andi (IntOp.ori (Ideal.cmp .oeq (max x (-x)) (Ideal.ofBits .f32 0x00000000#32)) (Ideal.cmp .oge (max x (-x)) (Ideal.ofBits .f32 0x04E00000#32)))
      (Ideal.cmp .ole (max x (-x)) (Ideal.ofBits .f32 0x7F7F0000#32)) = 1#1) : Mag (max x (-x)) := by
  obtain ⟨h1, h2⟩ := bits_or _ _ _ h
  have h2 := le_of_cmp _ _ h2
  rw [cbig] at h2
  rcases h1 with h1 | h1
  · exact .inl ((eq_of_cmp _ _ h1).trans b0)
  · have h1 := ge_of_cmp _ _ h1
    rw [csmall] at h1
    refine .inr ⟨(max x (-x)).toReal, (EReal.coe_toReal ?_ ?_).symm, ?_⟩
    · exact ne_top_of_le_ne_top (EReal.coe_ne_top _) h2
    · exact ne_bot_of_le_ne_bot (EReal.coe_ne_bot _) h1
    · have e : ((max x (-x)).toReal : EReal) = max x (-x) := EReal.coe_toReal (ne_top_of_le_ne_top (EReal.coe_ne_top _) h2) (ne_bot_of_le_ne_bot (EReal.coe_ne_bot _) h1)
      rw [← e] at h1 h2
      refine ⟨EReal.coe_le_coe_iff.1 h1, lt_of_le_of_lt (EReal.coe_le_coe_iff.1 h2) ?_⟩
      norm_num

theorem fine_of (x : EReal) (h : Ideal.cmp .ole (max x (-x)) (Ideal.ofBits .f32 0x7F7FFFFF#32) = 1#1) : Fine x := by
  have h := le_of_cmp _ _ h
  obtain ⟨r, hr⟩ := clast
  rw [hr] at h
  induction x using EReal.rec with
  | coe r => exact ⟨r, rfl⟩
  | bot => simp at h
  | top => simp at h

section
open Cert.Pre_ordinary_inputs
variable [Cert.Pre_ordinary_inputs.Facts] (a0 : S8x2048x6144.Idx → EReal) (a1 : S8x6144.Idx → EReal) (a2 : S48x128x128.Idx → EReal) (a3 a4 : S48x128.Idx → EReal)
    (a5 : S48x128x128.Idx → EReal) (a6 a7 : S48x128.Idx → EReal) (a8 : S6144.Idx → EReal)

theorem pre_0 (h : (fn (F := Ideal) a0 a1 a2 a3 a4 a5 a6 a7 a8).1 = fun _ => 1#1) : MagIn a0 := fun i => mag_of _ (congrFun h i)
theorem pre_2 (h : (fn (F := Ideal) a0 a1 a2 a3 a4 a5 a6 a7 a8).2.1 = fun _ => 1#1) (i : S48x128x128.Idx) : Fine (a2 i) := fine_of _ (congrFun h i)
theorem pre_3 (h : (fn (F := Ideal) a0 a1 a2 a3 a4 a5 a6 a7 a8).2.2.1 = fun _ => 1#1) (i : S48x128.Idx) : Fine (a3 i) := fine_of _ (congrFun h i)
theorem pre_4 (h : (fn (F := Ideal) a0 a1 a2 a3 a4 a5 a6 a7 a8).2.2.2.1 = fun _ => 1#1) (i : S48x128.Idx) : Fine (a4 i) := fine_of _ (congrFun h i)
theorem pre_5 (h : (fn (F := Ideal) a0 a1 a2 a3 a4 a5 a6 a7 a8).2.2.2.2.1 = fun _ => 1#1) (i : S48x128x128.Idx) : Fine (a5 i) := fine_of _ (congrFun h i)
theorem pre_6 (h : (fn (F := Ideal) a0 a1 a2 a3 a4 a5 a6 a7 a8).2.2.2.2.2.1 = fun _ => 1#1) (i : S48x128.Idx) : Fine (a6 i) := fine_of _ (congrFun h i)
theorem pre_7 (h : (fn (F := Ideal) a0 a1 a2 a3 a4 a5 a6 a7 a8).2.2.2.2.2.2 = fun _ => 1#1) (i : S48x128.Idx) : Fine (a7 i) := fine_of _ (congrFun h i)
end

end Cert.Equal
-- ==== Proof.Ideal.Arrays.lean ====
module

public import proofs.«01_k».proof.Proof.Ideal.Run
public import Idealize.ShloMosaic.Lib.Pipeline.ValueKit

@[expose] public section
set_option maxRecDepth 16384
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Gen

local notation "𝕄" => MT nD τ sig Unit (Elt Ideal) ℕ (UR sig nD τ) ℕ
variable (m : (ℓ : Loc nD τ sig) → Buf (Elt Ideal) ℓ) (ρ : Dev nD → PrngReg)
variable (D : Dev nD → Given)

/-! ## The arrays the run leaves -/

theorem idx_9 : ∀ t : Fin cfg0.N, win0_9.index t = ![0, (grid0.coords t 0).val, (grid0.coords t 1).val] := by decide +kernel
theorem idx_11 : ∀ t : Fin cfg0.N, win0_11.index t = ![0, (grid0.coords t 0).val, (grid0.coords t 1).val] := by decide +kernel
theorem idx_12 : ∀ t : Fin cfg0.N, win0_12.index t = ![0, (grid0.coords t 0).val, 0] := by decide +kernel

/-- The head and the lane of a column of the whole row. -/
abbrev headC (d : Fin 6144) : Fin 48 := ⟨d.val / 128, by omega⟩
abbrev laneC (d : Fin 6144) : Fin 128 := ⟨d.val % 128, Nat.mod_lt _ (by norm_num)⟩

/-- The four results, as functions of the rows. -/
def yG (D : Given) : S8x2048x6144.Idx → Elt Ideal .bf16 := fun x => D.H (headC (x 2)) (x 0) (laneC (x 2)) ((x 1).val + 1)
def xcG (D : Given) : S8x2048x6144.Idx → Elt Ideal .fp8e4m3 := fun x => codeR (D.X (x 0) (x 1).val (headC (x 2))) (laneC (x 2))
def xsG (D : Given) : S8x2048x48.Idx → Elt Ideal .f32 := fun x => sclR (D.X (x 0) (x 1).val (x 2))
def hfG (D : Given) : S8x6144.Idx → Elt Ideal .f32 := fun x => D.H (headC (x 1)) (x 0) (laneC (x 1)) 2048

theorem place_eq (i : grid0.Coords) (y2 : Fin 512) (x2 : Fin 6144) (h : x2.val = 512 * (i 1).val + y2.val) :
    headAt i (placeOf y2) = headC x2 ∧ laneOf y2 = laneC x2 := by
  refine ⟨Fin.ext ?_, Fin.ext ?_⟩
  · show 4 * (i 1).val + y2.val / 128 = x2.val / 128
    omega
  · show y2.val % 128 = x2.val % 128
    omega

theorem y_place (D : Given) (i : grid0.Coords) (y : S8x64x512.Idx) (x : S8x2048x6144.Idx) (h0 : x 0 = y 0) (h1 : (x 1).val = 64 * (i 0).val + (y 1).val)
    (h2 : (x 2).val = 512 * (i 1).val + (y 2).val) : yB D i y = yG D x := by
  unfold yB yG
  rw [(place_eq i _ _ h2).1, (place_eq i _ _ h2).2, h1, h0]

theorem xc_place (D : Given) (i : grid0.Coords) (y : S8x64x512.Idx) (x : S8x2048x6144.Idx) (h0 : x 0 = y 0) (h1 : (x 1).val = 64 * (i 0).val + (y 1).val)
    (h2 : (x 2).val = 512 * (i 1).val + (y 2).val) : xcB D i y = xcG D x := by
  unfold xcB xcG
  rw [(place_eq i _ _ h2).1, (place_eq i _ _ h2).2, h1, h0]

theorem xs_place (D : Given) (i : grid0.Coords) (y : S8x64x48.Idx) (x : S8x2048x48.Idx) (h0 : x 0 = y 0) (h1 : (x 1).val = 64 * (i 0).val + (y 1).val)
    (h2 : x 2 = y 2) : xsB D i y = xsG D x := by
  unfold xsB xsG
  rw [h1, h0, h2]

theorem arr_9 (c : Dev nD) : (datV m D 0 c).arrAt 9 cfg0.N = yG (D c) := by
  refine (datV m D 0 c).arrAt_eq_of_covers 9 _ (by decide +kernel) fun t hf y => ?_
  have e0 : (((cfg0.win 9).blk t).view.emb y 0 : ℕ) = (y 0).val := by blk_simp [idx_9]
  have e1 : (((cfg0.win 9).blk t).view.emb y 1 : ℕ) = 64 * (grid0.coords t 0).val + (y 1).val := by blk_simp [idx_9]; simp; try omega
  have e2 : (((cfg0.win 9).blk t).view.emb y 2 : ℕ) = 512 * (grid0.coords t 1).val + (y 2).val := by blk_simp [idx_9]; simp; try omega
  blk_simp
  exact y_place (D c) (grid0.coords t) y _ (Fin.ext e0) e1 e2

theorem arr_11 (c : Dev nD) : (datV m D 0 c).arrAt 11 cfg0.N = xcG (D c) := by
  refine (datV m D 0 c).arrAt_eq_of_covers 11 _ (by decide +kernel) fun t hf y => ?_
  have e0 : (((cfg0.win 11).blk t).view.emb y 0 : ℕ) = (y 0).val := by blk_simp [idx_11]
  have e1 : (((cfg0.win 11).blk t).view.emb y 1 : ℕ) = 64 * (grid0.coords t 0).val + (y 1).val := by blk_simp [idx_11]; simp; try omega
  have e2 : (((cfg0.win 11).blk t).view.emb y 2 : ℕ) = 512 * (grid0.coords t 1).val + (y 2).val := by blk_simp [idx_11]; simp; try omega
  blk_simp
  exact xc_place (D c) (grid0.coords t) y _ (Fin.ext e0) e1 e2

theorem arr_12 (c : Dev nD) : (datV m D 0 c).arrAt 12 cfg0.N = xsG (D c) := by
  refine (datV m D 0 c).arrAt_eq_of_covers 12 _ (by decide +kernel) fun t hf y => ?_
  have e0 : (((cfg0.win 12).blk t).view.emb y 0 : ℕ) = (y 0).val := by blk_simp [idx_12]
  have e1 : (((cfg0.win 12).blk t).view.emb y 1 : ℕ) = 64 * (grid0.coords t 0).val + (y 1).val := by blk_simp [idx_12]; simp; try omega
  have e2 : (((cfg0.win 12).blk t).view.emb y 2 : ℕ) = (y 2).val := by blk_simp [idx_12]
  blk_simp
  exact xs_place (D c) (grid0.coords t) y _ (Fin.ext e0) e1 (Fin.ext e2)

theorem arr_10 (c : Dev nD) : (datV m D 0 c).arrAt 10 cfg0.N = hfB (D c) := by
  refine (datV m D 0 c).arrAt_eq_of_after_last 10 ⟨383, by decide⟩ (by decide +kernel) _ fun j => ?_
  rfl

/-- The final state, after the host has laid it out by batch and column. -/
theorem tail_11 (c : Dev nD) : Pipeline.afterTail₀ cfgs (datV m D) 0 (V0 m) [hostOps1] c main_v11 = hfG (D c) := by
  have e : Pipeline.afterTail₀ cfgs (datV m D) 0 (V0 m) [hostOps1] c main_v11 = shapeCast S8x6144 (transpose S8x48x128 [1, 0, 2] ((datV m D 0 c).arrAt 10 cfg0.N) transposes_S48x8x128_S8x48x128_1_0_2) shapeCasts_S8x48x128_S8x6144 := by
    unfold Pipeline.afterTail₀
    simp only [hostOps1, List.flatten_cons, List.flatten_nil, List.append_nil, StableHlo.after_cons, StableHlo.after_nil, StableHlo.reshape_result', StableHlo.unary_result']
    exact congrArg (fun v => shapeCast S8x6144 (transpose S8x48x128 [1, 0, 2] v transposes_S48x8x128_S8x48x128_1_0_2) shapeCasts_S8x48x128_S8x6144)
      (Pipeline.withArrays_arr spec0 (by decide) c (V0 m c) (fun w => (datV m D 0 c).arrAt w cfg0.N) 10)
  rw [e, arr_10]
  funext x
  refine (shapeCast_apply _ _ _ (ix3 (x 0) (headC (x 1)) (laneC (x 1))) ?_).trans ?_
  · rw [rowMajor_val3 _ 6144 128 rfl rfl, rowMajor_val2 _ 6144 rfl]
    show (x 0).val * 6144 + (x 1).val / 128 * 128 + (x 1).val % 128 = (x 0).val * 6144 + (x 1).val
    omega
  · refine transpose_apply _ _ _ _ (ix3 (headC (x 1)) (x 0) (laneC (x 1))) fun a => ?_
    fin_cases a <;> rfl

set_option backward.isDefEq.respectTransparency.types false in
set_option maxHeartbeats 800000 in
/-- Every run of the program ends with the four results at their values and the arguments as they were. -/
theorem run_values (hfit : ∀ c t, Fits (D c) (grid0.coords t) (inAt m c t)) :
    θ_run defs (onTc (τ := τ) (main (F := Ideal))) ⟨m, fun _ => 0, ρ⟩ (fun r => ∀ c : Dev nD,
      r.2.mem ((c.tc : Thread nD τ).loc main_v9_0) = (datV m D 0 c).arrAt 9 cfg0.N
      ∧ r.2.mem ((c.tc : Thread nD τ).loc main_v11) = Pipeline.afterTail₀ cfgs (datV m D) 0 (V0 m) [hostOps1] c main_v11
      ∧ r.2.mem ((c.tc : Thread nD τ).loc main_v9_2) = (datV m D 0 c).arrAt 11 cfg0.N
      ∧ r.2.mem ((c.tc : Thread nD τ).loc main_v9_3) = (datV m D 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_frame_around_track (Q' := _) cfgs (datV m D) (0 : Fin 1) launch0 defs₀ Variants.none m ρ main
    (hbody := fun c => (obligationV m D hfit c).loose) (hshare := fun c => (datV m D 0 c).share_full fun _ => rfl)
    (howed := fun _ _ => rfl) (V₀ := V0 m) (opss := [hostOps1]) (hsub := sfx_sub) (hfresh := sfx_fresh) (hkeep := sfx_keeps)
    (hmain := hmain m Variants.none) (hA := datV_A m D)
    (hin := fun c => (rest_held c).trans (by
      show _ ⊢ iprop((∃ S : St Ideal, ⌜Ready (D c) 0 S⌝ ∗ held c S) ∗ (∃ r, prngReg c r))
      iintro ⟨⟨%S, HS⟩, Hg⟩
      isplitl [HS]
      · iexists S
        isplitr
        · ipureintro; exact .inl rfl
        · iexact HS
      iexact Hg))
    (hout := fun c => (show iprop((∃ S : St Ideal, ⌜Ready (D c) _ S⌝ ∗ held c S) ∗ (∃ r, prngReg c r)) ⊢ iprop((∃ S : St Ideal, held c S) ∗ (∃ r, prngReg c r)) from by
      iintro ⟨⟨%S, _, HS⟩, Hg⟩
      isplitl [HS]
      · iexists S; iexact HS
      iexact Hg).trans (held_rest c))
    (hQ' := fun r h c => by
      have hr : ∀ b ∈ Pipeline.restRefs sig spec0, r.2.mem ((c.tc : Thread nD τ).loc b) = Pipeline.afterTail₀ cfgs (datV m D) 0 (V0 m) [hostOps1] c b := (h.1 c).2
      have h0 := (h.1 c).1 0
      rw [Dat.arrAt_in _ 0 rfl] at h0
      exact ⟨(h.1 c).1 9, hr main_v11 (Pipeline.mem_restRefs_of main_v11 (by decide) (by decide)), (h.1 c).1 11, (h.1 c).1 12, h0.trans (V_main_arg0 m c),
        (hr main_arg1 (Pipeline.mem_restRefs_of main_arg1 (by decide) (by decide))).trans (W_main_arg1 m (datV m D) c),
        (hr main_arg2 (Pipeline.mem_restRefs_of main_arg2 (by decide) (by decide))).trans (W_main_arg2 m (datV m D) c),
        (hr main_arg3 (Pipeline.mem_restRefs_of main_arg3 (by decide) (by decide))).trans (W_main_arg3 m (datV m D) c),
        (hr main_arg4 (Pipeline.mem_restRefs_of main_arg4 (by decide) (by decide))).trans (W_main_arg4 m (datV m D) c),
        (hr main_arg5 (Pipeline.mem_restRefs_of main_arg5 (by decide) (by decide))).trans (W_main_arg5 m (datV m D) c),
        (hr main_arg6 (Pipeline.mem_restRefs_of main_arg6 (by decide) (by decide))).trans (W_main_arg6 m (datV m D) c),
        (hr main_arg7 (Pipeline.mem_restRefs_of main_arg7 (by decide) (by decide))).trans (W_main_arg7 m (datV m D) c),
        (hr main_arg8 (Pipeline.mem_restRefs_of main_arg8 (by decide) (by decide))).trans (W_main_arg8 m (datV m D) c)⟩)

end Cert.KernelIdeal.Own
-- ==== Proof.Value.lean ====
module

public import proofs.«01_k».proof.Defs
public import proofs.«01_k».proof.Proof.Ordinary
public import proofs.«01_k».proof.Proof.Ideal.Arrays

@[expose] public section
set_option maxRecDepth 16384
noncomputable section
namespace Cert.Equal
open Idealize.ShloMosaic Idealize.ShloMosaic.TcCoe Idealize.SL.Sem
open Cert.KernelIdeal.Own (Fine Given givenOf givenAt colC headC laneC yG hfG xcG xsG FineIn fits_at run_values arr_9 arr_11 arr_12 tail_11)
open Cert.ReferenceIdeal.Own (refA refU ryG rhG rcG rsG)

/-! ## Both programs end with the same four results -/

/-- The shape relations the precondition takes. -/
theorem preFacts : Cert.Pre_ordinary_inputs.Facts where
  bitsLt_bf16_f32 := by decide
  bcast_S_S8x2048x6144 := by decide
  bcast_S_S48x128x128 := by decide
  bcast_S_S48x128 := by decide

theorem col_back (d : Fin 6144) : d = colC (headC d) (laneC d) := Fin.ext (by show d.val = 128 * (d.val / 128) + d.val % 128; omega)

section
open Cert.KernelIdeal (S8x2048x6144 S8x6144 S48x128x128 S48x128 S6144 S8x2048x48)
open Cert.ReferenceIdeal.Gen (k0_pay6 k0_pay7)
variable (a0 : S8x2048x6144.Idx → EReal) (a1 : S8x6144.Idx → EReal) (a2 : S48x128x128.Idx → EReal) (a3 a4 : S48x128.Idx → EReal)
    (a5 : S48x128x128.Idx → EReal) (a6 a7 : S48x128.Idx → EReal) (a8 : S6144.Idx → EReal)
  (hx : MagIn a0) (h2 : ∀ i, Fine (a2 i)) (h3 : ∀ i, Fine (a3 i)) (h4 : ∀ i, Fine (a4 i)) (h5 : ∀ i, Fine (a5 i)) (h6 : ∀ i, Fine (a6 i)) (h7 : ∀ i, Fine (a7 i))
include hx

theorem codes_eq : xcG (givenOf a0 a1 a2 a3 a4 a5 a6 a7 a8) = k0_pay7 (F := Ideal) a0 := by
  funext x
  have e := X_eq a0 a1 a2 a3 a4 a5 a6 a7 a8 (x 0) (x 1) (headC (x 2))
  refine (congrArg (fun r => Cert.KernelIdeal.Own.codeR r (laneC (x 2))) e).trans ?_
  refine (row_code a0 hx (x 0) (x 1) (headC (x 2)) (laneC (x 2))).trans ?_
  rw [eq_ix3 x]
  exact (Cert.ReferenceIdeal.Own.pay7_apply a0 _ _ _).symm

theorem scales_eq : xsG (givenOf a0 a1 a2 a3 a4 a5 a6 a7 a8) = k0_pay6 (F := Ideal) a0 := by
  funext x
  have e := X_eq a0 a1 a2 a3 a4 a5 a6 a7 a8 (x 0) (x 1) (x 2)
  refine (congrArg Cert.KernelIdeal.Own.sclR e).trans ?_
  refine (row_scale a0 hx (x 0) (x 1) (x 2)).2.trans ?_
  exact congrArg _ (eq_ix3 x).symm

include h2 h3 h4 h5 h6 h7

theorem y_eq : yG (givenOf a0 a1 a2 a3 a4 a5 a6 a7 a8) = fun x => Cert.ReferenceIdeal.Own.scan (refA a0 a2 a3 a4 a8) (refU a0 a2 a3 a4 a5 a6 a7 a8) a1 (x 0) (x 2) ((x 1).val + 1) := by
  funext x
  exact states a0 a1 a2 a3 a4 a5 a6 a7 a8 hx h2 h3 h4 h5 h6 h7 (x 0) (headC (x 2)) (laneC (x 2)) (x 2) (col_back _) _ (x 1).isLt

theorem hf_eq : hfG (givenOf a0 a1 a2 a3 a4 a5 a6 a7 a8) = fun x => Cert.ReferenceIdeal.Own.scan (refA a0 a2 a3 a4 a8) (refU a0 a2 a3 a4 a5 a6 a7 a8) a1 (x 0) (x 1) 2048 := by
  funext x
  exact states a0 a1 a2 a3 a4 a5 a6 a7 a8 hx h2 h3 h4 h5 h6 h7 (x 0) (headC (x 1)) (laneC (x 1)) (x 1) (col_back _) _ le_rfl
end

theorem algebraic : algebraic_KernelIdeal_ReferenceIdeal_pre_ordinary_inputs (hKernelIdeal := Cert.KernelIdeal.Gen.facts)
    (hReferenceIdeal := Cert.ReferenceIdeal.Gen.facts) (hPre_ordinary_inputs := preFacts) := by
  intro m g m' g' hpre hargs
  haveI := preFacts
  have hx : ∀ c : Dev Cert.KernelIdeal.nD, MagIn (m ((c.tc : Thread Cert.KernelIdeal.nD Cert.KernelIdeal.τ).loc Cert.KernelIdeal.main_arg0)) := fun (c : Dev Cert.KernelIdeal.nD) => pre_0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).1
  have h2 : ∀ (c : Dev Cert.KernelIdeal.nD) i, Fine ((m ((c.tc : Thread Cert.KernelIdeal.nD Cert.KernelIdeal.τ).loc Cert.KernelIdeal.main_arg2)) i) := fun (c : Dev Cert.KernelIdeal.nD) => pre_2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.1
  have h3 : ∀ (c : Dev Cert.KernelIdeal.nD) i, Fine ((m ((c.tc : Thread Cert.KernelIdeal.nD Cert.KernelIdeal.τ).loc Cert.KernelIdeal.main_arg3)) i) := fun (c : Dev Cert.KernelIdeal.nD) => pre_3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.1
  have h4 : ∀ (c : Dev Cert.KernelIdeal.nD) i, Fine ((m ((c.tc : Thread Cert.KernelIdeal.nD Cert.KernelIdeal.τ).loc Cert.KernelIdeal.main_arg4)) i) := fun (c : Dev Cert.KernelIdeal.nD) => pre_4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.1
  have h5 : ∀ (c : Dev Cert.KernelIdeal.nD) i, Fine ((m ((c.tc : Thread Cert.KernelIdeal.nD Cert.KernelIdeal.τ).loc Cert.KernelIdeal.main_arg5)) i) := fun (c : Dev Cert.KernelIdeal.nD) => pre_5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.2.1
  have h6 : ∀ (c : Dev Cert.KernelIdeal.nD) i, Fine ((m ((c.tc : Thread Cert.KernelIdeal.nD Cert.KernelIdeal.τ).loc Cert.KernelIdeal.main_arg6)) i) := fun (c : Dev Cert.KernelIdeal.nD) => pre_6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.2.2.1
  have h7 : ∀ (c : Dev Cert.KernelIdeal.nD) i, Fine ((m ((c.tc : Thread Cert.KernelIdeal.nD Cert.KernelIdeal.τ).loc Cert.KernelIdeal.main_arg7)) i) := fun (c : Dev Cert.KernelIdeal.nD) => pre_7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.2.2.2
  refine ⟨fun c => yG (givenAt m c), fun c => hfG (givenAt m c), fun c => xcG (givenAt m c), fun c => xsG (givenAt m c), ?_, ?_⟩
  · refine θ_run_mono (run_values m g (fun c => givenAt m c) fun c t => fits_at m c ⟨fun _ _ _ => h2 c _, fun _ _ => h3 c _, fun _ _ => h4 c _, fun _ _ _ => h5 c _, fun _ _ => h6 c _, fun _ _ => h7 c _⟩ t) fun r hr c => ?_
    obtain ⟨q0, q1, q2, q3, rest⟩ := hr c
    exact ⟨q0.trans (arr_9 m _ c), q1.trans (tail_11 m _ c), q2.trans (arr_11 m _ c), q3.trans (arr_12 m _ c), rest⟩
  · refine θ_run_mono (Cert.ReferenceIdeal.Value.run_blocks (F := Ideal) m' g') fun r hr c => ?_
    obtain ⟨q0, q1, q2, q3, rest⟩ := hr c
    obtain ⟨e0, e1, e2, e3, e4, e5, e6, e7, e8⟩ := hargs c
    refine ⟨q0.trans ((Cert.ReferenceIdeal.Own.arr_9 m' c).trans ?_), q1.trans ((Cert.ReferenceIdeal.Own.arr_10 m' c).trans ?_), q2.trans ((Cert.ReferenceIdeal.Own.arr_11 m' c).trans ?_), q3.trans ((Cert.ReferenceIdeal.Own.arr_12 m' c).trans ?_), rest⟩
    · unfold ryG
      rw [e0, e1, e2, e3, e4, e5, e6, e7, e8]
      exact (y_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hx c) (h2 c) (h3 c) (h4 c) (h5 c) (h6 c) (h7 c)).symm
    · unfold rhG
      rw [e0, e1, e2, e3, e4, e5, e6, e7, e8]
      exact (hf_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hx c) (h2 c) (h3 c) (h4 c) (h5 c) (h6 c) (h7 c)).symm
    · unfold rcG
      rw [e0]
      exact (codes_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hx c)).symm
    · unfold rsG
      rw [e0]
      exact (scales_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hx c)).symm

end Cert.Equal
-- ==== Proof.lean ====
module

public import proofs.«01_k».proof.Defs
public import proofs.«01_k».proof.Proof.Ends
public import proofs.«01_k».proof.Proof.Ideal.Ends
public import proofs.«01_k».proof.Proof.Gen.ReferenceIdeal.Frame
public import proofs.«01_k».proof.Proof.Gen.ReferenceIdeal.Value
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Equal.preFacts,
    fun m ρ _ => Cert.Kernel.Own.frame m ρ,
    fun m ρ _ => Cert.KernelIdeal.Own.frame m ρ,
    fun m ρ _ => Cert.KernelIdeal.Own.frame m ρ,
    fun m ρ _ => Cert.ReferenceIdeal.Gen.frame m ρ,
    fun m ρ _ => Cert.ReferenceIdeal.Gen.frame m ρ,
    ⟨IdealRules.named_const.statement _ _ _ _ _ rfl, IdealRules.named_const.statement _ _ _ _ _ rfl⟩,
    Cert.Equal.algebraic⟩

end Cert.Proof

end
